-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_scores [hPre_finite_scores : Cert.Pre_finite_scores.Facts] (m : (ℓ : Loc Cert.WindowIdeal.nD Cert.WindowIdeal.τ Cert.WindowIdeal.sig) → Buf (Elt Ideal) ℓ) : Prop :=
  ∀ c : Dev Cert.WindowIdeal.nD,
    (Cert.Pre_finite_scores.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_scores [hPre_finite_scores : Cert.Pre_finite_scores.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_scores.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowIdeal_pre_finite_scores [hWindowIdeal : Cert.WindowIdeal.Facts] [hPre_finite_scores : Cert.Pre_finite_scores.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_scores m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2))
      ∧ r.2.sem = fun _ => 0)

def quiescent_WindowRefIdeal_pre_finite_scores [hWindowRefIdeal : Cert.WindowRefIdeal.Facts] [hPre_finite_scores : Cert.Pre_finite_scores.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_scores m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2))
      ∧ r.2.sem = fun _ => 0)

def preserves_Kernel_KernelIdeal : Prop :=
  IdealRules.bf16_pair.BufferStatement Cert.KernelIdeal.S8192x2x2048 Cert.KernelIdeal.S8192x1x2048
  ∧ IdealRules.bf16_pair.BufferStatement Cert.KernelIdeal.S512x2x2048 Cert.KernelIdeal.S512x1x2048
  ∧ IdealRules.named_const.Statement Cert.KernelIdeal.κ "s" .f32 0x3DB504F3#32 (((Real.sqrt 128)⁻¹ : ℝ) : EReal)
  ∧ IdealRules.bf16_pair.PackStatement Cert.KernelIdeal.S256x2048
  ∧ IdealRules.bf16_pair.Statement Cert.KernelIdeal.S256x2x2048 Cert.KernelIdeal.S256x1x2048
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v26)) (v1 : (c : Dev Cert.InProjIdeal.nD) → Buf (Elt Ideal) ((c.tc : Thread Cert.InProjIdeal.nD Cert.InProjIdeal.τ).loc Cert.InProjIdeal.main_v27)) (v2 : (c : Dev Cert.InProjIdeal.nD) → Buf (Elt Ideal) ((c.tc : Thread Cert.InProjIdeal.nD Cert.InProjIdeal.τ).loc Cert.InProjIdeal.main_v29)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v26) = v0 c
          ∧ r.2.mem ((c.tc : Thread Cert.InProjIdeal.nD Cert.InProjIdeal.τ).loc Cert.InProjIdeal.main_v27) = v1 c
          ∧ r.2.mem ((c.tc : Thread Cert.InProjIdeal.nD Cert.InProjIdeal.τ).loc Cert.InProjIdeal.main_v29) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v104) = v0 c
          ∧ r.2.mem ((c.tc : Thread Cert.InProjRefIdeal.nD Cert.InProjRefIdeal.τ).loc Cert.InProjRefIdeal.main_v106) = v1 c
          ∧ r.2.mem ((c.tc : Thread Cert.InProjRefIdeal.nD Cert.InProjRefIdeal.τ).loc Cert.InProjRefIdeal.main_v107) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)) →
    ∃ (v0 : (c : Dev Cert.MergeOutIdeal.nD) → Buf (Elt Ideal) ((c.tc : Thread Cert.MergeOutIdeal.nD Cert.MergeOutIdeal.τ).loc Cert.MergeOutIdeal.main_v1)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v1) = v0 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v14) = v0 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)) →
    ∃ (v0 : (c : Dev Cert.MemoryIdeal.nD) → Buf (Elt Ideal) ((c.tc : Thread Cert.MemoryIdeal.nD Cert.MemoryIdeal.τ).loc Cert.MemoryIdeal.main_v2)) (v1 : (c : Dev Cert.MemoryIdeal.nD) → Buf (Elt Ideal) ((c.tc : Thread Cert.MemoryIdeal.nD Cert.MemoryIdeal.τ).loc Cert.MemoryIdeal.main_v3)) (v2 : (c : Dev Cert.MemoryIdeal.nD) → Buf (Elt Ideal) ((c.tc : Thread Cert.MemoryIdeal.nD Cert.MemoryIdeal.τ).loc Cert.MemoryIdeal.main_v4)) (v3 : (c : Dev Cert.MemoryIdeal.nD) → Buf (Elt Ideal) ((c.tc : Thread Cert.MemoryIdeal.nD Cert.MemoryIdeal.τ).loc Cert.MemoryIdeal.main_v5)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_v3) = v1 c
          ∧ r.2.mem ((c.tc : Thread Cert.MemoryIdeal.nD Cert.MemoryIdeal.τ).loc Cert.MemoryIdeal.main_v4) = v2 c
          ∧ r.2.mem ((c.tc : Thread Cert.MemoryIdeal.nD Cert.MemoryIdeal.τ).loc Cert.MemoryIdeal.main_v5) = v3 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v14) = v0 c
          ∧ r.2.mem ((c.tc : Thread Cert.MemoryRefIdeal.nD Cert.MemoryRefIdeal.τ).loc Cert.MemoryRefIdeal.main_v16) = v1 c
          ∧ r.2.mem ((c.tc : Thread Cert.MemoryRefIdeal.nD Cert.MemoryRefIdeal.τ).loc Cert.MemoryRefIdeal.main_v17) = v2 c
          ∧ r.2.mem ((c.tc : Thread Cert.MemoryRefIdeal.nD Cert.MemoryRefIdeal.τ).loc Cert.MemoryRefIdeal.main_v18) = v3 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5))

def preserves_Window_WindowIdeal : Prop :=
  IdealRules.named_const.Statement Cert.WindowIdeal.κ "log2e" .f32 0x3FB8AA3B#32 (((Real.log 2)⁻¹ : ℝ) : EReal)
  ∧ IdealRules.named_const.Statement Cert.WindowIdeal.κ "s" .f32 0x3E0293EE#32 (((Real.sqrt 128)⁻¹ * (Real.log 2)⁻¹ : ℝ) : EReal)
  ∧ IdealRules.named_const.Statement Cert.WindowIdeal.κ "mask" .f32 0xF149F2CA#32 ⊥

def algebraic_WindowIdeal_WindowRefIdeal_pre_finite_scores [hWindowIdeal : Cert.WindowIdeal.Facts] [hWindowRefIdeal : Cert.WindowRefIdeal.Facts] [hPre_finite_scores : Cert.Pre_finite_scores.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_scores m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v44) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMergeOut : Cert.MergeOut.Facts) (hMergeOutIdeal : Cert.MergeOutIdeal.Facts) (hMergeOutRefIdeal : Cert.MergeOutRefIdeal.Facts) (hDown : Cert.Down.Facts) (hDownIdeal : Cert.DownIdeal.Facts) (hDownRefIdeal : Cert.DownRefIdeal.Facts) (hMemory : Cert.Memory.Facts) (hMemoryIdeal : Cert.MemoryIdeal.Facts) (hMemoryRefIdeal : Cert.MemoryRefIdeal.Facts) (hWindow : Cert.Window.Facts) (hWindowIdeal : Cert.WindowIdeal.Facts) (hWindowRefIdeal : Cert.WindowRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_Down (hDown := hDown)
    ∧ quiescent_DownIdeal (hDownIdeal := hDownIdeal)
    ∧ quiescent_DownRefIdeal (hDownRefIdeal := hDownRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Window (hWindow := hWindow)
    ∧ quiescent_WindowIdeal (hWindowIdeal := hWindowIdeal)
    ∧ quiescent_WindowIdeal_pre_finite_scores (hWindowIdeal := hWindowIdeal) (hPre_finite_scores := hPre_finite_scores)
    ∧ quiescent_WindowRefIdeal (hWindowRefIdeal := hWindowRefIdeal)
    ∧ quiescent_WindowRefIdeal_pre_finite_scores (hWindowRefIdeal := hWindowRefIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_MergeOut_MergeOutIdeal
    ∧ algebraic_MergeOutIdeal_MergeOutRefIdeal (hMergeOutIdeal := hMergeOutIdeal) (hMergeOutRefIdeal := hMergeOutRefIdeal)
    ∧ preserves_Down_DownIdeal
    ∧ algebraic_DownIdeal_DownRefIdeal (hDownIdeal := hDownIdeal) (hDownRefIdeal := hDownRefIdeal)
    ∧ preserves_Memory_MemoryIdeal
    ∧ algebraic_MemoryIdeal_MemoryRefIdeal (hMemoryIdeal := hMemoryIdeal) (hMemoryRefIdeal := hMemoryRefIdeal)
    ∧ preserves_Window_WindowIdeal
    ∧ algebraic_WindowIdeal_WindowRefIdeal_pre_finite_scores (hWindowIdeal := hWindowIdeal) (hWindowRefIdeal := hWindowRefIdeal) (hPre_finite_scores := hPre_finite_scores)
-- ==== Pre_finite.lean ====
abbrev S8192x4096 : Shape := ⟨2, ![8192, 4096]⟩
abbrev S4096 : Shape := ⟨1, ![4096]⟩
abbrev S4096x512 : Shape := ⟨2, ![4096, 512]⟩
abbrev S1024x512 : Shape := ⟨2, ![1024, 512]⟩
abbrev S512x4096 : Shape := ⟨2, ![512, 4096]⟩
abbrev S4096x16 : Shape := ⟨2, ![4096, 16]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x512 : S_.BroadcastsInDim S4096x512 (![] : Fin 0 → Fin S4096x512.rank)
  reducesTo_S4096x512_S_d0_1 : S4096x512.ReducesTo [0, 1] S_
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg7 : FVec F S4096x16 .f32) (main_v14 : IVec S_ 1) (main_v15 : FVec F S4096 .f32) (main_v16 : FVec F S4096 .f32) : IVec S_ 1 :=
  let main_v17 : IVec S4096 1 := cmpf .olt main_v15 main_v16
  let main_c_5 : IVec S_ 1 := constantI S_ 1 1#1
  let main_v18 : IVec S_ 1 := (fun x v => Host.reduce IntOp.andi x v reducesTo_S4096_S_d0 h_S_) main_v17 main_c_5
  let main_v19 : IVec S_ 1 := andi main_v14 main_v18
  let main_v20 : FVec F S4096x16 .f32 := Host.absf main_arg7
  let main_cst_6 : FVec F S_ .f32 := constant S_ .f32 0x7F800000#32
  let main_v21 : FVec F S4096x16 .f32 := broadcastInDim S4096x16 ![] bcast_S_S4096x16 main_cst_6
  let main_v22 : IVec S4096x16 1 := cmpf .olt main_v20 main_v21
  let main_c_7 : IVec S_ 1 := constantI S_ 1 1#1
  let main_v23 : IVec S_ 1 := (fun x v => Host.reduce IntOp.andi x v reducesTo_S4096x16_S_d0_1 h_S_) main_v22 main_c_7
  let main_v24 : IVec S_ 1 := andi main_v19 main_v23
  main_v24

def fn {F : FTy → Type} [FloatOps F] (main_arg0 : FVec F S8192x4096 .f32) (main_arg1 : FVec F S4096 .f32) (main_arg2 : FVec F S4096x512 .f32) (main_arg3 : FVec F S1024x512 .bf16) (main_arg4 : FVec F S1024x512 .bf16) (main_arg5 : FVec F S512x4096 .f32) (main_arg6 : FVec F S4096 .f32) (main_arg7 : FVec F S4096x16 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x512 .f32 := Host.absf main_arg2
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1024x512 .f32 := (extf .f32 · bitsLt_bf16_f32) main_arg3
  let main_v10 : FVec F S1024x512 .f32 := Host.absf main_v9
  let main_cst_2 : FVec F S_ .f32 := constant S_ .f32 0x7F800000#32
  let main_v11 : FVec F S1024x512 .f32 := broadcastInDim S1024x512 ![] bcast_S_S1024x512 main_cst_2
  let main_v12 : IVec S1024x512 1 := cmpf .olt main_v10 main_v11
  let main_c_3 : IVec S_ 1 := constantI S_ 1 1#1
  let main_v13 : IVec S_ 1 := (fun x v => Host.reduce IntOp.andi x v reducesTo_S1024x512_S_d0_1 h_S_) main_v12 main_c_3
  let main_v14 : IVec S_ 1 := andi main_v8 main_v13
  let main_v15 : FVec F S4096 .f32 := Host.absf main_arg6
  let main_cst_4 : FVec F S_ .f32 := constant S_ .f32 0x7F800000#32
  let main_v16 : FVec F S4096 .f32 := broadcastInDim S4096 ![] bcast_S_S4096 main_cst_4
  fn_part1 (F := F) main_arg7 main_v14 main_v15 main_v16
-- ==== Pre_finite_scores.lean ====
abbrev S8192x2560 : Shape := ⟨2, ![8192, 2560]⟩
abbrev S8192x6656 : Shape := ⟨2, ![8192, 6656]⟩
abbrev S16 : Shape := ⟨1, ![16]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8192x2560 .bf16) (main_arg1 : FVec F S8192x6656 .bf16) (main_arg2 : FVec F S16 .f32) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_cst_0 : FVec F S_ .f32 := constant S_ .f32 0x7F800000#32
  let main_v5 : FVec F S16 .f32 := broadcastInDim S16 ![] bcast_S_S16 main_cst_0
  let main_v6 : IVec S16 1 := cmpf .olt main_arg2 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v4 main_v7
  main_v8
-- ==== Kernel.lean ====
abbrev S8192x4096 : Shape := ⟨2, ![8192, 4096]⟩
abbrev S4096 : Shape := ⟨1, ![4096]⟩
abbrev S4096x512 : Shape := ⟨2, ![4096, 512]⟩
abbrev S1024x512 : Shape := ⟨2, ![1024, 512]⟩
abbrev S512x4096 : Shape := ⟨2, ![512, 4096]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S1x4096 : Shape := ⟨2, ![1, 4096]⟩
abbrev S8192x2048 : Shape := ⟨2, ![8192, 2048]⟩
abbrev S4x16x2048 : Shape := ⟨3, ![4, 16, 2048]⟩
abbrev S256x512 : Shape := ⟨2, ![256, 512]⟩
abbrev S512x2048 : Shape := ⟨2, ![512, 2048]⟩
abbrev S1x16x512 : Shape := ⟨3, ![1, 16, 512]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S256x2048 : Shape := ⟨2, ![256, 2048]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 22
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x512, .f32⟩
  | .hbm, ⟨3, _⟩ => ⟨S1024x512, .bf16⟩
  | .hbm, ⟨4, _⟩ => ⟨S1024x512, .bf16⟩
  | .hbm, ⟨5, _⟩ => ⟨S512x4096, .f32⟩
  | .hbm, ⟨6, _⟩ => ⟨S4096, .f32⟩
  | .hbm, ⟨7, _⟩ => ⟨S4096x16, .f32⟩
  | .hbm, ⟨8, _⟩ => ⟨S4096x16, .bf16⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S_, .bf16⟩
  | .hbm, ⟨13, _⟩ => ⟨S4096x96, .bf16⟩
  | .hbm, ⟨14, _⟩ => ⟨S4096x128, .bf16⟩
  | .hbm, ⟨15, _⟩ => ⟨S1x4096, .f32⟩
  | .hbm, ⟨16, _⟩ => ⟨S4096x512, .bf16⟩
  | .hbm, ⟨17, _⟩ => ⟨S512x4096, .bf16⟩
  | .hbm, ⟨18, _⟩ => ⟨S1x4096, .f32⟩
  | .hbm, ⟨19, _⟩ => ⟨S8192x4096, .f32⟩
  | .hbm, ⟨20, _⟩ => ⟨S8192x2048, .i32⟩
  | .hbm, ⟨21, _⟩ => ⟨S4x16x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x4096, .bf16⟩
  | .local _ .vmem, ⟨9, _⟩ => ⟨S1x4096, .f32⟩
  | .local _ .vmem, ⟨10, _⟩ => ⟨S4096x128, .bf16⟩
  | .local _ .vmem, ⟨11, _⟩ => ⟨S512x4096, .f32⟩
  | .local _ .vmem, ⟨12, _⟩ => ⟨S512x4096, .f32⟩
  | .local _ .vmem, ⟨13, _⟩ => ⟨S512x2048, .i32⟩
  | .local _ .vmem, ⟨14, _⟩ => ⟨S512x2048, .i32⟩
  | .local _ .vmem, ⟨15, _⟩ => ⟨S1x16x512, .f32⟩
  | .local _ .vmem, ⟨16, _⟩ => ⟨S1x16x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S8192x4096 : Shape := ⟨2, ![8192, 4096]⟩
abbrev S4096 : Shape := ⟨1, ![4096]⟩
abbrev S4096x512 : Shape := ⟨2, ![4096, 512]⟩
abbrev S1024x512 : Shape := ⟨2, ![1024, 512]⟩
abbrev S512x4096 : Shape := ⟨2, ![512, 4096]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S1x4096 : Shape := ⟨2, ![1, 4096]⟩
abbrev S8192x2x2048 : Shape := ⟨3, ![8192, 2, 2048]⟩
abbrev S4x16x2048 : Shape := ⟨3, ![4, 16, 2048]⟩
abbrev S8192x1x2048 : Shape := ⟨3, ![8192, 1, 2048]⟩
abbrev S8192x2048 : Shape := ⟨2, ![8192, 2048]⟩
abbrev S256x512 : Shape := ⟨2, ![256, 512]⟩
abbrev S512x2048 : Shape := ⟨2, ![512, 2048]⟩
abbrev S512x2x2048 : Shape := ⟨3, ![512, 2, 2048]⟩
abbrev S512x1x2048 : Shape := ⟨3, ![512, 1, 2048]⟩
abbrev S1x16x512 : Shape := ⟨3, ![1, 16, 512]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S256x2048 : Shape := ⟨2, ![256, 2048]⟩
abbrev S256x2x2048 : Shape := ⟨3, ![256, 2, 2048]⟩
abbrev S256x1x2048 : Shape := ⟨3, ![256, 1, 2048]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 22
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x512, .f32⟩
  | .hbm, ⟨3, _⟩ => ⟨S1024x512, .bf16⟩
  | .hbm, ⟨4, _⟩ => ⟨S1024x512, .bf16⟩
  | .hbm, ⟨5, _⟩ => ⟨S512x4096, .f32⟩
  | .hbm, ⟨6, _⟩ => ⟨S4096, .f32⟩
  | .hbm, ⟨7, _⟩ => ⟨S4096x16, .f32⟩
  | .hbm, ⟨8, _⟩ => ⟨S4096x16, .bf16⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S_, .bf16⟩
  | .hbm, ⟨13, _⟩ => ⟨S4096x96, .bf16⟩
  | .hbm, ⟨14, _⟩ => ⟨S4096x128, .bf16⟩
  | .hbm, ⟨15, _⟩ => ⟨S1x4096, .f32⟩
  | .hbm, ⟨16, _⟩ => ⟨S4096x512, .bf16⟩
  | .hbm, ⟨17, _⟩ => ⟨S512x4096, .bf16⟩
  | .hbm, ⟨18, _⟩ => ⟨S1x4096, .f32⟩
  | .hbm, ⟨19, _⟩ => ⟨S8192x4096, .f32⟩
  | .hbm, ⟨20, _⟩ => ⟨S8192x2x2048, .bf16⟩
  | .hbm, ⟨21, _⟩ => ⟨S4x16x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x4096, .bf16⟩
  | .local _ .vmem, ⟨9, _⟩ => ⟨S1x4096, .f32⟩
  | .local _ .vmem, ⟨10, _⟩ => ⟨S4096x128, .bf16⟩
  | .local _ .vmem, ⟨11, _⟩ => ⟨S512x4096, .f32⟩
  | .local _ .vmem, ⟨12, _⟩ => ⟨S512x4096, .f32⟩
  | .local _ .vmem, ⟨13, _⟩ => ⟨S512x2x2048, .bf16⟩
  | .local _ .vmem, ⟨14, _⟩ => ⟨S512x2x2048, .bf16⟩
  | .local _ .vmem, ⟨15, _⟩ => ⟨S1x16x512, .f32⟩
  | .local _ .vmem, ⟨16, _⟩ => ⟨S1x16x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F] [Named F]

def κ : String → Option EReal := fun
  | "mask" => some ⊥
  | "s" => some (((Real.sqrt 128)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x4096 : Shape := ⟨2, ![8192, 4096]⟩
abbrev S4096 : Shape := ⟨1, ![4096]⟩
abbrev S4096x512 : Shape := ⟨2, ![4096, 512]⟩
abbrev S1024x512 : Shape := ⟨2, ![1024, 512]⟩
abbrev S512x4096 : Shape := ⟨2, ![512, 4096]⟩
abbrev S4096x16 : Shape := ⟨2, ![4096, 16]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x512 : Shape := ⟨2, ![8192, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x16 : Shape := ⟨2, ![8192, 16]⟩
abbrev S4x2048x16 : Shape := ⟨3, ![4, 2048, 16]⟩
abbrev S4x16x2048 : Shape := ⟨3, ![4, 16, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x512, .f32⟩
  | .hbm, ⟨3, _⟩ => ⟨S1024x512, .bf16⟩
  | .hbm, ⟨4, _⟩ => ⟨S1024x512, .bf16⟩
  | .hbm, ⟨5, _⟩ => ⟨S512x4096, .f32⟩
  | .hbm, ⟨6, _⟩ => ⟨S4096, .f32⟩
  | .hbm, ⟨7, _⟩ => ⟨S4096x16, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x512, .f32⟩
  | .hbm, ⟨25, _⟩ => ⟨S4x2048x4x128, .f32⟩
  | .hbm, ⟨26, _⟩ => ⟨S1024x512, .f32⟩
  | .hbm, ⟨27, _⟩ => ⟨S4x256x4x128, .f32⟩
  | .hbm, ⟨28, _⟩ => ⟨S1024x512, .f32⟩
  | .hbm, ⟨29, _⟩ => ⟨S4x256x4x128, .f32⟩
  | .hbm, ⟨30, _⟩ => ⟨S4x4x2048x256, .f32⟩
  | .hbm, ⟨31, _⟩ => ⟨S_, .f32⟩
  | .hbm, ⟨32, _⟩ => ⟨S_, .f32⟩
  | .hbm, ⟨33, _⟩ => ⟨S4x4x2048x256, .f32⟩
  | .hbm, ⟨34, _⟩ => ⟨S4x4x2048x256, .f32⟩
  | .hbm, ⟨35, _⟩ => ⟨S_, .f32⟩
  | .hbm, ⟨36, _⟩ => ⟨S4x4x2048, .f32⟩
  | .hbm, ⟨37, _⟩ => ⟨S_, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x128x2048, .f32⟩
  | .hbm, ⟨50, _⟩ => ⟨S4x2048x4x128, .f32⟩
  | .hbm, ⟨51, _⟩ => ⟨S8192x512, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x4096, .f32⟩
  | .hbm, ⟨66, _⟩ => ⟨S8192x4096, .f32⟩
  | .hbm, ⟨67, _⟩ => ⟨S1x4096, .f32⟩
  | .hbm, ⟨68, _⟩ => ⟨S8192x4096, .f32⟩
  | .hbm, ⟨69, _⟩ => ⟨S8192x4096, .f32⟩
  | .hbm, ⟨70, _⟩ => ⟨S8192x16, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x16, .f32⟩
  | .hbm, ⟨84, _⟩ => ⟨S8192x16, .f32⟩
  | .hbm, ⟨85, _⟩ => ⟨S4x2048x16, .f32⟩
  | .hbm, ⟨86, _⟩ => ⟨S4x16x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== InProj.lean ====
abbrev S8192x4096 : Shape := ⟨2, ![8192, 4096]⟩
abbrev S4096 : Shape := ⟨1, ![4096]⟩
abbrev S4096x17408 : Shape := ⟨2, ![4096, 17408]⟩
abbrev S8192 : Shape := ⟨1, ![8192]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S8192x2560 : Shape := ⟨2, ![8192, 2560]⟩
abbrev S2048x4096 : Shape := ⟨2, ![2048, 4096]⟩
abbrev S4096x256 : Shape := ⟨2, ![4096, 256]⟩
abbrev S2048x256 : Shape := ⟨2, ![2048, 256]⟩
abbrev S256x4096 : Shape := ⟨2, ![256, 4096]⟩
abbrev S256x256 : Shape := ⟨2, ![256, 256]⟩
abbrev S256x128 : Shape := ⟨2, ![256, 128]⟩
abbrev S8192x6656 : Shape := ⟨2, ![8192, 6656]⟩
abbrev S512x256 : Shape := ⟨2, ![512, 256]⟩
abbrev S1x8192 : Shape := ⟨2, ![1, 8192]⟩
abbrev S8192x8192 : Shape := ⟨2, ![8192, 8192]⟩
abbrev S1x256 : Shape := ⟨2, ![1, 256]⟩

abbrev nBuf : Space → Nat
  | .hbm => 40
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x17408, .f32⟩
  | .hbm, ⟨3, _⟩ => ⟨S8192, .f32⟩
  | .hbm, ⟨4, _⟩ => ⟨S1x4096, .f32⟩
  | .hbm, ⟨5, _⟩ => ⟨S8192x4096, .bf16⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .i32⟩
  | .hbm, ⟨18, _⟩ => ⟨S2048, .f32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S_, .f32⟩
  | .hbm, ⟨27, _⟩ => ⟨S2048x96, .f32⟩
  | .hbm, ⟨28, _⟩ => ⟨S_, .f32⟩
  | .hbm, ⟨29, _⟩ => ⟨S2048x96, .f32⟩
  | .hbm, ⟨30, _⟩ => ⟨S_, .f32⟩
  | .hbm, ⟨31, _⟩ => ⟨S2048x16, .f32⟩
  | .hbm, ⟨32, _⟩ => ⟨S2048x128, .f32⟩
  | .hbm, ⟨33, _⟩ => ⟨S2048x16, .f32⟩
  | .hbm, ⟨34, _⟩ => ⟨S2048x128, .f32⟩
  | .hbm, ⟨35, _⟩ => ⟨S2048x128, .f32⟩
  | .hbm, ⟨36, _⟩ => ⟨S8192x2560, .bf16⟩
  | .hbm, ⟨37, _⟩ => ⟨S8192x6656, .bf16⟩
  | .hbm, ⟨38, _⟩ => ⟨S1x8192, .f32⟩
  | .hbm, ⟨39, _⟩ => ⟨S8192x8192, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S2048x4096, .bf16⟩
  | .local _ .vmem, ⟨6, _⟩ => ⟨S2048x4096, .bf16⟩
  | .local _ .vmem, ⟨7, _⟩ => ⟨S4096x256, .f32⟩
  | .local _ .vmem, ⟨8, _⟩ => ⟨S4096x256, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S2048x4096, .bf16⟩
  | .local _ .vmem, ⟨15, _⟩ => ⟨S2048x4096, .bf16⟩
  | .local _ .vmem, ⟨16, _⟩ => ⟨S4096x256, .f32⟩
  | .local _ .vmem, ⟨17, _⟩ => ⟨S4096x256, .f32⟩
  | .local _ .vmem, ⟨18, _⟩ => ⟨S2048x256, .bf16⟩
  | .local _ .vmem, ⟨19, _⟩ => ⟨S2048x256, .bf16⟩
  | .local _ .vmem, ⟨20, _⟩ => ⟨S2048x4096, .bf16⟩
  | .local _ .vmem, ⟨21, _⟩ => ⟨S2048x4096, .bf16⟩
  | .local _ .vmem, ⟨22, _⟩ => ⟨S4096x256, .f32⟩
  | .local _ .vmem, ⟨23, _⟩ => ⟨S4096x256, .f32⟩
  | .local _ .vmem, ⟨24, _⟩ => ⟨S1x256, .f32⟩
  | .local _ .vmem, ⟨25, _⟩ => ⟨S1x256, .f32⟩
  | .local _ .vmem, ⟨26, _⟩ => ⟨S2048x256, .bf16⟩
  | .local _ .vmem, ⟨27, _⟩ => ⟨S2048x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 26], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi arg1 c36_i32
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== InProjRefIdeal.lean ====
abbrev S8192x4096 : Shape := ⟨2, ![8192, 4096]⟩
abbrev S4096 : Shape := ⟨1, ![4096]⟩
abbrev S4096x17408 : Shape := ⟨2, ![4096, 17408]⟩
abbrev S8192 : Shape := ⟨1, ![8192]⟩
abbrev S2048 : Shape := ⟨1, ![2048]⟩
abbrev S_ : Shape := ⟨0, ![]⟩
abbrev S8192x1 : Shape := ⟨2, ![8192, 1]⟩
abbrev S1x4096 : Shape := ⟨2, ![1, 4096]⟩
abbrev S8192x17408 : Shape := ⟨2, ![8192, 17408]⟩
abbrev S8192x2048 : Shape := ⟨2, ![8192, 2048]⟩
abbrev S8192x512 : Shape := ⟨2, ![8192, 512]⟩
abbrev S8192x8192 : Shape := ⟨2, ![8192, 8192]⟩
abbrev S4x2048x16x128 : Shape := ⟨4, ![4, 2048, 16, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x16x32 : Shape := ⟨4, ![4, 2048, 16, 32]⟩
abbrev S4x2048x16x16 : Shape := ⟨4, ![4, 2048, 16, 16]⟩
abbrev S4x2048x16x96 : Shape := ⟨4, ![4, 2048, 16, 96]⟩
abbrev S4x2048x4x128 : Shape := ⟨4, ![4, 2048, 4, 128]⟩
abbrev S4x2048x4x32 : Shape := ⟨4, ![4, 2048, 4, 32]⟩
abbrev S4x2048x4x16 : Shape := ⟨4, ![4, 2048, 4, 16]⟩
abbrev S4x2048x4x96 : Shape := ⟨4, ![4, 2048, 4, 96]⟩
abbrev S1x8192 : Shape := ⟨2, ![1, 8192]⟩
abbrev S8192x2560 : Shape := ⟨2, ![8192, 2560]⟩
abbrev S8192x6656 : Shape := ⟨2, ![8192, 6656]⟩

abbrev nBuf : Space → Nat
  | .hbm => 123
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x17408, .f32⟩
  | .hbm, ⟨3, _⟩ => ⟨S8192, .f32⟩
  | .hbm, ⟨4, _⟩ => ⟨S2048, .i32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x17408, .f32⟩
  | .hbm, ⟨22, _⟩ => ⟨S8192x2048, .f32⟩
  | .hbm, ⟨23, _⟩ => ⟨S8192x512, .f32⟩
  | .hbm, ⟨24, _⟩ => ⟨S8192x512, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x8192, .f32⟩
  | .hbm, ⟨29, _⟩ => ⟨S4x2048x16x128, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S2048, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S1x2048x1x16, .f32⟩
  | .hbm, ⟨49, _⟩ => ⟨S2048x16, .f32⟩
  | .hbm, ⟨50, _⟩ => ⟨S1x2048x1x16, .f32⟩
  | .hbm, ⟨51, _⟩ => ⟨S4x2048x16x32, .f32⟩
  | .hbm, ⟨52, _⟩ => ⟨S4x2048x16x16, .f32⟩
  | .hbm, ⟨53, _⟩ => ⟨S4x2048x16x16, .f32⟩
  | .hbm, ⟨54, _⟩ => ⟨S4x2048x16x16, .f32⟩
  | .hbm, ⟨55, _⟩ => ⟨S4x2048x16x16, .f32⟩
  | .hbm, ⟨56, _⟩ => ⟨S4x2048x16x16, .f32⟩
  | .hbm, ⟨57, _⟩ => ⟨S4x2048x16x16, .f32⟩
  | .hbm, ⟨58, _⟩ => ⟨S4x2048x16x16, .f32⟩
  | .hbm, ⟨59, _⟩ => ⟨S4x2048x16x16, .f32⟩
  | .hbm, ⟨60, _⟩ => ⟨S4x2048x16x16, .f32⟩
  | .hbm, ⟨61, _⟩ => ⟨S4x2048x16x16, .f32⟩
  | .hbm, ⟨62, _⟩ => ⟨S4x2048x16x16, .f32⟩
  | .hbm, ⟨63, _⟩ => ⟨S4x2048x16x16, .f32⟩
  | .hbm, ⟨64, _⟩ => ⟨S4x2048x16x32, .f32⟩
  | .hbm, ⟨65, _⟩ => ⟨S4x2048x16x96, .f32⟩
  | .hbm, ⟨66, _⟩ => ⟨S4x2048x16x128, .f32⟩
  | .hbm, ⟨67, _⟩ => ⟨S8192x2048, .f32⟩
  | .hbm, ⟨68, _⟩ => ⟨S4x2048x4x128, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S2048, .f32⟩
  | .hbm, ⟨81, _⟩ => ⟨S2048x1, .f32⟩
  | .hbm, ⟨82, _⟩ => ⟨S1x16, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x16, .f32⟩
  | .hbm, ⟨87, _⟩ => ⟨S1x2048x1x16, .f32⟩
  | .hbm, ⟨88, _⟩ => ⟨S2048x16, .f32⟩
  | .hbm, ⟨89, _⟩ => ⟨S1x2048x1x16, .f32⟩
  | .hbm, ⟨90, _⟩ => ⟨S4x2048x4x32, .f32⟩
  | .hbm, ⟨91, _⟩ => ⟨S4x2048x4x16, .f32⟩
  | .hbm, ⟨92, _⟩ => ⟨S4x2048x4x16, .f32⟩
  | .hbm, ⟨93, _⟩ => ⟨S4x2048x4x16, .f32⟩
  | .hbm, ⟨94, _⟩ => ⟨S4x2048x4x16, .f32⟩
  | .hbm, ⟨95, _⟩ => ⟨S4x2048x4x16, .f32⟩
  | .hbm, ⟨96, _⟩ => ⟨S4x2048x4x16, .f32⟩
  | .hbm, ⟨97, _⟩ => ⟨S4x2048x4x16, .f32⟩
  | .hbm, ⟨98, _⟩ => ⟨S4x2048x4x16, .f32⟩
  | .hbm, ⟨99, _⟩ => ⟨S4x2048x4x16, .f32⟩
  | .hbm, ⟨100, _⟩ => ⟨S4x2048x4x16, .f32⟩
  | .hbm, ⟨101, _⟩ => ⟨S4x2048x4x16, .f32⟩
  | .hbm, ⟨102, _⟩ => ⟨S4x2048x4x16, .f32⟩
  | .hbm, ⟨103, _⟩ => ⟨S4x2048x4x32, .f32⟩
  | .hbm, ⟨104, _⟩ => ⟨S4x2048x4x96, .f32⟩
  | .hbm, ⟨105, _⟩ => ⟨S4x2048x4x128, .f32⟩
  | .hbm, ⟨106, _⟩ => ⟨S8192x512, .f32⟩
  | .hbm, ⟨107, _⟩ => ⟨S1x8192, .f32⟩
  | .hbm, ⟨108, _⟩ => ⟨S8192x8192, .f32⟩
  | .hbm, ⟨109, _⟩ => ⟨S8192x8192, .f32⟩
  | .hbm, ⟨110, _⟩ => ⟨S8192x8192, .f32⟩
  | .hbm, ⟨111, _⟩ => ⟨S8192x8192, .f32⟩
  | .hbm, ⟨112, _⟩ => ⟨S_, .f32⟩
  | .hbm, ⟨113, _⟩ => ⟨S8192x8192, .f32⟩
  | .hbm, ⟨114, _⟩ => ⟨S8192x8192, .f32⟩
  | .hbm, ⟨115, _⟩ => ⟨S_, .f32⟩
  | .hbm, ⟨116, _⟩ => ⟨S8192x8192, .f32⟩
  | .hbm, ⟨117, _⟩ => ⟨S8192x8192, .f32⟩
  | .hbm, ⟨118, _⟩ => ⟨S8192x2560, .f32⟩
  | .hbm, ⟨119, _⟩ => ⟨S8192x2560, .bf16⟩
  | .hbm, ⟨120, _⟩ => ⟨S8192x6656, .f32⟩
  | .hbm, ⟨121, _⟩ => ⟨S8192x6656, .bf16⟩
  | .hbm, ⟨122, _⟩ => ⟨S8192x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩
abbrev main_cst_9 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩

abbrev nD : Nat := 1
abbrev τ : Topo := Topo.v7x

variable {F : FTy → Type} [FloatOps F]
-- ==== MergeOut.lean ====
abbrev S8192x4096 : Shape := ⟨2, ![8192, 4096]⟩
abbrev S8192x2048 : Shape := ⟨2, ![8192, 2048]⟩
abbrev S2048x4096 : Shape := ⟨2, ![2048, 4096]⟩
abbrev S8192x8192 : Shape := ⟨2, ![8192, 8192]⟩
abbrev S4096x4096 : Shape := ⟨2, ![4096, 4096]⟩
abbrev S2048x2048 : Shape := ⟨2, ![2048, 2048]⟩
abbrev S2048x256 : Shape := ⟨2, ![2048, 256]⟩
abbrev S512x2048 : Shape := ⟨2, ![512, 2048]⟩
abbrev S512x256 : Shape := ⟨2, ![512, 256]⟩
abbrev S4096x256 : Shape := ⟨2, ![4096, 256]⟩
abbrev S512x4096 : Shape := ⟨2, ![512, 4096]⟩

abbrev nBuf : Space → Nat
  | .hbm => 9
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S2048x4096, .f32⟩
  | .hbm, ⟨4, _⟩ => ⟨S2048x4096, .f32⟩
  | .hbm, ⟨5, _⟩ => ⟨S8192x8192, .bf16⟩
  | .hbm, ⟨6, _⟩ => ⟨S4096x4096, .f32⟩
  | .hbm, ⟨7, _⟩ => ⟨S8192x4096, .bf16⟩
  | .hbm, ⟨8, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x4096, .bf16⟩
  | .local _ .vmem, ⟨15, _⟩ => ⟨S2048x4096, .bf16⟩
  | .local _ .vmem, ⟨16, _⟩ => ⟨S4096x256, .f32⟩
  | .local _ .vmem, ⟨17, _⟩ => ⟨S4096x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MergeOutRefIdeal.lean ====
abbrev S8192x4096 : Shape := ⟨2, ![8192, 4096]⟩
abbrev S8192x2048 : Shape := ⟨2, ![8192, 2048]⟩
abbrev S2048x4096 : Shape := ⟨2, ![2048, 4096]⟩
abbrev S8192x8192 : Shape := ⟨2, ![8192, 8192]⟩
abbrev S4096x4096 : Shape := ⟨2, ![4096, 4096]⟩
abbrev S8192x2x4096 : Shape := ⟨3, ![8192, 2, 4096]⟩
abbrev S8192x1x4096 : Shape := ⟨3, ![8192, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S2048x4096, .f32⟩
  | .hbm, ⟨4, _⟩ => ⟨S2048x4096, .f32⟩
  | .hbm, ⟨5, _⟩ => ⟨S8192x8192, .bf16⟩
  | .hbm, ⟨6, _⟩ => ⟨S4096x4096, .f32⟩
  | .hbm, ⟨7, _⟩ => ⟨S8192x2048, .f32⟩
  | .hbm, ⟨8, _⟩ => ⟨S8192x4096, .f32⟩
  | .hbm, ⟨9, _⟩ => ⟨S8192x2048, .f32⟩
  | .hbm, ⟨10, _⟩ => ⟨S8192x4096, .f32⟩
  | .hbm, ⟨11, _⟩ => ⟨S8192x8192, .f32⟩
  | .hbm, ⟨12, _⟩ => ⟨S8192x2x4096, .f32⟩
  | .hbm, ⟨13, _⟩ => ⟨S8192x1x4096, .f32⟩
  | .hbm, ⟨14, _⟩ => ⟨S8192x4096, .f32⟩
  | .hbm, ⟨15, _⟩ => ⟨S8192x4096, .f32⟩
  | .hbm, ⟨16, _⟩ => ⟨S8192x1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Down.lean ====
abbrev S16x1024x2048 : Shape := ⟨3, ![16, 1024, 2048]⟩
abbrev S16x2048x4096 : Shape := ⟨3, ![16, 2048, 4096]⟩
abbrev S16x1024x1 : Shape := ⟨3, ![16, 1024, 1]⟩
abbrev S16x1024x4096 : Shape := ⟨3, ![16, 1024, 4096]⟩
abbrev S1x1024x2048 : Shape := ⟨3, ![1, 1024, 2048]⟩
abbrev S1x2048x1024 : Shape := ⟨3, ![1, 2048, 1024]⟩
abbrev S1x1024x1 : Shape := ⟨3, ![1, 1024, 1]⟩
abbrev S1x1024x1024 : Shape := ⟨3, ![1, 1024, 1024]⟩
abbrev S2048x1024 : Shape := ⟨2, ![2048, 1024]⟩
abbrev S1x256x2048 : Shape := ⟨3, ![1, 256, 2048]⟩
abbrev S256x2048 : Shape := ⟨2, ![256, 2048]⟩
abbrev S256x1024 : Shape := ⟨2, ![256, 1024]⟩
abbrev S1x256x1 : Shape := ⟨3, ![1, 256, 1]⟩
abbrev S256x1 : Shape := ⟨2, ![256, 1]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x1, .f32⟩
  | .hbm, ⟨3, _⟩ => ⟨S16x1024x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1024, .bf16⟩
  | .local _ .vmem, ⟨7, _⟩ => ⟨S1x1024x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16x1024x2048 : Shape := ⟨3, ![16, 1024, 2048]⟩
abbrev S16x2048x4096 : Shape := ⟨3, ![16, 2048, 4096]⟩
abbrev S16x1024x1 : Shape := ⟨3, ![16, 1024, 1]⟩
abbrev S16x1024x4096 : Shape := ⟨3, ![16, 1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x1, .f32⟩
  | .hbm, ⟨3, _⟩ => ⟨S16x1024x2048, .f32⟩
  | .hbm, ⟨4, _⟩ => ⟨S16x1024x4096, .f32⟩
  | .hbm, ⟨5, _⟩ => ⟨S16x1024x4096, .f32⟩
  | .hbm, ⟨6, _⟩ => ⟨S16x1024x4096, .f32⟩
  | .hbm, ⟨7, _⟩ => ⟨S16x1024x4096, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Memory.lean ====
abbrev S1024x4096 : Shape := ⟨2, ![1024, 4096]⟩
abbrev S4096 : Shape := ⟨1, ![4096]⟩
abbrev S4096x512 : Shape := ⟨2, ![4096, 512]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩
abbrev S1024x512 : Shape := ⟨2, ![1024, 512]⟩
abbrev S4096x256 : Shape := ⟨2, ![4096, 256]⟩
abbrev S1024x256 : Shape := ⟨2, ![1024, 256]⟩
abbrev S256x4096 : Shape := ⟨2, ![256, 4096]⟩
abbrev S256x256 : Shape := ⟨2, ![256, 256]⟩

abbrev nBuf : Space → Nat
  | .hbm => 12
  | .vmem => 19
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x4096, .f32⟩
  | .hbm, ⟨6, _⟩ => ⟨S1x4096, .f32⟩
  | .hbm, ⟨7, _⟩ => ⟨S1024x4096, .bf16⟩
  | .hbm, ⟨8, _⟩ => ⟨S1024x512, .bf16⟩
  | .hbm, ⟨9, _⟩ => ⟨S1024x512, .bf16⟩
  | .hbm, ⟨10, _⟩ => ⟨S4096x512, .bf16⟩
  | .hbm, ⟨11, _⟩ => ⟨S512x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S4096x256, .f32⟩
  | .local _ .vmem, ⟨7, _⟩ => ⟨S4096x256, .f32⟩
  | .local _ .vmem, ⟨8, _⟩ => ⟨S1024x256, .bf16⟩
  | .local _ .vmem, ⟨9, _⟩ => ⟨S1024x256, .bf16⟩
  | .local _ .vmem, ⟨10, _⟩ => ⟨S1024x4096, .bf16⟩
  | .local _ .vmem, ⟨11, _⟩ => ⟨S4096x256, .f32⟩
  | .local _ .vmem, ⟨12, _⟩ => ⟨S4096x256, .f32⟩
  | .local _ .vmem, ⟨13, _⟩ => ⟨S1024x256, .bf16⟩
  | .local _ .vmem, ⟨14, _⟩ => ⟨S1024x256, .bf16⟩
  | .local _ .vmem, ⟨15, _⟩ => ⟨S4096x512, .f32⟩
  | .local _ .vmem, ⟨16, _⟩ => ⟨S4096x512, .bf16⟩
  | .local _ .vmem, ⟨17, _⟩ => ⟨S512x4096, .f32⟩
  | .local _ .vmem, ⟨18, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc4_stg0_0 : Ref sig .tc := ⟨.vmem, 17, rfl⟩
abbrev cc4_stg1_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc4_sem0_0 : DmaSem sig := 17
abbrev cc4_sem1_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]
-- ==== MemoryRefIdeal.lean ====
abbrev S1024x4096 : Shape := ⟨2, ![1024, 4096]⟩
abbrev S4096 : Shape := ⟨1, ![4096]⟩
abbrev S4096x512 : Shape := ⟨2, ![4096, 512]⟩
abbrev S512x4096 : Shape := ⟨2, ![512, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x512 : Shape := ⟨2, ![1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x4096, .f32⟩
  | .hbm, ⟨18, _⟩ => ⟨S1024x4096, .f32⟩
  | .hbm, ⟨19, _⟩ => ⟨S1x4096, .f32⟩
  | .hbm, ⟨20, _⟩ => ⟨S1024x4096, .f32⟩
  | .hbm, ⟨21, _⟩ => ⟨S1024x4096, .f32⟩
  | .hbm, ⟨22, _⟩ => ⟨S1024x512, .f32⟩
  | .hbm, ⟨23, _⟩ => ⟨S1024x512, .bf16⟩
  | .hbm, ⟨24, _⟩ => ⟨S1024x512, .f32⟩
  | .hbm, ⟨25, _⟩ => ⟨S1024x512, .bf16⟩
  | .hbm, ⟨26, _⟩ => ⟨S4096x512, .bf16⟩
  | .hbm, ⟨27, _⟩ => ⟨S512x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Window.lean ====
abbrev S8192x2560 : Shape := ⟨2, ![8192, 2560]⟩
abbrev S8192x6656 : Shape := ⟨2, ![8192, 6656]⟩
abbrev S16 : Shape := ⟨1, ![16]⟩
abbrev S8192x2048 : Shape := ⟨2, ![8192, 2048]⟩
abbrev S2048x512 : Shape := ⟨2, ![2048, 512]⟩
abbrev S2048x128 : Shape := ⟨2, ![2048, 128]⟩
abbrev S512x128 : Shape := ⟨2, ![512, 128]⟩
abbrev S1 : Shape := ⟨1, ![1]⟩
abbrev S128x128 : Shape := ⟨2, ![128, 128]⟩
abbrev S512 : Shape := ⟨1, ![512]⟩
abbrev S512x1 : Shape := ⟨2, ![512, 1]⟩

abbrev nBuf : Space → Nat
  | .hbm => 4
  | .vmem => 8
  | .smem => 1
  | _ => 0

abbrev bufTy : (tb : Table) → Fin (tcTables nBuf tb) → BufTy
  | .hbm, ⟨0, _⟩ => ⟨S8192x2560, .bf16⟩
  | .hbm, ⟨1, _⟩ => ⟨S8192x6656, .bf16⟩
  | .hbm, ⟨2, _⟩ => ⟨S16, .f32⟩
  | .hbm, ⟨3, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x512, .bf16⟩
  | .local _ .smem, ⟨0, _⟩ => ⟨S16, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) (c0_i32_3 : BitVec 32) : Fin 1 → Nat :=
  let arg1 : BitVec 32 := BitVec.ofNat 32 (i 1).val
  let c4_i32 : BitVec 32 := 4#32
  let v18 : BitVec 32 := Scalar.muli arg1 c4_i32
  let v19 : BitVec 32 := Scalar.addi v18 c0_i32_3
  let v20 : Index := Scalar.indexCast v19
  ![v20.toNat]
@[reducible] def k0_t1_loop : Scf.Loop 32 :=
  let c0_i32_11 : BitVec 32 := 0#32
  let c2_i32_12 : BitVec 32 := 2#32
  let v43 : BitVec 32 := Scalar.addi c0_i32_11 c2_i32_12
  let c1_i32_13 : BitVec 32 := 1#32
  ⟨c0_i32_11, v43, c1_i32_13⟩
def k0_mult1 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let c0_i32_15 : BitVec 32 := 0#32
  let v45 : BitVec 32 := Scalar.addi v44 c0_i32_15
  let c128_i32_16 : BitVec 32 := 128#32
  let v46 : BitVec 32 := Scalar.muli v45 c128_i32_16
  v46
def k0_mult2 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let c0_i32_15 : BitVec 32 := 0#32
  let v45 : BitVec 32 := Scalar.addi v44 c0_i32_15
  let c1_i32_17 : BitVec 32 := 1#32
  let v48 : BitVec 32 := Scalar.subi v45 c1_i32_17
  let c0_i32_18 : BitVec 32 := 0#32
  let v49 : BitVec 32 := Scalar.maxsi v48 c0_i32_18
  let c128_i32_19 : BitVec 32 := 128#32
  let v50 : BitVec 32 := Scalar.muli v49 c128_i32_19
  v50
def k0_mult3 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let c0_i32_15 : BitVec 32 := 0#32
  let v45 : BitVec 32 := Scalar.addi v44 c0_i32_15
  let c1_i32_20 : BitVec 32 := 1#32
  let v52 : BitVec 32 := Scalar.addi v45 c1_i32_20
  let c15_i32 : BitVec 32 := 15#32
  let v53 : BitVec 32 := Scalar.minsi v52 c15_i32
  let c128_i32_21 : BitVec 32 := 128#32
  let v54 : BitVec 32 := Scalar.muli v53 c128_i32_21
  v54
def k0_off2 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c128_i32_16 : BitVec 32 := 128#32
  let v46 : BitVec 32 := Scalar.muli v45 c128_i32_16
  let v47 : BitVec 32 := v46
  let v60 : Index := Scalar.indexCast v47
  let c0 : Index := 0#32
  ![v60.toNat, 0]
def k0_off3 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c128_i32_16 : BitVec 32 := 128#32
  let v46 : BitVec 32 := Scalar.muli v45 c128_i32_16
  let v47 : BitVec 32 := v46
  let v62 : Index := Scalar.indexCast v47
  let c128 : Index := 128#32
  ![v62.toNat, 128]
def k0_off4 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c128_i32_16 : BitVec 32 := 128#32
  let v46 : BitVec 32 := Scalar.muli v45 c128_i32_16
  let v47 : BitVec 32 := v46
  let v64 : Index := Scalar.indexCast v47
  let c256 : Index := 256#32
  ![v64.toNat, 256]
def k0_off5 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c128_i32_16 : BitVec 32 := 128#32
  let v46 : BitVec 32 := Scalar.muli v45 c128_i32_16
  let v47 : BitVec 32 := v46
  let v66 : Index := Scalar.indexCast v47
  let c384 : Index := 384#32
  ![v66.toNat, 384]
def k0_off6 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c1_i32_17 : BitVec 32 := 1#32
  let v48 : BitVec 32 := Scalar.subi v45 c1_i32_17
  let c0_i32_18 : BitVec 32 := 0#32
  let v49 : BitVec 32 := Scalar.maxsi v48 c0_i32_18
  let c128_i32_19 : BitVec 32 := 128#32
  let v50 : BitVec 32 := Scalar.muli v49 c128_i32_19
  let v51 : BitVec 32 := v50
  let v69 : Index := Scalar.indexCast v51
  let c0_27 : Index := 0#32
  ![v69.toNat, 0]
def k0_off7 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c128_i32_16 : BitVec 32 := 128#32
  let v46 : BitVec 32 := Scalar.muli v45 c128_i32_16
  let v47 : BitVec 32 := v46
  let v74 : Index := Scalar.indexCast v47
  let c0_30 : Index := 0#32
  ![v74.toNat, 0]
def k0_off8 (k0_t1 : Fin k0_t1_loop.trips) (c0_i32_15 : BitVec 32) : Fin 2 → Nat :=
  let c0_i32_11 : BitVec 32 := 0#32
  let c1_i32_13 : BitVec 32 := 1#32
  let arg7 : BitVec 32 := Scf.iv c0_i32_11 c1_i32_13 k0_t1
  let c8_i32 : BitVec 32 := 8#32
  let v44 : BitVec 32 := Scalar.muli arg7 c8_i32
  let v45 : BitVec 32 := Scalar.addi v44 c0_i32_15
  let c1_i32_20 : BitVec 32 := 1#32
  let v52 : BitVec 32 := Scalar.addi v45 c1_i32_20
  let c15_i32 : BitVec 32 := 15#32
  let v53 : BitVec 32 := Scalar.minsi v52 c15_i32
  let c128_i32_21 : BitVec 32 := 128#32
  let v54 : BitVec 32 := Scalar.muli v53 c128_i32_21
  let v55 : BitVec 32 := v54
  let v79 : Index := Scalar.indexCast v55
  let c0_33 : Index := 0#32
  ![v79.toNat, 0]
def k0_mult4 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_38 : BitVec 32 := 8#32
  let v94 : BitVec 32 := Scalar.muli arg7 c8_i32_38
  let c1_i32_39 : BitVec 32 := 1#32
  let v95 : BitVec 32 := Scalar.addi v94 c1_i32_39
  let c128_i32_40 : BitVec 32 := 128#32
  let v96 : BitVec 32 := Scalar.muli v95 c128_i32_40
  v96
def k0_mult5 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_38 : BitVec 32 := 8#32
  let v94 : BitVec 32 := Scalar.muli arg7 c8_i32_38
  let c1_i32_39 : BitVec 32 := 1#32
  let v95 : BitVec 32 := Scalar.addi v94 c1_i32_39
  let c1_i32_41 : BitVec 32 := 1#32
  let v98 : BitVec 32 := Scalar.subi v95 c1_i32_41
  let c0_i32_42 : BitVec 32 := 0#32
  let v99 : BitVec 32 := Scalar.maxsi v98 c0_i32_42
  let c128_i32_43 : BitVec 32 := 128#32
  let v100 : BitVec 32 := Scalar.muli v99 c128_i32_43
  v100
def k0_mult6 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_38 : BitVec 32 := 8#32
  let v94 : BitVec 32 := Scalar.muli arg7 c8_i32_38
  let c1_i32_39 : BitVec 32 := 1#32
  let v95 : BitVec 32 := Scalar.addi v94 c1_i32_39
  let c1_i32_44 : BitVec 32 := 1#32
  let v102 : BitVec 32 := Scalar.addi v95 c1_i32_44
  let c15_i32_45 : BitVec 32 := 15#32
  let v103 : BitVec 32 := Scalar.minsi v102 c15_i32_45
  let c128_i32_46 : BitVec 32 := 128#32
  let v104 : BitVec 32 := Scalar.muli v103 c128_i32_46
  v104
def k0_mult7 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_68 : BitVec 32 := 8#32
  let v144 : BitVec 32 := Scalar.muli arg7 c8_i32_68
  let c2_i32_69 : BitVec 32 := 2#32
  let v145 : BitVec 32 := Scalar.addi v144 c2_i32_69
  let c128_i32_70 : BitVec 32 := 128#32
  let v146 : BitVec 32 := Scalar.muli v145 c128_i32_70
  v146
def k0_mult8 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_68 : BitVec 32 := 8#32
  let v144 : BitVec 32 := Scalar.muli arg7 c8_i32_68
  let c2_i32_69 : BitVec 32 := 2#32
  let v145 : BitVec 32 := Scalar.addi v144 c2_i32_69
  let c1_i32_71 : BitVec 32 := 1#32
  let v148 : BitVec 32 := Scalar.subi v145 c1_i32_71
  let c0_i32_72 : BitVec 32 := 0#32
  let v149 : BitVec 32 := Scalar.maxsi v148 c0_i32_72
  let c128_i32_73 : BitVec 32 := 128#32
  let v150 : BitVec 32 := Scalar.muli v149 c128_i32_73
  v150
def k0_mult9 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_68 : BitVec 32 := 8#32
  let v144 : BitVec 32 := Scalar.muli arg7 c8_i32_68
  let c2_i32_69 : BitVec 32 := 2#32
  let v145 : BitVec 32 := Scalar.addi v144 c2_i32_69
  let c1_i32_74 : BitVec 32 := 1#32
  let v152 : BitVec 32 := Scalar.addi v145 c1_i32_74
  let c15_i32_75 : BitVec 32 := 15#32
  let v153 : BitVec 32 := Scalar.minsi v152 c15_i32_75
  let c128_i32_76 : BitVec 32 := 128#32
  let v154 : BitVec 32 := Scalar.muli v153 c128_i32_76
  v154
def k0_mult10 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_98 : BitVec 32 := 8#32
  let v194 : BitVec 32 := Scalar.muli arg7 c8_i32_98
  let c3_i32_99 : BitVec 32 := 3#32
  let v195 : BitVec 32 := Scalar.addi v194 c3_i32_99
  let c128_i32_100 : BitVec 32 := 128#32
  let v196 : BitVec 32 := Scalar.muli v195 c128_i32_100
  v196
def k0_mult11 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_98 : BitVec 32 := 8#32
  let v194 : BitVec 32 := Scalar.muli arg7 c8_i32_98
  let c3_i32_99 : BitVec 32 := 3#32
  let v195 : BitVec 32 := Scalar.addi v194 c3_i32_99
  let c1_i32_101 : BitVec 32 := 1#32
  let v198 : BitVec 32 := Scalar.subi v195 c1_i32_101
  let c0_i32_102 : BitVec 32 := 0#32
  let v199 : BitVec 32 := Scalar.maxsi v198 c0_i32_102
  let c128_i32_103 : BitVec 32 := 128#32
  let v200 : BitVec 32 := Scalar.muli v199 c128_i32_103
  v200
def k0_mult12 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_98 : BitVec 32 := 8#32
  let v194 : BitVec 32 := Scalar.muli arg7 c8_i32_98
  let c3_i32_99 : BitVec 32 := 3#32
  let v195 : BitVec 32 := Scalar.addi v194 c3_i32_99
  let c1_i32_104 : BitVec 32 := 1#32
  let v202 : BitVec 32 := Scalar.addi v195 c1_i32_104
  let c15_i32_105 : BitVec 32 := 15#32
  let v203 : BitVec 32 := Scalar.minsi v202 c15_i32_105
  let c128_i32_106 : BitVec 32 := 128#32
  let v204 : BitVec 32 := Scalar.muli v203 c128_i32_106
  v204
def k0_mult13 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_128 : BitVec 32 := 8#32
  let v244 : BitVec 32 := Scalar.muli arg7 c8_i32_128
  let c4_i32_129 : BitVec 32 := 4#32
  let v245 : BitVec 32 := Scalar.addi v244 c4_i32_129
  let c128_i32_130 : BitVec 32 := 128#32
  let v246 : BitVec 32 := Scalar.muli v245 c128_i32_130
  v246
def k0_mult14 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_128 : BitVec 32 := 8#32
  let v244 : BitVec 32 := Scalar.muli arg7 c8_i32_128
  let c4_i32_129 : BitVec 32 := 4#32
  let v245 : BitVec 32 := Scalar.addi v244 c4_i32_129
  let c1_i32_131 : BitVec 32 := 1#32
  let v248 : BitVec 32 := Scalar.subi v245 c1_i32_131
  let c0_i32_132 : BitVec 32 := 0#32
  let v249 : BitVec 32 := Scalar.maxsi v248 c0_i32_132
  let c128_i32_133 : BitVec 32 := 128#32
  let v250 : BitVec 32 := Scalar.muli v249 c128_i32_133
  v250
def k0_mult15 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_128 : BitVec 32 := 8#32
  let v244 : BitVec 32 := Scalar.muli arg7 c8_i32_128
  let c4_i32_129 : BitVec 32 := 4#32
  let v245 : BitVec 32 := Scalar.addi v244 c4_i32_129
  let c1_i32_134 : BitVec 32 := 1#32
  let v252 : BitVec 32 := Scalar.addi v245 c1_i32_134
  let c15_i32_135 : BitVec 32 := 15#32
  let v253 : BitVec 32 := Scalar.minsi v252 c15_i32_135
  let c128_i32_136 : BitVec 32 := 128#32
  let v254 : BitVec 32 := Scalar.muli v253 c128_i32_136
  v254
def k0_mult16 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_158 : BitVec 32 := 8#32
  let v294 : BitVec 32 := Scalar.muli arg7 c8_i32_158
  let c5_i32 : BitVec 32 := 5#32
  let v295 : BitVec 32 := Scalar.addi v294 c5_i32
  let c128_i32_159 : BitVec 32 := 128#32
  let v296 : BitVec 32 := Scalar.muli v295 c128_i32_159
  v296
def k0_mult17 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_158 : BitVec 32 := 8#32
  let v294 : BitVec 32 := Scalar.muli arg7 c8_i32_158
  let c5_i32 : BitVec 32 := 5#32
  let v295 : BitVec 32 := Scalar.addi v294 c5_i32
  let c1_i32_160 : BitVec 32 := 1#32
  let v298 : BitVec 32 := Scalar.subi v295 c1_i32_160
  let c0_i32_161 : BitVec 32 := 0#32
  let v299 : BitVec 32 := Scalar.maxsi v298 c0_i32_161
  let c128_i32_162 : BitVec 32 := 128#32
  let v300 : BitVec 32 := Scalar.muli v299 c128_i32_162
  v300
def k0_mult18 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_158 : BitVec 32 := 8#32
  let v294 : BitVec 32 := Scalar.muli arg7 c8_i32_158
  let c5_i32 : BitVec 32 := 5#32
  let v295 : BitVec 32 := Scalar.addi v294 c5_i32
  let c1_i32_163 : BitVec 32 := 1#32
  let v302 : BitVec 32 := Scalar.addi v295 c1_i32_163
  let c15_i32_164 : BitVec 32 := 15#32
  let v303 : BitVec 32 := Scalar.minsi v302 c15_i32_164
  let c128_i32_165 : BitVec 32 := 128#32
  let v304 : BitVec 32 := Scalar.muli v303 c128_i32_165
  v304
def k0_mult19 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_187 : BitVec 32 := 8#32
  let v344 : BitVec 32 := Scalar.muli arg7 c8_i32_187
  let c6_i32 : BitVec 32 := 6#32
  let v345 : BitVec 32 := Scalar.addi v344 c6_i32
  let c128_i32_188 : BitVec 32 := 128#32
  let v346 : BitVec 32 := Scalar.muli v345 c128_i32_188
  v346
def k0_mult20 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_187 : BitVec 32 := 8#32
  let v344 : BitVec 32 := Scalar.muli arg7 c8_i32_187
  let c6_i32 : BitVec 32 := 6#32
  let v345 : BitVec 32 := Scalar.addi v344 c6_i32
  let c1_i32_189 : BitVec 32 := 1#32
  let v348 : BitVec 32 := Scalar.subi v345 c1_i32_189
  let c0_i32_190 : BitVec 32 := 0#32
  let v349 : BitVec 32 := Scalar.maxsi v348 c0_i32_190
  let c128_i32_191 : BitVec 32 := 128#32
  let v350 : BitVec 32 := Scalar.muli v349 c128_i32_191
  v350
def k0_mult21 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_187 : BitVec 32 := 8#32
  let v344 : BitVec 32 := Scalar.muli arg7 c8_i32_187
  let c6_i32 : BitVec 32 := 6#32
  let v345 : BitVec 32 := Scalar.addi v344 c6_i32
  let c1_i32_192 : BitVec 32 := 1#32
  let v352 : BitVec 32 := Scalar.addi v345 c1_i32_192
  let c15_i32_193 : BitVec 32 := 15#32
  let v353 : BitVec 32 := Scalar.minsi v352 c15_i32_193
  let c128_i32_194 : BitVec 32 := 128#32
  let v354 : BitVec 32 := Scalar.muli v353 c128_i32_194
  v354
def k0_mult22 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_216 : BitVec 32 := 8#32
  let v394 : BitVec 32 := Scalar.muli arg7 c8_i32_216
  let c7_i32 : BitVec 32 := 7#32
  let v395 : BitVec 32 := Scalar.addi v394 c7_i32
  let c128_i32_217 : BitVec 32 := 128#32
  let v396 : BitVec 32 := Scalar.muli v395 c128_i32_217
  v396
def k0_mult23 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_216 : BitVec 32 := 8#32
  let v394 : BitVec 32 := Scalar.muli arg7 c8_i32_216
  let c7_i32 : BitVec 32 := 7#32
  let v395 : BitVec 32 := Scalar.addi v394 c7_i32
  let c1_i32_218 : BitVec 32 := 1#32
  let v398 : BitVec 32 := Scalar.subi v395 c1_i32_218
  let c0_i32_219 : BitVec 32 := 0#32
  let v399 : BitVec 32 := Scalar.maxsi v398 c0_i32_219
  let c128_i32_220 : BitVec 32 := 128#32
  let v400 : BitVec 32 := Scalar.muli v399 c128_i32_220
  v400
def k0_mult24 (k0_t1 : Fin k0_t1_loop.trips) : BitVec 32 :=
  let c0_i32_11 : BitVec 32 := 0#32
  let c1_i32_13 : BitVec 32 := 1#32
  let arg7 : BitVec 32 := Scf.iv c0_i32_11 c1_i32_13 k0_t1
  let c8_i32_216 : BitVec 32 := 8#32
  let v394 : BitVec 32 := Scalar.muli arg7 c8_i32_216
  let c7_i32 : BitVec 32 := 7#32
  let v395 : BitVec 32 := Scalar.addi v394 c7_i32
  let c1_i32_221 : BitVec 32 := 1#32
  let v402 : BitVec 32 := Scalar.addi v395 c1_i32_221
  let c15_i32_222 : BitVec 32 := 15#32
  let v403 : BitVec 32 := Scalar.minsi v402 c15_i32_222
  let c128_i32_223 : BitVec 32 := 128#32
  let v404 : BitVec 32 := Scalar.muli v403 c128_i32_223
  v404
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WindowIdeal.lean ====
variable {F : FTy → Type} [FloatOps F] [Named F]
def κ : String → Option EReal := fun
  | "log2e" => some (((Real.log 2)⁻¹ : ℝ) : EReal)
  | "mask" => some ⊥
  | "s" => some (((Real.sqrt 128)⁻¹ * (Real.log 2)⁻¹ : ℝ) : EReal)
  | _ => none
-- ==== WindowRefIdeal.lean ====
abbrev S8192x2560 : Shape := ⟨2, ![8192, 2560]⟩
abbrev S8192x6656 : Shape := ⟨2, ![8192, 6656]⟩
abbrev S16 : Shape := ⟨1, ![16]⟩
abbrev S8192x2048 : Shape := ⟨2, ![8192, 2048]⟩
abbrev S4x2048x4x4x128 : Shape := ⟨5, ![4, 2048, 4, 4, 128]⟩
abbrev S8192x512 : Shape := ⟨2, ![8192, 512]⟩
abbrev S4x2048x4x128 : Shape := ⟨4, ![4, 2048, 4, 128]⟩
abbrev S4x4x2048x2048x4 : Shape := ⟨5, ![4, 4, 2048, 2048, 4]⟩
abbrev S4x4x4x2048x2048 : Shape := ⟨5, ![4, 4, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x1x2048x2048 : Shape := ⟨5, ![1, 1, 1, 2048, 2048]⟩
abbrev S4x4 : Shape := ⟨2, ![4, 4]⟩
abbrev S1x4x4x1x1 : Shape := ⟨5, ![1, 4, 4, 1, 1]⟩
abbrev S4x4x4x2048x1 : Shape := ⟨5, ![4, 4, 4, 2048, 1]⟩
abbrev S4x4x4x2048x2049 : Shape := ⟨5, ![4, 4, 4, 2048, 2049]⟩
abbrev S4x4x4x2048 : Shape := ⟨4, ![4, 4, 4, 2048]⟩
abbrev S4x4x128x4x2048 : Shape := ⟨5, ![4, 4, 128, 4, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x6656, .bf16⟩
  | .hbm, ⟨2, _⟩ => ⟨S16, .f32⟩
  | .hbm, ⟨3, _⟩ => ⟨S8192x2048, .bf16⟩
  | .hbm, ⟨4, _⟩ => ⟨S8192x2048, .f32⟩
  | .hbm, ⟨5, _⟩ => ⟨S4x2048x4x4x128, .f32⟩
  | .hbm, ⟨6, _⟩ => ⟨S8192x512, .bf16⟩
  | .hbm, ⟨7, _⟩ => ⟨S8192x512, .f32⟩
  | .hbm, ⟨8, _⟩ => ⟨S4x2048x4x128, .f32⟩
  | .hbm, ⟨9, _⟩ => ⟨S8192x512, .bf16⟩
  | .hbm, ⟨10, _⟩ => ⟨S8192x512, .f32⟩
  | .hbm, ⟨11, _⟩ => ⟨S4x2048x4x128, .f32⟩
  | .hbm, ⟨12, _⟩ => ⟨S4x4x2048x2048x4, .f32⟩
  | .hbm, ⟨13, _⟩ => ⟨S4x4x4x2048x2048, .f32⟩
  | .hbm, ⟨14, _⟩ => ⟨S_, .f32⟩
  | .hbm, ⟨15, _⟩ => ⟨S_, .f32⟩
  | .hbm, ⟨16, _⟩ => ⟨S4x4x4x2048x2048, .f32⟩
  | .hbm, ⟨17, _⟩ => ⟨S4x4x4x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S1x1x1x2048x2048, .i1⟩
  | .hbm, ⟨29, _⟩ => ⟨S_, .f32⟩
  | .hbm, ⟨30, _⟩ => ⟨S_, .f32⟩
  | .hbm, ⟨31, _⟩ => ⟨S4x4x4x2048x2048, .i1⟩
  | .hbm, ⟨32, _⟩ => ⟨S4x4x4x2048x2048, .f32⟩
  | .hbm, ⟨33, _⟩ => ⟨S4x4x4x2048x2048, .f32⟩
  | .hbm, ⟨34, _⟩ => ⟨S4x4, .f32⟩
  | .hbm, ⟨35, _⟩ => ⟨S1x4x4x1x1, .f32⟩
  | .hbm, ⟨36, _⟩ => ⟨S4x4x4x2048x1, .f32⟩
  | .hbm, ⟨37, _⟩ => ⟨S4x4x4x2048x2049, .f32⟩
  | .hbm, ⟨38, _⟩ => ⟨S_, .f32⟩
  | .hbm, ⟨39, _⟩ => ⟨S4x4x4x2048, .f32⟩
  | .hbm, ⟨40, _⟩ => ⟨S_, .f32⟩
  | .hbm, ⟨41, _⟩ => ⟨S4x4x4x2048, .f32⟩
  | .hbm, ⟨42, _⟩ => ⟨S4x4x4x2048, .f32⟩
  | .hbm, ⟨43, _⟩ => ⟨S4x4x4x2048x1, .f32⟩
  | .hbm, ⟨44, _⟩ => ⟨S4x4x4x2048x2049, .f32⟩
  | .hbm, ⟨45, _⟩ => ⟨S4x4x4x2048x2049, .f32⟩
  | .hbm, ⟨46, _⟩ => ⟨S4x4x4x2048x2049, .f32⟩
  | .hbm, ⟨47, _⟩ => ⟨S_, .f32⟩
  | .hbm, ⟨48, _⟩ => ⟨S4x4x4x2048, .f32⟩
  | .hbm, ⟨49, _⟩ => ⟨S4x4x4x2048x1, .f32⟩
  | .hbm, ⟨50, _⟩ => ⟨S4x4x4x2048x2049, .f32⟩
  | .hbm, ⟨51, _⟩ => ⟨S4x4x4x2048x2049, .f32⟩
  | .hbm, ⟨52, _⟩ => ⟨S4x4x4x2048x2048, .f32⟩
  | .hbm, ⟨53, _⟩ => ⟨S4x4x128x4x2048, .f32⟩
  | .hbm, ⟨54, _⟩ => ⟨S4x2048x4x4x128, .f32⟩
  | .hbm, ⟨55, _⟩ => ⟨S8192x2048, .f32⟩
  | .hbm, ⟨56, _⟩ => ⟨S8192x2048, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.Spec.lean ====
module

public import Idealize.ShloMosaic.Lib.Pointwise

/-! The mathematics of one row of the cross-attention block, over the extended reals: the norm, the attention
    scores, the softmax in the kernel's form and in the reference's, the router. No program is mentioned here. -/

set_option maxRecDepth 16384

@[expose] public section

noncomputable section

open Idealize.ShloMosaic

namespace Cert.Cross

/-! ## Extended reals that are reals -/

/-- `x` is a real number. -/
def Re (x : EReal) : Prop := ∃ r : ℝ, x = (r : EReal)

theorem re_coe (r : ℝ) : Re (r : EReal) := ⟨r, rfl⟩
theorem re_zero : Re 0 := ⟨0, rfl⟩

theorem Re.add {x y : EReal} : Re x → Re y → Re (x + y) := by
  rintro ⟨a, rfl⟩ ⟨b, rfl⟩; exact ⟨a + b, (EReal.coe_add a b).symm⟩

theorem Re.mul {x y : EReal} : Re x → Re y → Re (x * y) := by
  rintro ⟨a, rfl⟩ ⟨b, rfl⟩; exact ⟨a * b, (EReal.coe_mul a b).symm⟩

theorem Re.sub_self {x : EReal} : Re x → x - x = 0 := by
  rintro ⟨a, rfl⟩; rw [← EReal.coe_sub, _root_.sub_self, EReal.coe_zero]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Re.sum {n : ℕ} {f : Fin n → EReal} (h : ∀ i, Re (f i)) : Re (∑ i, f i) := by
  choose r hr using h
  exact ⟨∑ i, r i, by rw [← coe_sum]; exact Finset.sum_congr rfl fun i _ => hr i⟩

/-- A number whose absolute value is below infinity is real. -/
theorem re_of_abs_lt {x : EReal} (h : max x (-x) < ⊤) : Re x := by
  induction x with
  | bot => simp at h
  | coe r => exact ⟨r, rfl⟩
  | top => simp at h

/-! ## The constants -/

theorem ofBits_len : Ideal.ofBits .f32 0x45800000#32 = ((4096 : ℝ) : EReal) := by
  simp [Ideal.ofBits, Ideal.ieee]
  rw [← EReal.coe_mul]; norm_num

theorem ofBits_eps : ∃ e : ℝ, 0 < e ∧ Ideal.ofBits .f32 0x358637BD#32 = (e : EReal) := by
  refine ⟨_, ?_, by simp [Ideal.ofBits, Ideal.ieee]; rfl⟩
  norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-! ## The norm -/

/-- A row `x` over the root of its mean square, times the gain `g`. -/
def nrm (x g : Fin 4096 → EReal) (k : Fin 4096) : EReal :=
  x k * Ideal.rsqrt (Ideal.div (∑ l, x l * x l) (Ideal.ofBits .f32 0x45800000#32) + Ideal.ofBits .f32 0x358637BD#32)
    * g k

theorem mul_self_nonneg (x : EReal) : 0 ≤ x * x := by
  induction x with
  | bot => simp
  | coe r => rw [← EReal.coe_mul]; exact_mod_cast _root_.mul_self_nonneg r
  | top => simp

theorem mul_self_top {x : EReal} (h : ¬ Re x) : x * x = ⊤ := by
  induction x with
  | bot => simp
  | coe r => exact absurd ⟨r, rfl⟩ h
  | top => simp

/-- The normalised row is real whatever the row is: where an entry is infinite the mean square is infinite and its
    inverse root is `0`. -/
theorem nrm_re (x g : Fin 4096 → EReal) (k : Fin 4096) (hg : Re (g k)) : Re (nrm x g k) := by
  obtain ⟨e, he, hE⟩ := ofBits_eps
  refine Re.mul ?_ hg
  rw [ofBits_len, hE, Ideal.div_coe (by norm_num)]
  by_cases hx : ∀ l, Re (x l)
  · choose r hr using hx
    have hs : ∑ l, x l * x l = ((∑ l, r l * r l : ℝ) : EReal) := by
      rw [← coe_sum]; exact Finset.sum_congr rfl fun l _ => by rw [hr l, EReal.coe_mul]
    rw [hs, ← EReal.coe_mul, ← EReal.coe_add, Ideal.rsqrt_coe]
    have h0 : 0 ≤ ∑ l, r l * r l := Finset.sum_nonneg fun l _ => _root_.mul_self_nonneg (r l)
    have hp : 0 < (∑ l, r l * r l) * (1 / 4096) + e := by positivity
    rw [if_neg (not_lt.2 hp.le), if_neg hp.ne', hr k]
    exact (re_coe _).mul (re_coe _)
  · obtain ⟨l₀, hl⟩ := not_forall.1 hx
    have ht : ∑ l, x l * x l = ⊤ := by
      refine top_le_iff.1 ?_
      rw [← mul_self_top hl]
      exact Finset.single_le_sum (f := fun l => x l * x l) (fun l _ => mul_self_nonneg (x l)) (Finset.mem_univ l₀)
    rw [ht, EReal.top_mul_coe_of_pos (by norm_num), EReal.top_add_coe, Ideal.rsqrt_top, mul_zero]
    exact re_zero

/-! ## The softmax of a row of real scores -/

/-- The largest of the scores, from `-∞`. -/
def mx {n : ℕ} (s : Fin n → EReal) : EReal := Finset.univ.fold max (Ideal.ofBits .f32 0xFF800000#32) s

/-- The softmax as a product with the reciprocal of the sum. -/
def smK {n : ℕ} (s : Fin n → EReal) (j : Fin n) : EReal :=
  Ideal.exp (s j - mx s) * Ideal.div 1 (∑ l, Ideal.exp (s l - mx s))

/-- The softmax as a quotient, its maximum taken once more against `-∞`. -/
def smR {n : ℕ} (s : Fin n → EReal) (j : Fin n) : EReal :=
  Ideal.div (Ideal.exp (s j - max (Ideal.ofBits .f32 0xFF800000#32) (mx s)))
    (∑ l, Ideal.exp (s l - max (Ideal.ofBits .f32 0xFF800000#32) (mx s)))

theorem mx_eq_sup {n : ℕ} (s : Fin n → EReal) : mx s = Finset.univ.sup s := by
  rw [mx, ofBits_neg_inf]; rfl

theorem max_mx {n : ℕ} (s : Fin n → EReal) : max (Ideal.ofBits .f32 0xFF800000#32) (mx s) = mx s := by
  rw [ofBits_neg_inf]; exact max_eq_right bot_le

theorem mx_re {n : ℕ} (hn : 0 < n) (s : Fin n → EReal) (hs : ∀ j, Re (s j)) : Re (mx s) := by
  rw [mx_eq_sup]
  obtain ⟨i, _, hi⟩ := Finset.exists_mem_eq_sup Finset.univ ⟨(⟨0, hn⟩ : Fin n), Finset.mem_univ _⟩ s
  rw [hi]; exact hs i

theorem sum_exp {n : ℕ} (hn : 0 < n) (s : Fin n → EReal) (hs : ∀ j, Re (s j)) {M : EReal} (hM : Re M) :
    ∃ r : ℝ, r ≠ 0 ∧ ∑ l, Ideal.exp (s l - M) = (r : EReal) := by
  choose t ht using hs
  obtain ⟨m, rfl⟩ := hM
  refine ⟨∑ l, Real.exp (t l - m), ?_, ?_⟩
  · exact (Finset.sum_pos (fun l _ => Real.exp_pos _) ⟨(⟨0, hn⟩ : Fin n), Finset.mem_univ _⟩).ne'
  · rw [← coe_sum]
    exact Finset.sum_congr rfl fun l _ => by rw [ht l, ← EReal.coe_sub, Ideal.exp_coe]

/-- On real scores the two forms agree. -/
theorem smK_eq_smR {n : ℕ} (s : Fin n → EReal) (hs : ∀ j, Re (s j)) (j : Fin n) : smK s j = smR s j := by
  have hn : 0 < n := Nat.lt_of_le_of_lt (Nat.zero_le _) j.isLt
  obtain ⟨r, hr, hsum⟩ := sum_exp hn s hs (mx_re hn s hs)
  rw [smK, smR, max_mx, hsum, Ideal.div_coe hr, Ideal.div_coe hr, one_mul]

/-- Scores followed by `-∞`s: the padding moves neither the maximum nor the sum. -/
theorem smK_pad (t : Fin 128 → EReal) (s : Fin 16 → EReal) (hs : ∀ e, Re (s e))
    (hlo : ∀ e : Fin 16, t ⟨e, by omega⟩ = s e) (hhi : ∀ l : Fin 128, 16 ≤ (l : ℕ) → t l = ⊥) (e : Fin 16) :
    smK t ⟨e, by omega⟩ = smR s e := by
  have hm : mx t = mx s := by
    rw [mx_eq_sup, mx_eq_sup]
    apply le_antisymm
    · refine Finset.sup_le fun l _ => ?_
      by_cases h : (l : ℕ) < 16
      · exact (hlo ⟨l, h⟩).le.trans (Finset.le_sup (Finset.mem_univ _))
      · rw [hhi l (by omega)]; exact bot_le
    · exact Finset.sup_le fun i _ => (hlo i).ge.trans (Finset.le_sup (Finset.mem_univ _))
  obtain ⟨M, hM⟩ := mx_re (by norm_num) s hs
  have hsum : ∑ l, Ideal.exp (t l - mx t) = ∑ l, Ideal.exp (s l - mx s) := by
    rw [hm, Fin.sum_univ_add (a := 16) (b := 112)]
    have h2 : ∑ i : Fin 112, Ideal.exp (t (Fin.natAdd 16 i) - mx s) = 0 := by
      refine Finset.sum_eq_zero fun i _ => ?_
      rw [hhi (Fin.natAdd 16 i) (by simp), hM, EReal.bot_sub, Ideal.exp_bot]
    rw [h2, add_zero]
    exact Finset.sum_congr rfl fun i _ => by rw [show t (Fin.castAdd 112 i) = s i from hlo i]
  rw [← smK_eq_smR s hs, smK, smK, hsum, hm, hlo]

/-! ## One row through the block -/

/-- The scale of the scores. -/
def scl : EReal := (((Real.sqrt 128)⁻¹ : ℝ) : EReal)

/-- The score of a query row against key row `K j`, in the head whose columns start at `o`. -/
def score (q : Fin 512 → EReal) (K : Fin 256 → Fin 512 → EReal) (h : Fin 4) (j : Fin 256) : EReal :=
  (∑ d : Fin 128, q ⟨h * 128 + d, by omega⟩ * K j ⟨h * 128 + d, by omega⟩) * scl

/-- The query row: the normalised row times the query weights. -/
def qry (x g : Fin 4096 → EReal) (wq : Fin 4096 → Fin 512 → EReal) (c : Fin 512) : EReal :=
  ∑ k, nrm x g k * wq k c

/-- The attention's output row, head by head, with the softmax `sm`. -/
def att (sm : (Fin 256 → EReal) → Fin 256 → EReal) (q : Fin 512 → EReal) (K V : Fin 256 → Fin 512 → EReal)
    (c : Fin 512) : EReal :=
  ∑ j, sm (score q K ⟨c / 128, by omega⟩) j * V j c

/-- The row after the block. -/
def out (sm : (Fin 256 → EReal) → Fin 256 → EReal) (x g : Fin 4096 → EReal) (wq : Fin 4096 → Fin 512 → EReal)
    (K V : Fin 256 → Fin 512 → EReal) (wo : Fin 512 → Fin 4096 → EReal) (n : Fin 4096) : EReal :=
  x n + ∑ c, att sm (qry x g wq) K V c * wo c n

theorem qry_re {x g : Fin 4096 → EReal} {wq : Fin 4096 → Fin 512 → EReal} (hg : ∀ k, Re (g k)) (hw : ∀ k c, Re (wq k c))
    (c : Fin 512) : Re (qry x g wq c) :=
  Re.sum fun k => (nrm_re x g k (hg k)).mul (hw k c)

theorem score_re {q : Fin 512 → EReal} {K : Fin 256 → Fin 512 → EReal} (hq : ∀ c, Re (q c)) (hK : ∀ j c, Re (K j c))
    (h : Fin 4) (j : Fin 256) : Re (score q K h j) :=
  (Re.sum fun _ => (hq _).mul (hK _ _)).mul (re_coe _)

/-- With real gains, query weights and keys, the block's row is the same with either softmax. -/
theorem out_eq {x g : Fin 4096 → EReal} {wq : Fin 4096 → Fin 512 → EReal} {K V : Fin 256 → Fin 512 → EReal}
    {wo : Fin 512 → Fin 4096 → EReal} (hg : ∀ k, Re (g k)) (hw : ∀ k c, Re (wq k c)) (hK : ∀ j c, Re (K j c)) (n : Fin 4096) :
    out smK x g wq K V wo n = out smR x g wq K V wo n := by
  unfold out
  congr 1
  refine Finset.sum_congr rfl fun c _ => ?_
  unfold att
  congr 1
  exact Finset.sum_congr rfl fun j _ => by rw [smK_eq_smR _ (score_re (qry_re hg hw) hK _)]

/-! ## The router -/

/-- The router's logit of expert `e`. -/
def lgt (h : Fin 4096 → EReal) (w : Fin 4096 → Fin 16 → EReal) (e : Fin 16) : EReal := ∑ k, h k * w k e

theorem lgt_re {h : Fin 4096 → EReal} {w : Fin 4096 → Fin 16 → EReal} (hh : ∀ k, Re (h k)) (hw : ∀ k e, Re (w k e))
    (e : Fin 16) : Re (lgt h w e) :=
  Re.sum fun k => (hh k).mul (hw k e)

/-- The padded weights: the router's, then what rounding them to half the width dropped, then zeros. -/
def wpad (w : Fin 4096 → Fin 16 → EReal) (k : Fin 4096) (l : Fin 128) : EReal :=
  if h : (l : ℕ) < 16 then w k ⟨l, h⟩
  else if h : (l : ℕ) - 16 < 16 then w k ⟨(l : ℕ) - 16, h⟩ - w k ⟨(l : ℕ) - 16, h⟩ else 0

/-- The kernel's logits: the high products, the high products 16 lanes further on, the low products; `-∞` from lane 16. -/
def lgtK (h : Fin 4096 → EReal) (W : Fin 4096 → Fin 128 → EReal) (l : Fin 128) : EReal :=
  if (l : ℕ) < 16 then
    ((∑ k, h k * W k l) + ∑ k, h k * W k ⟨((l : ℕ) + 128 - 112) % 128, by omega⟩) + ∑ k, (h k - h k) * W k l
  else ⊥

theorem lgtK_lo {h : Fin 4096 → EReal} {w : Fin 4096 → Fin 16 → EReal} (hh : ∀ k, Re (h k)) (hw : ∀ k e, Re (w k e))
    (e : Fin 16) : lgtK h (wpad w) ⟨e, by omega⟩ = lgt h w e := by
  have he := e.isLt
  rw [lgtK, if_pos (by simpa using he)]
  have h1 : ∑ k, h k * wpad w k ⟨((e : ℕ) + 128 - 112) % 128, by omega⟩ = 0 := by
    refine Finset.sum_eq_zero fun k _ => ?_
    have h16 : ((e : ℕ) + 128 - 112) % 128 = e + 16 := by omega
    have : wpad w k ⟨((e : ℕ) + 128 - 112) % 128, by omega⟩ = 0 := by
      simp only [wpad, h16]
      rw [dif_neg (by omega), dif_pos (by omega)]
      exact (hw _ _).sub_self
    rw [this, mul_zero]
  have h2 : ∑ k, (h k - h k) * wpad w k ⟨e, by omega⟩ = 0 :=
    Finset.sum_eq_zero fun k _ => by rw [(hh k).sub_self, zero_mul]
  rw [show (∑ k, h k * wpad w k ⟨(((⟨e, by omega⟩ : Fin 128) : ℕ) + 128 - 112) % 128, by omega⟩) = 0 from h1, h2, add_zero, add_zero]
  exact Finset.sum_congr rfl fun k _ => by simp only [wpad, dif_pos he]

/-- The affinities of a row, as the kernel computes them and as the reference does. -/
theorem aff_eq {h : Fin 4096 → EReal} {w : Fin 4096 → Fin 16 → EReal} (hh : ∀ k, Re (h k)) (hw : ∀ k e, Re (w k e))
    (e : Fin 16) : smK (lgtK h (wpad w)) ⟨e, by omega⟩ = smR (lgt h w) e :=
  smK_pad _ _ (lgt_re hh hw) (lgtK_lo hh hw) (fun l hl => by rw [lgtK, if_neg (by omega)]) e

end Cert.Cross

end

end
-- ==== Proof.Pay.lean ====
module

public import proofs.«01_k».proof.Proof.Gen.KernelIdeal.Skeleton
public import proofs.«01_k».proof.Proof.Spec

/-! What the block's stores hold, read at an index: each stage of the body is the row function of `Spec.lean`. -/

set_option maxRecDepth 16384

@[expose] public section

noncomputable section

open Idealize.ShloMosaic Idealize.ShloMosaic.TcCoe Idealize.SL.Sem
open Cert.KernelIdeal Cert.KernelIdeal.Gen

namespace Cert.Cross

theorem named_s : Named.named (F := Ideal) κ "s" (φ := .f32) 0x3DB504F3#32 = scl := rfl
theorem named_mask : Named.named (F := Ideal) κ "mask" (φ := .f32) 0xF149F2CA#32 = (⊥ : EReal) := rfl

/-! ## The queries -/

theorem pay2_at (x : FVec Ideal S256x4096 .f32) (g : FVec Ideal S1x4096 .f32) (w : FVec Ideal S4096x512 .bf16)
    (r : Fin 256) (c : Fin 512) :
    k0_pay2 (F := Ideal) x g w (ix2 r c) = qry (fun k => x (ix2 r k)) (fun k => g (ix2 0 k)) (fun k c => w (ix2 k c)) c := by
  pointwise [k0_pay2, qry, nrm]

theorem pay3_at (x : FVec Ideal S256x4096 .f32) (g : FVec Ideal S1x4096 .f32) (w : FVec Ideal S4096x512 .bf16)
    (r : Fin 256) (c : Fin 512) :
    k0_pay3 (F := Ideal) x g w (ix2 r c) = qry (fun k => x (ix2 r k)) (fun k => g (ix2 0 k)) (fun k c => w (ix2 k c)) c := by
  pointwise [k0_pay3, qry, nrm]

/-! ## The scores, head by head -/

theorem pay5_at (q : FVec Ideal S256x512 .bf16) (k : FVec Ideal S256x128 .bf16) (K : Fin 256 → Fin 512 → EReal)
    (hk : ∀ j d, k (ix2 j d) = K j ⟨0 * 128 + d, by omega⟩) (r j : Fin 256) :
    k0_pay5 (F := Ideal) q k (ix2 r j) = score (fun c => q (ix2 r c)) K 0 j := by
  pointwise [k0_pay5, score, named_s, hk]

theorem pay6_at (q : FVec Ideal S256x512 .bf16) (k : FVec Ideal S256x128 .bf16) (K : Fin 256 → Fin 512 → EReal)
    (hk : ∀ j d, k (ix2 j d) = K j ⟨1 * 128 + d, by omega⟩) (r j : Fin 256) :
    k0_pay6 (F := Ideal) q k (ix2 r j) = score (fun c => q (ix2 r c)) K 1 j := by
  pointwise [k0_pay6, score, named_s, hk]

theorem pay7_at (q : FVec Ideal S256x512 .bf16) (k : FVec Ideal S256x128 .bf16) (K : Fin 256 → Fin 512 → EReal)
    (hk : ∀ j d, k (ix2 j d) = K j ⟨2 * 128 + d, by omega⟩) (r j : Fin 256) :
    k0_pay7 (F := Ideal) q k (ix2 r j) = score (fun c => q (ix2 r c)) K 2 j := by
  pointwise [k0_pay7, score, named_s, hk]

theorem pay8_at (q : FVec Ideal S256x512 .bf16) (k : FVec Ideal S256x128 .bf16) (K : Fin 256 → Fin 512 → EReal)
    (hk : ∀ j d, k (ix2 j d) = K j ⟨3 * 128 + d, by omega⟩) (r j : Fin 256) :
    k0_pay8 (F := Ideal) q k (ix2 r j) = score (fun c => q (ix2 r c)) K 3 j := by
  pointwise [k0_pay8, score, named_s, hk]

theorem pay9_at (q : FVec Ideal S256x512 .f32) (k : FVec Ideal S256x128 .bf16) (K : Fin 256 → Fin 512 → EReal)
    (hk : ∀ j d, k (ix2 j d) = K j ⟨0 * 128 + d, by omega⟩) (r j : Fin 256) :
    k0_pay9 (F := Ideal) q k (ix2 r j) = score (fun c => q (ix2 r c)) K 0 j := by
  pointwise [k0_pay9, k0_pay4, score, named_s, hk]

theorem pay10_at (q : FVec Ideal S256x512 .f32) (k : FVec Ideal S256x128 .bf16) (K : Fin 256 → Fin 512 → EReal)
    (hk : ∀ j d, k (ix2 j d) = K j ⟨1 * 128 + d, by omega⟩) (r j : Fin 256) :
    k0_pay10 (F := Ideal) q k (ix2 r j) = score (fun c => q (ix2 r c)) K 1 j := by
  pointwise [k0_pay10, k0_pay4, score, named_s, hk]

theorem pay12_at (q : FVec Ideal S256x512 .f32) (k : FVec Ideal S256x128 .bf16) (K : Fin 256 → Fin 512 → EReal)
    (hk : ∀ j d, k (ix2 j d) = K j ⟨2 * 128 + d, by omega⟩) (r j : Fin 256) :
    k0_pay12 (F := Ideal) (k0_pay11 q) k (constant S256x256 .f32 0x00000000#32) (ix2 r j) = score (fun c => q (ix2 r c)) K 2 j := by
  pointwise [k0_pay12, k0_pay11, k0_pay4, score, named_s, hk]

theorem pay13_at (q : FVec Ideal S256x512 .f32) (k : FVec Ideal S256x128 .bf16) (K : Fin 256 → Fin 512 → EReal)
    (hk : ∀ j d, k (ix2 j d) = K j ⟨3 * 128 + d, by omega⟩) (r j : Fin 256) :
    k0_pay13 (F := Ideal) (k0_pay4 q) k (ix2 r j) = score (fun c => q (ix2 r c)) K 3 j := by
  pointwise [k0_pay13, k0_pay4, score, named_s, hk]

/-! ## The softmax of a head's scores -/

theorem pay14_at (s : FVec Ideal S256x256 .f32) (r j : Fin 256) :
    k0_pay14 (F := Ideal) s (ix2 r j) = smK (fun j => s (ix2 r j)) j := by
  pointwise [k0_pay14, smK, mx]

theorem pay15_at (s : FVec Ideal S256x256 .f32) (r j : Fin 256) :
    k0_pay15 (F := Ideal) s (ix2 r j) = smK (fun j => s (ix2 r j)) j := by
  pointwise [k0_pay15, smK, mx]

theorem pay16_at (s : FVec Ideal S256x256 .f32) (r j : Fin 256) :
    k0_pay16 (F := Ideal) s (ix2 r j) = smK (fun j => s (ix2 r j)) j := by
  pointwise [k0_pay16, smK, mx]

theorem pay18_at (s : FVec Ideal S256x256 .f32) (r j : Fin 256) :
    k0_pay18 (F := Ideal) s (k0_pay17 s) (ix2 r j) = smK (fun j => s (ix2 r j)) j := by
  pointwise [k0_pay18, k0_pay17, smK, mx]

theorem pay19_at (s : FVec Ideal S256x256 .f32) (r j : Fin 256) :
    k0_pay19 (F := Ideal) s (ix2 r j) = smK (fun j => s (ix2 r j)) j := by
  pointwise [k0_pay19, smK, mx]

theorem pay20_at (s : FVec Ideal S256x256 .f32) (r j : Fin 256) :
    k0_pay20 (F := Ideal) s (ix2 r j) = smK (fun j => s (ix2 r j)) j := by
  pointwise [k0_pay20, smK, mx]

theorem pay21_at (s : FVec Ideal S256x256 .f32) (r j : Fin 256) :
    k0_pay21 (F := Ideal) s (ix2 r j) = smK (fun j => s (ix2 r j)) j := by
  pointwise [k0_pay21, smK, mx]

theorem pay23_at (s : FVec Ideal S256x256 .f32) (r j : Fin 256) :
    k0_pay23 (F := Ideal) s (k0_pay22 s) (ix2 r j) = smK (fun j => s (ix2 r j)) j := by
  pointwise [k0_pay23, k0_pay22, smK, mx]

/-! ## The heads' outputs, side by side -/

/-- A column of head `h` reads that head's scores. -/
theorem att_at (sm : (Fin 256 → EReal) → Fin 256 → EReal) (q : Fin 512 → EReal) (K V : Fin 256 → Fin 512 → EReal)
    (h : Fin 4) (c : Fin 512) (hc : (c : ℕ) / 128 = h) : att sm q K V c = ∑ j, sm (score q K h) j * V j c := by
  have : (⟨(c : ℕ) / 128, by omega⟩ : Fin 4) = h := Fin.ext hc
  rw [att, this]

/-- Four heads' outputs concatenated are the attention's row. -/
theorem heads_at (p0 p1 p2 p3 : FVec Ideal S256x256 .bf16) (v0 v1 v2 v3 : FVec Ideal S256x128 .bf16)
    (q : Fin 512 → EReal) (K V : Fin 256 → Fin 512 → EReal) (r : Fin 256)
    (hp0 : ∀ j, p0 (ix2 r j) = smK (score q K 0) j) (hp1 : ∀ j, p1 (ix2 r j) = smK (score q K 1) j)
    (hp2 : ∀ j, p2 (ix2 r j) = smK (score q K 2) j) (hp3 : ∀ j, p3 (ix2 r j) = smK (score q K 3) j)
    (hv0 : ∀ j d, v0 (ix2 j d) = V j ⟨0 * 128 + d, by omega⟩) (hv1 : ∀ j d, v1 (ix2 j d) = V j ⟨1 * 128 + d, by omega⟩)
    (hv2 : ∀ j d, v2 (ix2 j d) = V j ⟨2 * 128 + d, by omega⟩) (hv3 : ∀ j d, v3 (ix2 j d) = V j ⟨3 * 128 + d, by omega⟩)
    (c : Fin 512) : k0_pay24 (F := Ideal) p0 p1 p2 p3 v0 v1 v2 v3 (ix2 r c) = att smK q K V c := by
  have hc := c.isLt
  pointwise [k0_pay24]
  by_cases h0 : (c : ℕ) < 128
  · rw [dif_pos h0, att_at smK q K V 0 c (by simp; omega)]
    refine Finset.sum_congr rfl fun j _ => ?_
    rw [hp0, hv0]; congr 2; apply Fin.ext; simp
  rw [dif_neg h0]
  by_cases h1 : (c : ℕ) - 128 < 128
  · rw [dif_pos h1, att_at smK q K V 1 c (by simp; omega)]
    refine Finset.sum_congr rfl fun j _ => ?_
    rw [hp1, hv1]; congr 2; apply Fin.ext; simp; omega
  rw [dif_neg h1]
  by_cases h2 : (c : ℕ) - 128 - 128 < 128
  · rw [dif_pos h2, att_at smK q K V 2 c (by simp; omega)]
    refine Finset.sum_congr rfl fun j _ => ?_
    rw [hp2, hv2]; congr 2; apply Fin.ext; simp; omega
  rw [dif_neg h2, att_at smK q K V 3 c (by simp; omega)]
  refine Finset.sum_congr rfl fun j _ => ?_
  rw [hp3, hv3]; congr 2; apply Fin.ext; simp; omega

/-! ## The block's row, for the upper and the lower half of the block -/

theorem upper_at (x : FVec Ideal S256x4096 .f32) (g : FVec Ideal S1x4096 .f32) (w : FVec Ideal S4096x512 .bf16)
    (k0 k1 k2 k3 v0 v1 v2 v3 : FVec Ideal S256x128 .bf16) (wo : FVec Ideal S512x4096 .bf16) (K V : Fin 256 → Fin 512 → EReal)
    (hk0 : ∀ j d, k0 (ix2 j d) = K j ⟨0 * 128 + d, by omega⟩) (hk1 : ∀ j d, k1 (ix2 j d) = K j ⟨1 * 128 + d, by omega⟩)
    (hk2 : ∀ j d, k2 (ix2 j d) = K j ⟨2 * 128 + d, by omega⟩) (hk3 : ∀ j d, k3 (ix2 j d) = K j ⟨3 * 128 + d, by omega⟩)
    (hv0 : ∀ j d, v0 (ix2 j d) = V j ⟨0 * 128 + d, by omega⟩) (hv1 : ∀ j d, v1 (ix2 j d) = V j ⟨1 * 128 + d, by omega⟩)
    (hv2 : ∀ j d, v2 (ix2 j d) = V j ⟨2 * 128 + d, by omega⟩) (hv3 : ∀ j d, v3 (ix2 j d) = V j ⟨3 * 128 + d, by omega⟩)
    (r : Fin 256) (n : Fin 4096) :
    k0_pay28 (F := Ideal) (k0_pay24 (k0_pay14 (k0_pay5 (k0_pay2 x g w) k0)) (k0_pay15 (k0_pay6 (k0_pay2 x g w) k1))
        (k0_pay16 (k0_pay7 (k0_pay2 x g w) k2)) (k0_pay18 (k0_pay8 (k0_pay2 x g w) k3) (k0_pay17 (k0_pay8 (k0_pay2 x g w) k3))) v0 v1 v2 v3) x wo (ix2 r n)
      = out smK (fun k => x (ix2 r k)) (fun k => g (ix2 0 k)) (fun k c => w (ix2 k c)) K V (fun c n => wo (ix2 c n)) n := by
  pointwise [k0_pay28, out]
  congr 1
  refine Finset.sum_congr rfl fun c _ => ?_
  congr 1
  refine heads_at _ _ _ _ _ _ _ _ _ K V r (fun j => ?_) (fun j => ?_) (fun j => ?_) (fun j => ?_) hv0 hv1 hv2 hv3 c
  · rw [pay14_at]; simp only [pay5_at _ _ K hk0, pay2_at]
  · rw [pay15_at]; simp only [pay6_at _ _ K hk1, pay2_at]
  · rw [pay16_at]; simp only [pay7_at _ _ K hk2, pay2_at]
  · rw [pay18_at]; simp only [pay8_at _ _ K hk3, pay2_at]

theorem lower_at (x : FVec Ideal S256x4096 .f32) (g : FVec Ideal S1x4096 .f32) (w : FVec Ideal S4096x512 .bf16)
    (k0 k1 k2 k3 v0 v1 v2 v3 : FVec Ideal S256x128 .bf16) (wo : FVec Ideal S512x4096 .bf16) (K V : Fin 256 → Fin 512 → EReal)
    (hk0 : ∀ j d, k0 (ix2 j d) = K j ⟨0 * 128 + d, by omega⟩) (hk1 : ∀ j d, k1 (ix2 j d) = K j ⟨1 * 128 + d, by omega⟩)
    (hk2 : ∀ j d, k2 (ix2 j d) = K j ⟨2 * 128 + d, by omega⟩) (hk3 : ∀ j d, k3 (ix2 j d) = K j ⟨3 * 128 + d, by omega⟩)
    (hv0 : ∀ j d, v0 (ix2 j d) = V j ⟨0 * 128 + d, by omega⟩) (hv1 : ∀ j d, v1 (ix2 j d) = V j ⟨1 * 128 + d, by omega⟩)
    (hv2 : ∀ j d, v2 (ix2 j d) = V j ⟨2 * 128 + d, by omega⟩) (hv3 : ∀ j d, v3 (ix2 j d) = V j ⟨3 * 128 + d, by omega⟩)
    (r : Fin 256) (n : Fin 4096) :
    k0_pay29 (F := Ideal) (k0_pay23 (k0_pay13 (k0_pay4 (k0_pay3 x g w)) k3) (k0_pay22 (k0_pay13 (k0_pay4 (k0_pay3 x g w)) k3)))
        (k0_pay25 (k0_pay19 (k0_pay9 (k0_pay3 x g w) k0)) v0) (k0_pay26 (k0_pay20 (k0_pay10 (k0_pay3 x g w) k1)) v1)
        (k0_pay27 (k0_pay21 (k0_pay12 (k0_pay11 (k0_pay3 x g w)) k2 (constant S256x256 .f32 0x00000000#32))) v2) v3 (constant S256x128 .f32 0x00000000#32) x wo (ix2 r n)
      = out smK (fun k => x (ix2 r k)) (fun k => g (ix2 0 k)) (fun k c => w (ix2 k c)) K V (fun c n => wo (ix2 c n)) n := by
  refine Eq.trans (b := k0_pay28 (F := Ideal) (k0_pay24 (k0_pay19 (k0_pay9 (k0_pay3 x g w) k0)) (k0_pay20 (k0_pay10 (k0_pay3 x g w) k1))
      (k0_pay21 (k0_pay12 (k0_pay11 (k0_pay3 x g w)) k2 (constant S256x256 .f32 0x00000000#32))) (k0_pay23 (k0_pay13 (k0_pay4 (k0_pay3 x g w)) k3) (k0_pay22 (k0_pay13 (k0_pay4 (k0_pay3 x g w)) k3)))
      v0 v1 v2 v3) x wo (ix2 r n)) rfl ?_
  pointwise [k0_pay28, out]
  congr 1
  refine Finset.sum_congr rfl fun c _ => ?_
  congr 1
  refine heads_at _ _ _ _ _ _ _ _ _ K V r (fun j => ?_) (fun j => ?_) (fun j => ?_) (fun j => ?_) hv0 hv1 hv2 hv3 c
  · rw [pay19_at]; simp only [pay9_at _ _ K hk0, pay3_at]
  · rw [pay20_at]; simp only [pay10_at _ _ K hk1, pay3_at]
  · rw [pay21_at]; simp only [pay12_at _ _ K hk2, pay3_at]
  · rw [pay23_at]; simp only [pay13_at _ _ K hk3, pay3_at]

/-! ## The second norm and the router -/

theorem pay30_at (x : FVec Ideal S256x4096 .f32) (g : FVec Ideal S1x4096 .f32) (r : Fin 256) (k : Fin 4096) :
    k0_pay30 (F := Ideal) x g (ix2 r k) = nrm (fun k => x (ix2 r k)) (fun k => g (ix2 0 k)) k := by
  pointwise [k0_pay30, nrm]

theorem lane (l : Fin 128) : IntOp.cmpi .slt (BitVec.ofNat 32 (l : ℕ)) 16#32 = if (l : ℕ) < 16 then 1#1 else 0#1 :=
  (by decide +kernel : ∀ l : Fin 128, IntOp.cmpi .slt (BitVec.ofNat 32 (l : ℕ)) 16#32 = if (l : ℕ) < 16 then 1#1 else 0#1) l

/-- The kernel's logit of a lane, as the body selects it. -/
theorem lgtK_sel (h : Fin 4096 → EReal) (W : Fin 4096 → Fin 128 → EReal) (l : Fin 128) :
    lgtK h W l = Scalar.select (IntOp.cmpi .slt (BitVec.ofNat 32 (l : ℕ)) 16#32)
      (((∑ k, h k * W k l) + ∑ k, h k * W k ⟨((l : ℕ) + 128 - 112) % 128, by omega⟩) + ∑ k, (h k - h k) * W k l)
      (Named.named (F := Ideal) κ "mask" (φ := .f32) 0xF149F2CA#32) := by
  rw [lane, lgtK]
  split <;> rfl

theorem router_at (h : FVec Ideal S256x4096 .f32) (w : FVec Ideal S4096x128 .bf16) (r : Fin 256) (e : Fin 16) :
    k0_pay34 (F := Ideal) h w w (ix3 0 e r) = smK (lgtK (fun k => h (ix2 r k)) (fun k l => w (ix2 k l))) ⟨e, by omega⟩ := by
  unfold smK mx
  simp only [funext (lgtK_sel _ _)]
  pointwise [k0_pay34]

theorem affU_at (x : FVec Ideal S256x4096 .f32) (g : FVec Ideal S1x4096 .f32) (w : FVec Ideal S4096x128 .bf16) (r : Fin 256)
    (e : Fin 16) : k0_pay34 (F := Ideal) (k0_pay30 x g) w w (ix3 0 e r)
      = smK (lgtK (nrm (fun k => x (ix2 r k)) (fun k => g (ix2 0 k))) (fun k l => w (ix2 k l))) ⟨e, by omega⟩ := by
  rw [router_at]; simp only [pay30_at]

theorem affL_at (x : FVec Ideal S256x4096 .f32) (g : FVec Ideal S1x4096 .f32) (w : FVec Ideal S4096x128 .bf16) (r : Fin 256)
    (e : Fin 16) : k0_pay1 (F := Ideal) (k0_pay38 (k0_pay35 x) g w w) (k0_pay39 (k0_pay35 x) g w w) (ix3 0 e r)
      = smK (lgtK (nrm (fun k => x (ix2 r k)) (fun k => g (ix2 0 k))) (fun k l => w (ix2 k l))) ⟨e, by omega⟩ :=
  (rfl : _ = k0_pay34 (F := Ideal) (k0_pay30 x g) w w (ix3 0 e r)).trans (affU_at x g w r e)

end Cert.Cross

end

end
-- ==== Proof.Block.lean ====
module

public import proofs.«01_k».proof.Proof.Gen.KernelIdeal.Value
public import proofs.«01_k».proof.Proof.Pay
public import Idealize.ShloMosaic.Lib.Pipeline.ValueKit
public import Idealize.ShloMosaic.Lib.Pipeline.ReadBack

/-! What a grid point leaves in the two output blocks: row by row, the functions of `Spec.lean` of the input blocks. -/

set_option maxRecDepth 16384

@[expose] public section

noncomputable section

open Idealize.ShloMosaic Idealize.ShloMosaic.TcCoe Idealize.SL.Sem
open Idealize.ShloMosaic.Pipeline (Dat)
open Cert.KernelIdeal Cert.KernelIdeal.Gen

namespace Cert.Cross

variable (m : (ℓ : Loc nD τ sig) → Buf (Elt Ideal) ℓ)

/-! ## The input blocks of a point, by coordinates -/

def bX (c : Dev nD) (t : Fin cfg0.N) (r : Fin 512) (k : Fin 4096) : EReal := (iblk m c 0 t : FVec Ideal S512x4096 .f32) (ix2 r k)
def bG (c : Dev nD) (t : Fin cfg0.N) (k : Fin 4096) : EReal := (iblk m c 1 t : FVec Ideal S1x4096 .f32) (ix2 0 k)
def bQ (c : Dev nD) (t : Fin cfg0.N) (k : Fin 4096) (n : Fin 512) : EReal := (iblk m c 2 t : FVec Ideal S4096x512 .bf16) (ix2 k n)
def bK (c : Dev nD) (t : Fin cfg0.N) (j : Fin 256) (n : Fin 512) : EReal := (iblk m c 3 t : FVec Ideal S256x512 .bf16) (ix2 j n)
def bV (c : Dev nD) (t : Fin cfg0.N) (j : Fin 256) (n : Fin 512) : EReal := (iblk m c 4 t : FVec Ideal S256x512 .bf16) (ix2 j n)
def bO (c : Dev nD) (t : Fin cfg0.N) (k : Fin 512) (n : Fin 4096) : EReal := (iblk m c 5 t : FVec Ideal S512x4096 .bf16) (ix2 k n)
def bF (c : Dev nD) (t : Fin cfg0.N) (k : Fin 4096) : EReal := (iblk m c 6 t : FVec Ideal S1x4096 .f32) (ix2 0 k)
def bR (c : Dev nD) (t : Fin cfg0.N) (k : Fin 4096) (l : Fin 128) : EReal := (iblk m c 7 t : FVec Ideal S4096x128 .bf16) (ix2 k l)

/-- Row `r` of the block after the attention. -/
def bOut (c : Dev nD) (t : Fin cfg0.N) (r : Fin 512) : Fin 4096 → EReal :=
  out smK (bX m c t r) (bG m c t) (bQ m c t) (bK m c t) (bV m c t) (bO m c t)

/-- Its affinities. -/
def bAff (c : Dev nD) (t : Fin cfg0.N) (r : Fin 512) (e : Fin 16) : EReal :=
  smK (lgtK (nrm (bOut m c t r) (bF m c t)) (bR m c t)) ⟨e, by omega⟩

theorem point8 (c : Dev nD) (t : Fin cfg0.N) (y0 : Fin 512) (y1 : Fin 4096) :
    (outsAt0 m c t).1 (ix2 y0 y1) = bOut m c t y0 y1 := by
  unfold outsAt0
  frame_out
  canon_tiles x h
  · idx_vars x
    obtain rfl : y1 = x1 := Fin.ext h1
    refine (lower_at _ _ _ _ _ _ _ _ _ _ _ _ (bK m c t) (bV m c t) (fun j d => ?_) (fun j d => ?_) (fun j d => ?_) (fun j d => ?_)
      (fun j d => ?_) (fun j d => ?_) (fun j d => ?_) (fun j d => ?_) _ _).trans ?_
    case refine_9 =>
      have hr : (fun k => View.ld (iblk m c 0 t) (Rect.unit ![256, 0] ![256, 4096] inb_S512x4096_S256x4096_256_0) (ix2 x0 k)) = bX m c t y0 := by
        funext k; unfold bX; pointwise; blk_ext
      exact congrFun (congrArg (fun X => out smK X (bG m c t) (bQ m c t) (bK m c t) (bV m c t) (bO m c t)) hr) _
    all_goals (first | unfold bK | unfold bV)
    all_goals (pointwise; blk_ext)
  · idx_vars x
    obtain rfl : y1 = x1 := Fin.ext h1
    refine (upper_at _ _ _ _ _ _ _ _ _ _ _ _ (bK m c t) (bV m c t) (fun j d => ?_) (fun j d => ?_) (fun j d => ?_) (fun j d => ?_)
      (fun j d => ?_) (fun j d => ?_) (fun j d => ?_) (fun j d => ?_) _ _).trans ?_
    case refine_9 =>
      have hr : (fun k => View.ld (iblk m c 0 t) (Rect.unit ![0, 0] ![256, 4096] inb_S512x4096_S256x4096_0_0) (ix2 x0 k)) = bX m c t y0 := by
        funext k; unfold bX; pointwise; blk_ext
      exact congrFun (congrArg (fun X => out smK X (bG m c t) (bQ m c t) (bK m c t) (bV m c t) (bO m c t)) hr) _
    all_goals (first | unfold bK | unfold bV)
    all_goals (pointwise; blk_ext)

theorem point10 (c : Dev nD) (t : Fin cfg0.N) (e : Fin 16) (r : Fin 512) :
    (outsAt0 m c t).2.2 (ix3 0 e r) = bAff m c t r e := by
  unfold outsAt0
  frame_out
  canon_tiles x h
  · idx_vars x
    obtain rfl : e = x1 := Fin.ext h1
    obtain rfl : x0 = 0 := Fin.ext (by omega)
    rw [View.readCov_cons_toLoadRect]
    refine (affL_at _ _ _ _ _).trans ?_
    refine congrArg (fun R => smK (lgtK (nrm R (bF m c t)) (bR m c t)) ⟨e, by omega⟩) (funext fun k => ?_)
    refine (lower_at _ _ _ _ _ _ _ _ _ _ _ _ (bK m c t) (bV m c t) (fun j d => ?_) (fun j d => ?_) (fun j d => ?_) (fun j d => ?_)
      (fun j d => ?_) (fun j d => ?_) (fun j d => ?_) (fun j d => ?_) _ _).trans ?_
    case refine_9 =>
      have hr : (fun k => View.ld (iblk m c 0 t) (Rect.unit ![256, 0] ![256, 4096] inb_S512x4096_S256x4096_256_0) (ix2 x2 k)) = bX m c t r := by
        funext k; unfold bX; pointwise; blk_ext
      exact congrFun (congrArg (fun X => out smK X (bG m c t) (bQ m c t) (bK m c t) (bV m c t) (bO m c t)) hr) _
    all_goals (first | unfold bK | unfold bV)
    all_goals (pointwise; blk_ext)
  · idx_vars x
    obtain rfl : e = x1 := Fin.ext h1
    obtain rfl : x0 = 0 := Fin.ext (by omega)
    rw [View.readCov_skip _ _ _ _ _ (by decide), View.readCov_cons_toLoadRect]
    refine (affU_at _ _ _ _ _).trans ?_
    refine congrArg (fun R => smK (lgtK (nrm R (bF m c t)) (bR m c t)) ⟨e, by omega⟩) (funext fun k => ?_)
    refine (upper_at _ _ _ _ _ _ _ _ _ _ _ _ (bK m c t) (bV m c t) (fun j d => ?_) (fun j d => ?_) (fun j d => ?_) (fun j d => ?_)
      (fun j d => ?_) (fun j d => ?_) (fun j d => ?_) (fun j d => ?_) _ _).trans ?_
    case refine_9 =>
      have hr : (fun k => View.ld (iblk m c 0 t) (Rect.unit ![0, 0] ![256, 4096] inb_S512x4096_S256x4096_0_0) (ix2 x2 k)) = bX m c t r := by
        funext k; unfold bX; pointwise; blk_ext
      exact congrFun (congrArg (fun X => out smK X (bG m c t) (bQ m c t) (bK m c t) (bV m c t) (bO m c t)) hr) _
    all_goals (first | unfold bK | unfold bV)
    all_goals (pointwise; blk_ext)

end Cert.Cross

end

end
-- ==== Proof.Arrays.lean ====
module

public import proofs.«01_k».proof.Proof.Block
public import Idealize.ShloMosaic.Lib.Claim

/-! The two result arrays after the run, as functions of the argument arrays: row by row the functions of
    `Spec.lean`. -/

set_option maxRecDepth 16384

@[expose] public section

noncomputable section

open Idealize.ShloMosaic Idealize.ShloMosaic.TcCoe Idealize.SL.Sem
open Idealize.ShloMosaic.Pipeline (Dat)
open Cert.KernelIdeal Cert.KernelIdeal.Gen

namespace Cert.Cross

variable (m : (ℓ : Loc nD τ sig) → Buf (Elt Ideal) ℓ)

/-! ## The argument arrays by coordinates -/

def aX (c : Dev nD) (R : Fin 8192) (k : Fin 4096) : EReal := (m ((c : Thread nD τ).loc main_arg0) : FVec Ideal S8192x4096 .f32) (ix2 R k)
def aG (c : Dev nD) (k : Fin 4096) : EReal := (m ((c : Thread nD τ).loc main_arg1) : FVec Ideal S4096 .f32) (ix1 k)
def aQ (c : Dev nD) (k : Fin 4096) (n : Fin 512) : EReal := (m ((c : Thread nD τ).loc main_arg2) : FVec Ideal S4096x512 .f32) (ix2 k n)
def aK (c : Dev nD) (b : Fin 4) (j : Fin 256) (n : Fin 512) : EReal :=
  (m ((c : Thread nD τ).loc main_arg3) : FVec Ideal S1024x512 .bf16) (ix2 ⟨b * 256 + j, by omega⟩ n)
def aV (c : Dev nD) (b : Fin 4) (j : Fin 256) (n : Fin 512) : EReal :=
  (m ((c : Thread nD τ).loc main_arg4) : FVec Ideal S1024x512 .bf16) (ix2 ⟨b * 256 + j, by omega⟩ n)
def aO (c : Dev nD) (k : Fin 512) (n : Fin 4096) : EReal := (m ((c : Thread nD τ).loc main_arg5) : FVec Ideal S512x4096 .f32) (ix2 k n)
def aF (c : Dev nD) (k : Fin 4096) : EReal := (m ((c : Thread nD τ).loc main_arg6) : FVec Ideal S4096 .f32) (ix1 k)
def aR (c : Dev nD) (k : Fin 4096) (e : Fin 16) : EReal := (m ((c : Thread nD τ).loc main_arg7) : FVec Ideal S4096x16 .f32) (ix2 k e)

/-- Row `R` after the block. -/
def gOut (c : Dev nD) (R : Fin 8192) : Fin 4096 → EReal :=
  out smK (aX m c R) (aG m c) (aQ m c) (aK m c ⟨R / 2048, by omega⟩) (aV m c ⟨R / 2048, by omega⟩) (aO m c)

/-- Its affinities. -/
def gAff (c : Dev nD) (R : Fin 8192) (e : Fin 16) : EReal :=
  smK (lgtK (nrm (gOut m c R) (aF m c)) (wpad (aR m c))) ⟨e, by omega⟩

/-! ## The windows' index maps -/

theorem idx : ∀ t : Fin cfg0.N, win0_0.index t = ![t.val, 0] ∧ win0_1.index t = ![0, 0] ∧ win0_2.index t = ![0, 0]
    ∧ win0_3.index t = ![t.val / 4, 0] ∧ win0_4.index t = ![t.val / 4, 0] ∧ win0_5.index t = ![0, 0] ∧ win0_6.index t = ![0, 0]
    ∧ win0_7.index t = ![0, 0] ∧ win0_8.index t = ![t.val, 0] ∧ win0_10.index t = ![t.val / 4, 0, t.val % 4] ∧ t.val < 16 :=
  (by decide +kernel : ∀ t : Fin grid0.N, _)

/-! ## The host's padding of the router weights -/

/-- The padded router weights as the host concatenates them. -/
def padW (w : FVec Ideal S4096x16 .f32) : FVec Ideal S4096x128 .bf16 :=
  concatenate S4096x128 1
    [⟨S4096x16, truncf .bf16 w bitsLt_bf16_f32⟩,
     ⟨S4096x16, truncf .bf16 (subf w (extf .f32 (truncf .bf16 w bitsLt_bf16_f32) bitsLt_bf16_f32)) bitsLt_bf16_f32⟩,
     ⟨S4096x96, broadcastInDim S4096x96 ![] bcast_S_S4096x96 (constant S_ .bf16 0x0000#16)⟩]
    concatenates_S4096x16_S4096x16_S4096x96_S4096x128_d1

theorem padW_at (w : FVec Ideal S4096x16 .f32) (k : Fin 4096) (l : Fin 128) :
    padW w (ix2 k l) = wpad (fun k e => w (ix2 k e)) k l := by
  pointwise [padW, wpad]

theorem v5_eq (c : Dev nD) : @Eq (FVec Ideal S4096x128 .bf16) (V m c main_v5) (padW (m ((c : Thread nD τ).loc main_arg7))) := rfl

/-! ## A point's blocks are the arrays' -/

theorem bX_eq (c : Dev nD) (t : Fin cfg0.N) (r : Fin 512) (R : Fin 8192) (hR : (R : ℕ) = t.val * 512 + r) :
    bX m c t r = aX m c R := by
  funext k
  unfold bX aX
  blk_ext [iblk, V, idx t]

theorem bG_eq (c : Dev nD) (t : Fin cfg0.N) : bG m c t = aG m c := by
  funext k
  unfold bG aG
  blk_point [iblk, V, idx t]

theorem bQ_eq (c : Dev nD) (t : Fin cfg0.N) : bQ m c t = aQ m c := by
  funext k n
  unfold bQ aQ
  blk_point [iblk, V, idx t]

theorem bK_eq (c : Dev nD) (t : Fin cfg0.N) (b : Fin 4) (hb : (b : ℕ) = t.val / 4) : bK m c t = aK m c b := by
  funext j n
  unfold bK aK
  blk_ext [iblk, V, idx t]

theorem bV_eq (c : Dev nD) (t : Fin cfg0.N) (b : Fin 4) (hb : (b : ℕ) = t.val / 4) : bV m c t = aV m c b := by
  funext j n
  unfold bV aV
  blk_ext [iblk, V, idx t]

theorem bO_eq (c : Dev nD) (t : Fin cfg0.N) : bO m c t = aO m c := by
  funext k n
  unfold bO aO
  blk_point [iblk, V, idx t]

theorem bF_eq (c : Dev nD) (t : Fin cfg0.N) : bF m c t = aF m c := by
  funext k
  unfold bF aF
  blk_point [iblk, V, idx t]

theorem bR_eq (c : Dev nD) (t : Fin cfg0.N) : bR m c t = wpad (aR m c) := by
  funext k l
  unfold bR
  have h : (iblk m c 7 t : FVec Ideal S4096x128 .bf16) (ix2 k l) = (V m c main_v5 : FVec Ideal S4096x128 .bf16) (ix2 k l) := by
    blk_ext [iblk, idx t]
  rw [h]
  exact (congrFun (v5_eq m c) (ix2 k l)).trans (padW_at _ k l)

theorem bOut_eq (c : Dev nD) (t : Fin cfg0.N) (r : Fin 512) (R : Fin 8192) (hR : (R : ℕ) = t.val * 512 + r) :
    bOut m c t r = gOut m c R := by
  have hb : ((⟨R / 2048, by omega⟩ : Fin 4) : ℕ) = t.val / 4 := by
    show (R : ℕ) / 2048 = _
    omega
  unfold bOut gOut
  rw [bX_eq m c t r R hR, bG_eq, bQ_eq, bK_eq m c t _ hb, bV_eq m c t _ hb, bO_eq]

theorem bAff_eq (c : Dev nD) (t : Fin cfg0.N) (r : Fin 512) (R : Fin 8192) (hR : (R : ℕ) = t.val * 512 + r) (e : Fin 16) :
    bAff m c t r e = gAff m c R e := by
  unfold bAff gAff
  rw [bOut_eq m c t r R hR, bF_eq, bR_eq]

/-! ## The arrays after the run -/

theorem final8 (c : Dev nD) : (dats m 0 c).arrAt 8 (cfgs 0).N
    = (fun i => gOut m c (i 0) (i 1) : FVec Ideal S8192x4096 .f32) := by
  refine (dats m 0 c).arrAt_eq_of_covers 8 _ (by decide +kernel) fun t _ y => ?_
  blk_simp
  rw [after0_8]
  refine (congrArg (outsAt0 m c t).1 (eq_ix2 (n0 := 512) (n1 := 4096) y)).trans ((point8 m c t (y 0) (y 1)).trans ?_)
  rw [bOut_eq m c t (y 0) ((win0_8.blk t).view.emb y 0) (by blk_simp [idx t])]
  exact congrArg (gOut m c _) (Fin.ext (by blk_simp [idx t]))

theorem point10' (c : Dev nD) (t : Fin cfg0.N) (y : S1x16x512.Idx) : (outsAt0 m c t).2.2 y = bAff m c t (y 2) (y 1) := by
  idx_vars y
  obtain rfl : y0 = 0 := Subsingleton.elim _ _
  exact point10 m c t y1 y2

theorem final10 (c : Dev nD) : (dats m 0 c).arrAt 10 (cfgs 0).N
    = (fun i => gAff m c ⟨(i 0 : ℕ) * 2048 + (i 2 : ℕ), by have := (i 0).isLt; have := (i 2).isLt; simp at *; omega⟩ (i 1) : FVec Ideal S4x16x2048 .f32) := by
  refine (dats m 0 c).arrAt_eq_of_covers 10 _ (by decide +kernel) fun t _ y => ?_
  blk_simp
  rw [after0_10]
  refine (point10' m c t y).trans ?_
  have ht := (idx t).2.2.2.2.2.2.2.2.2.2
  refine (bAff_eq m c t (y 2) ⟨win0_10.index t 0 * 2048 + (win0_10.index t 2 * 512 + ↑(y 2)), by blk_simp [idx t]; have : (y 2 : ℕ) < 512 := (y 2).isLt; omega⟩
    (by show win0_10.index t 0 * 2048 + (win0_10.index t 2 * 512 + ((y 2 : Fin 512) : ℕ)) = _; blk_simp [idx t]; omega) (y 1)).trans ?_
  exact congrArg (gAff m c _) (Fin.ext (by blk_simp [idx t]))

end Cert.Cross

end

end
-- ==== Proof.Ref.lean ====
module

public import proofs.«01_k».proof.Proof.Gen.ReferenceIdeal.Run
public import proofs.«01_k».proof.Proof.Spec

/-! The reference's two results, stage by stage, read at an index: the row functions of `Spec.lean`. -/

set_option maxRecDepth 16384

@[expose] public section

noncomputable section

open Idealize.ShloMosaic Idealize.ShloMosaic.TcCoe Idealize.SL.Sem
open Cert.ReferenceIdeal Cert.ReferenceIdeal.Gen

namespace Cert.Cross.Ref

/-! ## The norm -/

def h (x : FVec Ideal S8192x4096 .f32) (g : FVec Ideal S4096 .f32) : FVec Ideal S8192x4096 .f32 :=
  mulf (mulf x (broadcastInDim S8192x4096 ![0, 1] bcast_S8192x1_S8192x4096_0_1
      (Host.rsqrt (addf (Host.divf (broadcastInDim S8192x1 ![0] bcast_S8192_S8192x1_0
          (Host.reduceAdd (mulf x x) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

theorem h_at (x : FVec Ideal S8192x4096 .f32) (g : FVec Ideal S4096 .f32) (r : Fin 8192) (k : Fin 4096) :
    h x g (ix2 r k) = nrm (fun k => x (ix2 r k)) (fun k => g (ix1 k)) k := by
  pointwise [h, nrm]

/-! ## The attention -/

def q (x : FVec Ideal S8192x4096 .f32) (g : FVec Ideal S4096 .f32) (wq : FVec Ideal S4096x512 .f32) : FVec Ideal S8192x512 .f32 :=
  Host.dotGeneral dot_S8192x4096_S4096x512_S8192x512_1_0_0_1_n_n none (h x g) wq

theorem q_at (x : FVec Ideal S8192x4096 .f32) (g : FVec Ideal S4096 .f32) (wq : FVec Ideal S4096x512 .f32) (r : Fin 8192) (n : Fin 512) :
    q x g wq (ix2 r n) = qry (fun k => x (ix2 r k)) (fun k => g (ix1 k)) (fun k c => wq (ix2 k c)) n := by
  pointwise [q, qry, h_at]

def s (q : FVec Ideal S8192x512 .f32) (k : FVec Ideal S1024x512 .bf16) : FVec Ideal S4x4x2048x256 .f32 :=
  mulf (Host.dotGeneral dot_S4x2048x4x128_S4x256x4x128_S4x4x2048x256_3_3_1_1_02_02 none
      (shapeCast _ q shapeCasts_S8192x512_S4x2048x4x128)
      (shapeCast _ (extf .f32 k bitsLt_bf16_f32) shapeCasts_S1024x512_S4x256x4x128))
    (broadcastInDim S4x4x2048x256 ![] bcast_S_S4x4x2048x256 (Host.rsqrt (constant S_ .f32 0x43000000#32)))

theorem scl_eq : Ideal.rsqrt (Ideal.ofBits .f32 0x43000000#32) = scl := by
  rw [show Ideal.ofBits .f32 0x43000000#32 = ((128 : ℝ) : EReal) by
    simp [Ideal.ofBits, Ideal.ieee]; rw [← EReal.coe_mul]; norm_num, Ideal.rsqrt_coe, if_neg (by norm_num), if_neg (by norm_num), scl]

theorem s_at (q : FVec Ideal S8192x512 .f32) (k : FVec Ideal S1024x512 .bf16) (b : Fin 4) (hd : Fin 4) (t : Fin 2048) (j : Fin 256) :
    s q k (ix4 b hd t j)
      = score (fun n => q (ix2 ⟨b * 2048 + t, by omega⟩ n)) (fun j n => k (ix2 ⟨b * 256 + j, by omega⟩ n)) hd j := by
  pointwise [s, score, scl_eq]

def mr (s : FVec Ideal S4x4x2048x256 .f32) : FVec Ideal S4x4x2048 .f32 :=
  Host.reduce FloatOps.maximumf s (constant S_ .f32 0xFF800000#32) reducesTo_S4x4x2048x256_S4x4x2048_d3 h_S_

theorem mr_at (s : FVec Ideal S4x4x2048x256 .f32) (b hd : Fin 4) (t : Fin 2048) :
    mr s (ix3 b hd t) = mx fun j => s (ix4 b hd t j) := by
  pointwise [mr, mx]

theorem max_at {S : Shape} (x y : FVec Ideal S .f32) (i : S.Idx) : maximumf x y i = max (x i) (y i) := rfl

def mm (s : FVec Ideal S4x4x2048x256 .f32) : FVec Ideal S4x4x2048 .f32 :=
  maximumf (broadcastInDim S4x4x2048 ![] bcast_S_S4x4x2048 (constant S_ .f32 0xFF800000#32)) (mr s)

theorem mm_at (s : FVec Ideal S4x4x2048x256 .f32) (b hd : Fin 4) (t : Fin 2048) :
    mm s (ix3 b hd t) = max (Ideal.ofBits .f32 0xFF800000#32) (mx fun j => s (ix4 b hd t j)) := by
  have h1 : broadcastInDim S4x4x2048 ![] bcast_S_S4x4x2048 (constant (F := Ideal) S_ .f32 0xFF800000#32) (ix3 b hd t)
      = Ideal.ofBits .f32 0xFF800000#32 := by pointwise []
  rw [mm, max_at, h1, mr_at]

def e (s : FVec Ideal S4x4x2048x256 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 (mm s))))

theorem e_at (s : FVec Ideal S4x4x2048x256 .f32) (b hd : Fin 4) (t : Fin 2048) (j : Fin 256) :
    e s (ix4 b hd t j) = Ideal.exp (s (ix4 b hd t j)
      - max (Ideal.ofBits .f32 0xFF800000#32) (mx fun j => s (ix4 b hd t j))) := by
  pointwise [e, mm_at]

def p (s : FVec Ideal S4x4x2048x256 .f32) : FVec Ideal S4x4x2048x256 .f32 :=
  Host.divf (e s) (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd (e s) (constant S_ .f32 0x00000000#32) reducesTo_S4x4x2048x256_S4x4x2048_d3 h_S_)))

theorem p_at (s : FVec Ideal S4x4x2048x256 .f32) (b hd : Fin 4) (t : Fin 2048) (j : Fin 256) :
    p s (ix4 b hd t j) = smR (fun j => s (ix4 b hd t j)) j := by
  pointwise [p, smR, e_at]

def o (p : FVec Ideal S4x4x2048x256 .f32) (v : FVec Ideal S1024x512 .bf16) : FVec Ideal S8192x512 .f32 :=
  shapeCast _ (transpose S4x2048x4x128 [0, 3, 1, 2]
    (Host.dotGeneral dot_S4x256x4x128_S4x4x2048x256_S4x4x128x2048_1_3_3_2_02_01 none
      (shapeCast _ (extf .f32 v bitsLt_bf16_f32) shapeCasts_S1024x512_S4x256x4x128) p)
    transposes_S4x4x128x2048_S4x2048x4x128_0_3_1_2) shapeCasts_S4x2048x4x128_S8192x512

theorem o_at (p : FVec Ideal S4x4x2048x256 .f32) (v : FVec Ideal S1024x512 .bf16) (r : Fin 8192) (n : Fin 512) :
    o p v (ix2 r n) = ∑ j : Fin 256, p (ix4 ⟨r / 2048, by omega⟩ ⟨n / 128, by omega⟩ ⟨r % 2048, by omega⟩ j)
      * v (ix2 ⟨r / 2048 * 256 + j, by omega⟩ n) := by
  pointwise [o]
  exact Finset.sum_congr rfl fun j _ => mul_comm _ _

/-! ## The row after the block, and its affinities -/

def x2 (x : FVec Ideal S8192x4096 .f32) (o : FVec Ideal S8192x512 .f32) (wo : FVec Ideal S512x4096 .f32) : FVec Ideal S8192x4096 .f32 :=
  addf x (Host.dotGeneral dot_S8192x512_S512x4096_S8192x4096_1_0_0_1_n_n none o wo)

theorem x2_at (x : FVec Ideal S8192x4096 .f32) (o : FVec Ideal S8192x512 .f32) (wo : FVec Ideal S512x4096 .f32) (r : Fin 8192) (n : Fin 4096) :
    x2 x o wo (ix2 r n) = x (ix2 r n) + ∑ c, o (ix2 r c) * wo (ix2 c n) := by
  pointwise [x2]

def l (h : FVec Ideal S8192x4096 .f32) (w : FVec Ideal S4096x16 .f32) : FVec Ideal S8192x16 .f32 :=
  Host.dotGeneral dot_S8192x4096_S4096x16_S8192x16_1_0_0_1_n_n none h w

theorem l_at (h : FVec Ideal S8192x4096 .f32) (w : FVec Ideal S4096x16 .f32) (r : Fin 8192) (n : Fin 16) :
    l h w (ix2 r n) = lgt (fun k => h (ix2 r k)) (fun k e => w (ix2 k e)) n := by
  pointwise [l, lgt]

def el (l : FVec Ideal S8192x16 .f32) : FVec Ideal S8192x16 .f32 :=
  Host.exp (subf l (broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf l (constant S_ .f32 0xFF800000#32) reducesTo_S8192x16_S8192_d1 h_S_)))))

theorem el_at (l : FVec Ideal S8192x16 .f32) (r : Fin 8192) (n : Fin 16) :
    el l (ix2 r n) = Ideal.exp (l (ix2 r n) - max (Ideal.ofBits .f32 0xFF800000#32) (mx fun n => l (ix2 r n))) := by
  pointwise [el, mx]

def a (l : FVec Ideal S8192x16 .f32) : FVec Ideal S4x16x2048 .f32 :=
  transpose S4x16x2048 [0, 2, 1] (shapeCast _ (Host.divf (el l) (broadcastInDim S8192x16 ![0, 1] bcast_S8192x1_S8192x16_0_1
    (broadcastInDim S8192x1 ![0] bcast_S8192_S8192x1_0
      (Host.reduceAdd (el l) (constant S_ .f32 0x00000000#32) reducesTo_S8192x16_S8192_d1 h_S_))))
    shapeCasts_S8192x16_S4x2048x16) transposes_S4x2048x16_S4x16x2048_0_2_1

theorem a_at (l : FVec Ideal S8192x16 .f32) (b : Fin 4) (n : Fin 16) (t : Fin 2048) :
    a l (ix3 b n t) = smR (fun n => l (ix2 ⟨b * 2048 + t, by omega⟩ n)) n := by
  pointwise [a, smR, el_at]

/-! ## The two results -/

variable (m : (ℓ : Loc nD τ sig) → Buf (Elt Ideal) ℓ)

theorem out0_eq (c : Dev nD) : (Value.res_out0 m c : FVec Ideal S8192x4096 .f32)
    = x2 (m ((c : Thread nD τ).loc main_arg0))
        (o (p (s (q (m ((c : Thread nD τ).loc main_arg0)) (m ((c : Thread nD τ).loc main_arg1)) (m ((c : Thread nD τ).loc main_arg2)))
          (m ((c : Thread nD τ).loc main_arg3)))) (m ((c : Thread nD τ).loc main_arg4))) (m ((c : Thread nD τ).loc main_arg5)) := rfl

theorem out1_eq (c : Dev nD) : (Value.res_out1 m c : FVec Ideal S4x16x2048 .f32)
    = a (l (h (Value.res_out0 m c) (m ((c : Thread nD τ).loc main_arg6))) (m ((c : Thread nD τ).loc main_arg7))) := rfl

end Cert.Cross.Ref

end

end
-- ==== Proof.Close.lean ====
module

public import proofs.«01_k».proof.Defs
public import proofs.«01_k».proof.Proof.Gen.Pre_finite
public import proofs.«01_k».proof.Proof.Arrays
public import proofs.«01_k».proof.Proof.Ref
public import Idealize.ShloMosaic.Lib.ReduceAll

/-! The two programs' results agree: what the precondition says of the arguments, and the value claim. -/

set_option maxRecDepth 16384

@[expose] public section

noncomputable section

open Idealize.ShloMosaic Idealize.ShloMosaic.TcCoe Idealize.SL.Sem
open Cert.KernelIdeal

namespace Cert.Cross

/-! ## What the precondition says -/

/-- An array all of whose absolute values are below infinity holds reals. -/
theorem re_of_all {S T U : Shape} {axes : List (Fin S.rank)} [Subsingleton T.Idx] (x : FVec Ideal S .f32) (top : FVec Ideal S .f32)
    (ht : ∀ i, top i = ⊤) (init : IVec U 1) (h : S.ReducesTo axes T) (hu : 0 < U.numel) (j : T.Idx)
    (e : Host.reduce IntOp.andi (cmpf .olt (Host.absf x) top) init h hu j = 1#1) (i : S.Idx) : Re (x i) := by
  have h1 := Host.reduce_andi_all _ _ h hu j e i
  refine re_of_abs_lt ?_
  have h2 : BitVec.ofBool (decide (max (x i) (-(x i)) < top i)) = 1#1 := h1
  rw [ht i] at h2
  by_contra hc
  rw [decide_eq_false hc] at h2
  exact absurd h2 (by decide)

variable (m : (ℓ : Loc nD τ sig) → Buf (Elt Ideal) ℓ)

theorem finite_args (h : Pre_KernelIdeal_finite m) (c : Dev nD) :
    (∀ k, Re (aG m c k)) ∧ (∀ k n, Re (aQ m c k n)) ∧ (∀ b j n, Re (aK m c b j n)) ∧ (∀ k, Re (aF m c k)) ∧ (∀ k e, Re (aR m c k e)) := by
  have : Subsingleton (Cert.Pre_finite.S_).Idx := ⟨fun a b => funext fun i => i.elim0⟩
  have h0 := congrFun (h c) ix0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨fun k => re_of_all _ _ (fun _ => ofBits_inf) _ _ _ _ h1 (ix1 k),
    fun k n => re_of_all _ _ (fun _ => ofBits_inf) _ _ _ _ h2 (ix2 k n),
    fun b j n => re_of_all _ _ (fun _ => ofBits_inf) _ _ _ _ h3 (ix2 _ n),
    fun k => re_of_all _ _ (fun _ => ofBits_inf) _ _ _ _ h4 (ix1 k),
    fun k e => re_of_all _ _ (fun _ => ofBits_inf) _ _ _ _ h5 (ix2 k e)⟩

/-! ## The value claim -/

variable (m' : (ℓ : Loc Cert.ReferenceIdeal.nD Cert.ReferenceIdeal.τ Cert.ReferenceIdeal.sig) → Buf (Elt Ideal) ℓ)

/-- The reference's memory holds the kernel's arguments. -/
def Agree : Prop := ∀ c : Dev nD, m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
      ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
      ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)

variable {m m'}

/-- The reference's row after the block. -/
theorem ref_out (hm : Agree m m') (c : Dev nD) (R : Fin 8192) (n : Fin 4096) :
    (Cert.ReferenceIdeal.Value.res_out0 m' c : FVec Ideal Cert.ReferenceIdeal.S8192x4096 .f32) (ix2 R n)
      = out smR (aX m c R) (aG m c) (aQ m c) (aK m c ⟨R / 2048, by omega⟩) (aV m c ⟨R / 2048, by omega⟩) (aO m c) n := by
  obtain ⟨h0, h1, h2, h3, h4, h5, h6, h7⟩ := hm c
  rw [Ref.out0_eq, h0, h1, h2, h3, h4, h5, Ref.x2_at]
  unfold out att aX aO aV
  refine congrArg _ (Finset.sum_congr rfl fun k _ => congrArg (· * _) ?_)
  rw [Ref.o_at]
  refine Finset.sum_congr rfl fun j _ => congrArg (· * _) ?_
  rw [Ref.p_at]
  refine congrArg (smR · j) (funext fun j => ?_)
  rw [Ref.s_at]
  unfold aK score
  refine congrArg (· * scl) (Finset.sum_congr rfl fun d _ => congrArg (· * _) ?_)
  refine (Ref.q_at _ _ _ _ _).trans ?_
  have hR : (⟨(R : ℕ) / 2048 * 2048 + (R : ℕ) % 2048, by omega⟩ : Fin 8192) = R := Fin.ext (by show (R : ℕ) / 2048 * 2048 + (R : ℕ) % 2048 = R; omega)
  rw [hR]
  rfl

theorem out_same (h : Pre_KernelIdeal_finite m) (hm : Agree m m') (c : Dev nD) (R : Fin 8192) (n : Fin 4096) :
    (Cert.ReferenceIdeal.Value.res_out0 m' c : FVec Ideal Cert.ReferenceIdeal.S8192x4096 .f32) (ix2 R n) = gOut m c R n := by
  obtain ⟨hG, hQ, hK, _, _⟩ := finite_args m h c
  rw [ref_out hm, gOut, out_eq hG hQ (hK _)]

theorem aff_same (h : Pre_KernelIdeal_finite m) (hm : Agree m m') (c : Dev nD) (b : Fin 4) (e : Fin 16) (t : Fin 2048) :
    (Cert.ReferenceIdeal.Value.res_out1 m' c : FVec Ideal Cert.ReferenceIdeal.S4x16x2048 .f32) (ix3 b e t)
      = gAff m c ⟨b * 2048 + t, by omega⟩ e := by
  obtain ⟨_, _, _, hF, hR⟩ := finite_args m h c
  obtain ⟨h0, h1, h2, h3, h4, h5, h6, h7⟩ := id hm c
  rw [Ref.out1_eq, h6, h7, Ref.a_at, gAff, aff_eq (fun k => nrm_re _ _ _ (hF k)) hR]
  refine congrArg (smR · e) (funext fun n => ?_)
  rw [Ref.l_at]
  refine Finset.sum_congr rfl fun k _ => congrArg (· * _) ?_
  refine (Ref.h_at _ _ _ _).trans ?_
  exact congrArg (nrm · (aF m c) k) (funext fun k => out_same h hm c _ k)

theorem algebraic : algebraic_KernelIdeal_ReferenceIdeal_pre_finite := by
  intro m ρ m' ρ' hpre hm
  refine ⟨fun c => (fun i => gOut m c (i 0) (i 1) : FVec Ideal S8192x4096 .f32),
    fun c => (fun i => gAff m c ⟨(i 0 : ℕ) * 2048 + (i 2 : ℕ), by have := (i 0).isLt; have := (i 2).isLt; simp at *; omega⟩ (i 1) : FVec Ideal S4x16x2048 .f32),
    (θ_run _ _ _).mono (fun r h c => ?_) (Cert.KernelIdeal.Value.run_blocks m ρ),
    (θ_run _ _ _).mono (fun r h c => ?_) (Cert.ReferenceIdeal.Value.run m' ρ')⟩
  · obtain ⟨h8, _, h10, hrest⟩ := h c
    exact ⟨h8.trans (final8 m c), h10.trans (final10 m c), hrest⟩
  · obtain ⟨h0, h1, hrest⟩ := h c
    refine ⟨h0.trans (funext fun i => ?_), h1.trans (funext fun i => ?_), hrest⟩
    · have : i = ix2 (i 0) (i 1) := eq_ix2 i
      rw [this]
      exact out_same hpre hm c (i 0) (i 1)
    · have : i = ix3 (i 0) (i 1) (i 2) := eq_ix3 i
      rw [this]
      exact aff_same hpre hm c (i 0) (i 1) (i 2)

end Cert.Cross

end

end
-- ==== Proof.InBlock.lean ====
module

public import proofs.«01_k».proof.Proof.Gen.InProjIdeal.Frame
public import proofs.«01_k».proof.Proof.Spec
public import Idealize.ShloMosaic.Lib.ValueIdx
public import Idealize.ShloMosaic.Lib.Pipeline.ValueKit
public import Idealize.ShloMosaic.Lib.Pipeline.ReadBack

/-! The input projections: what a grid point of each of the four calls leaves, element by element. -/

set_option maxRecDepth 16384

@[expose] public section

noncomputable section

open Idealize.ShloMosaic Idealize.ShloMosaic.TcCoe Idealize.SL.Sem
open Cert.InProjIdeal Cert.InProjIdeal.Gen

namespace Cert.InV

/-- A row of the projection. -/
def dt (h w : Fin 4096 → EReal) : EReal := ∑ k, h k * w k

/-- Element `d` of a head `a` after the rotation by the tables' rows. -/
def rotK (a c s₁ s₂ : Fin 128 → EReal) (d : Fin 128) : EReal :=
  a d * c d + a ⟨(d + 128 - 112) % 128, by omega⟩ * s₁ d + a ⟨(d + 128 - 16) % 128, by omega⟩ * s₂ d

/-- The gate as the kernel has it. -/
def sgK (x : EReal) : EReal :=
  Ideal.ofBits .bf16 0x3F00#16 * Ideal.tanh (Ideal.ofBits .bf16 0x3F00#16 * x) + Ideal.ofBits .bf16 0x3F00#16

theorem out0_at (x : Vec Ideal S512x4096 .f32) (g : Vec Ideal S1x4096 .f32) (r : Fin 512) (n : Fin 4096) :
    out0_2 x g (ix2 r n) = Cert.Cross.nrm (fun k => x (ix2 r k)) (fun k => g (ix2 0 k)) n := by
  unfold out0_2
  canon_tiles y h
  idx_vars y
  obtain rfl : r = y0 := Fin.ext (by assumption)
  obtain rfl : n = y1 := Fin.ext (by assumption)
  pointwise [k0_pay1, Cert.Cross.nrm]

theorem out2_at (xh : Vec Ideal S2048x4096 .bf16) (xw : Vec Ideal S4096x256 .f32) (r : Fin 2048) (n : Fin 256) :
    out2_2 xh xw (ix2 r n) = dt (fun k => xh (ix2 r k)) (fun k => xw (ix2 k n)) := by
  unfold out2_2
  canon_tiles y h
  all_goals
    idx_vars y
    obtain rfl : n = y1 := Fin.ext (by assumption)
    pointwise [k2_pay1, k2_pay2, k2_pay3, k2_pay4, k2_pay5, dt]
    exact congrArg (fun q : Fin 2048 => ∑ k, xh (ix2 q k) * xw (ix2 k n)) (Fin.ext (by simpa using h0.symm))

theorem out3_at (xh : Vec Ideal S2048x4096 .bf16) (xw : Vec Ideal S4096x256 .f32) (xb : Vec Ideal S1x256 .f32) (r : Fin 2048) (n : Fin 256) :
    out3_3 xh xw xb (ix2 r n) = sgK (dt (fun k => xh (ix2 r k)) (fun k => xw (ix2 k n)) + xb (ix2 0 n)) := by
  unfold out3_3 k3_pay6
  canon_tiles y h
  all_goals
    idx_vars y
    obtain rfl : n = y1 := Fin.ext (by assumption)
    pointwise [k3_pay1, k3_pay2, k3_pay3, k3_pay4, k3_pay5, dt, sgK]
    exact congrArg (fun q : Fin 2048 => sgK (∑ k, xh (ix2 q k) * xw (ix2 k n) + xb (ix2 0 n))) (Fin.ext (by simpa using h0.symm))

theorem out1_lo (xh : Vec Ideal S2048x4096 .bf16) (xw : Vec Ideal S4096x256 .f32) (xc x₁ x₂ : Vec Ideal S2048x128 .f32)
    (r : Fin 2048) (d : Fin 128) :
    out1_5 xh xw xc x₁ x₂ (ix2 r ⟨d, by omega⟩)
      = rotK (fun k => dt (fun l => xh (ix2 r l)) (fun l => xw (ix2 l ⟨k, by omega⟩)))
          (fun k => xc (ix2 r k)) (fun k => x₁ (ix2 r k)) (fun k => x₂ (ix2 r k)) d := by
  unfold out1_5 k1_pay54 k1_pay55 k1_pay56 k1_pay57 k1_pay58 k1_pay59 k1_pay60 k1_pay61 k1_pay62 k1_pay63 k1_pay53
  canon_tiles y h
  all_goals
    idx_vars y
    first
    | (exfalso; omega)
    | (obtain rfl : d = y1 := Fin.ext (by simpa using h1)
       pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, rotK, dt]
       exact congrArg (fun q : Fin 2048 =>
         rotK (fun k => ∑ l, xh (ix2 q l) * xw (ix2 l ⟨k, by omega⟩)) (fun k => xc (ix2 q k)) (fun k => x₁ (ix2 q k)) (fun k => x₂ (ix2 q k)) d)
         (Fin.ext (by simpa using h0.symm)))

theorem out1_hi (xh : Vec Ideal S2048x4096 .bf16) (xw : Vec Ideal S4096x256 .f32) (xc x₁ x₂ : Vec Ideal S2048x128 .f32)
    (r : Fin 2048) (d : Fin 128) :
    out1_5 xh xw xc x₁ x₂ (ix2 r ⟨128 + d, by omega⟩)
      = rotK (fun k => dt (fun l => xh (ix2 r l)) (fun l => xw (ix2 l ⟨128 + k, by omega⟩)))
          (fun k => xc (ix2 r k)) (fun k => x₁ (ix2 r k)) (fun k => x₂ (ix2 r k)) d := by
  unfold out1_5 k1_pay54 k1_pay55 k1_pay56 k1_pay57 k1_pay58 k1_pay59 k1_pay60 k1_pay61 k1_pay62 k1_pay63 k1_pay53
  canon_tiles y h
  all_goals
    idx_vars y
    first
    | (exfalso; omega)
    | (obtain rfl : d = y1 := Fin.ext (by simpa using h1)
       pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, rotK, dt]
       exact congrArg (fun q : Fin 2048 =>
         rotK (fun k => ∑ l, xh (ix2 q l) * xw (ix2 l ⟨128 + k, by omega⟩)) (fun k => xc (ix2 q k)) (fun k => x₁ (ix2 q k)) (fun k => x₂ (ix2 q k)) d)
         (Fin.ext (by simpa using h0.symm)))

end Cert.InV

end

end
-- ==== Proof.InArrays.lean ====
module

public import proofs.«01_k».proof.Proof.InBlock

/-! The input projections: the run of the four calls, and the three result arrays as functions of the arguments. -/

set_option maxRecDepth 16384

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.InProjIdeal Cert.InProjIdeal.Gen

namespace Cert.InV

section Run

variable {F : FTy → Type} [FloatOps F]

variable (m : (ℓ : Loc nD τ sig) → Buf (Elt F) ℓ) (ρ : Dev nD → PrngReg)

set_option backward.isDefEq.respectTransparency.types false in
/-- The four regions run; every buffer outside the regions ends at the contents the last leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Run

variable (m : (ℓ : Loc nD τ sig) → Buf (Elt Ideal) ℓ) (ρ : Dev nD → PrngReg)

def aX (c : Dev nD) (R : Fin 8192) (k : Fin 4096) : EReal := (m ((c : Thread nD τ).loc main_arg0) : FVec Ideal S8192x4096 .f32) (ix2 R k)
def aG (c : Dev nD) (k : Fin 4096) : EReal := (m ((c : Thread nD τ).loc main_arg1) : FVec Ideal S4096 .f32) (ix1 k)
def aW (c : Dev nD) (n : Fin 17408) (k : Fin 4096) : EReal := (m ((c : Thread nD τ).loc main_arg2) : FVec Ideal S4096x17408 .f32) (ix2 k n)
def aB (c : Dev nD) (n : Fin 8192) : EReal := (m ((c : Thread nD τ).loc main_arg3) : FVec Ideal S8192 .f32) (ix1 n)

/-- A row of the normed input. -/
def hn (c : Dev nD) (R : Fin 8192) : Fin 4096 → EReal := Cert.Cross.nrm (aX m c R) (aG m c)

/-- The projection. -/
def pj (c : Dev nD) (R : Fin 8192) (n : Fin 17408) : EReal := dt (hn m c R) (aW m c n)

theorem idx0 : ∀ t : Fin cfg0.N, win0_0.index t = ![t.val, 0] ∧ win0_1.index t = ![0, 0] ∧ win0_2.index t = ![t.val, 0] ∧ t.val < 16 :=
  (by decide +kernel : ∀ t : Fin grid0.N, _)

theorem idx1 : ∀ t : Fin cfg1.N, win1_0.index t = ![t.val / 10, 0] ∧ win1_1.index t = ![0, t.val % 10]
    ∧ win1_2.index t = ![0, 0] ∧ win1_3.index t = ![0, 0] ∧ win1_4.index t = ![0, 0] ∧ win1_5.index t = ![t.val / 10, t.val % 10] ∧ t.val < 40 :=
  (by decide +kernel : ∀ t : Fin grid1.N, _)

theorem idx2 : ∀ t : Fin cfg2.N, win2_0.index t = ![t.val / 26, 0] ∧ win2_1.index t = ![0, t.val % 26 + 10]
    ∧ win2_2.index t = ![t.val / 26, t.val % 26] ∧ t.val < 104 :=
  (by decide +kernel : ∀ t : Fin grid2.N, _)

theorem idx3 : ∀ t : Fin cfg3.N, win3_0.index t = ![t.val / 32, 0] ∧ win3_1.index t = ![0, t.val % 32 + 36]
    ∧ win3_2.index t = ![0, t.val % 32] ∧ win3_3.index t = ![t.val / 32, t.val % 32] ∧ t.val < 128 :=
  (by decide +kernel : ∀ t : Fin grid3.N, _)

/-! ## The first call -/

theorem V1_arg0 (c : Dev nD) : V1 m ρ c main_arg0 = m ((c : Thread nD τ).loc main_arg0) := W1_args m ρ c _ (by decide)
theorem V1_v0 (c : Dev nD) : V1 m ρ c main_v0 = (shapeCast S1x4096 (m ((c : Thread nD τ).loc main_arg1)) shapeCasts_S4096_S1x4096 : FVec Ideal S1x4096 .f32) := rfl

theorem out0_at' (x : Vec Ideal S512x4096 .f32) (g : Vec Ideal S1x4096 .f32) (y : S512x4096.Idx) :
    out0_2 x g y = Cert.Cross.nrm (fun k => x (ix2 (y 0) k)) (fun k => g (ix2 0 k)) (y 1) := by
  idx_vars y
  exact out0_at x g y0 y1

theorem rd0_1 (g : FVec Ideal S1x4096 .f32) (t : Fin cfg0.N) (k : Fin 4096) :
    ((win0_1.blk t).view.read (Elt Ideal) g : FVec Ideal S1x4096 .f32) (ix2 0 k) = g (ix2 0 k) := by
  blk_ext [idx0 t]

theorem row_at (g : FVec Ideal S4096 .f32) (k : Fin 4096) :
    (shapeCast S1x4096 g shapeCasts_S4096_S1x4096 : FVec Ideal S1x4096 .f32) (ix2 0 k) = g (ix1 k) := by
  pointwise

theorem normed (c : Dev nD) : (dat0 (V1 m ρ) c).arrAt 2 cfg0.N = (fun i => hn m c (i 0) (i 1) : FVec Ideal S8192x4096 .bf16) := by
  refine (dat0 (V1 m ρ) c).arrAt_eq_of_covers 2 _ (by decide +kernel) fun t _ y => ?_
  blk_simp
  rw [after0_2]
  refine (out0_at' _ _ y).trans ?_
  unfold hn
  refine congr (congrArg₂ Cert.Cross.nrm (funext fun k => ?_) (funext fun k => ?_)) (Fin.ext (by blk_simp [idx0 t]))
  · refine (congrFun (congrArg ((win0_0.blk t).view.read (Elt Ideal)) (V1_arg0 m ρ c)) (ix2 (y 0) k)).trans ?_
    unfold aX; blk_ext [idx0 t]
  · refine (congrFun (congrArg ((win0_1.blk t).view.read (Elt Ideal)) (V1_v0 m ρ c)) (ix2 0 k)).trans ?_
    exact (rd0_1 _ t k).trans (row_at _ k)

theorem V2_v1 (c : Dev nD) : V2 m ρ c main_v1 = (fun i => hn m c (i 0) (i 1) : FVec Ideal S8192x4096 .bf16) :=
  (W2_arr m ρ c 2).trans (normed m ρ c)
theorem V3_v1 (c : Dev nD) : V3 m ρ c main_v1 = (fun i => hn m c (i 0) (i 1) : FVec Ideal S8192x4096 .bf16) :=
  (W3_of m ρ c main_v1 (by decide)).trans (V2_v1 m ρ c)
theorem V4_v1 (c : Dev nD) : V4 m ρ c main_v1 = (fun i => hn m c (i 0) (i 1) : FVec Ideal S8192x4096 .bf16) :=
  (W4_of m ρ c main_v1 (by decide)).trans (V3_v1 m ρ c)
theorem V5_v1 (c : Dev nD) : V5 m ρ c main_v1 = (fun i => hn m c (i 0) (i 1) : FVec Ideal S8192x4096 .bf16) :=
  (W5_of m ρ c main_v1 (by decide)).trans (V4_v1 m ρ c)
theorem V6_v1 (c : Dev nD) : V6 m ρ c main_v1 = (fun i => hn m c (i 0) (i 1) : FVec Ideal S8192x4096 .bf16) :=
  (W6_of m ρ c main_v1 (by decide)).trans (V5_v1 m ρ c)

theorem V3_arg2 (c : Dev nD) : V3 m ρ c main_arg2 = m ((c : Thread nD τ).loc main_arg2) := W3_args m ρ c _ (by decide)
theorem V4_arg2 (c : Dev nD) : V4 m ρ c main_arg2 = m ((c : Thread nD τ).loc main_arg2) := W4_args m ρ c _ (by decide)
theorem V6_arg2 (c : Dev nD) : V6 m ρ c main_arg2 = m ((c : Thread nD τ).loc main_arg2) := W6_args m ρ c _ (by decide)
theorem V5_arg3 (c : Dev nD) : V5 m ρ c main_arg3 = m ((c : Thread nD τ).loc main_arg3) := W5_args m ρ c _ (by decide)

/-! ## The third call -/

theorem out2_at' (xh : Vec Ideal S2048x4096 .bf16) (xw : Vec Ideal S4096x256 .f32) (y : S2048x256.Idx) :
    out2_2 xh xw y = dt (fun k => xh (ix2 (y 0) k)) (fun k => xw (ix2 k (y 1))) := by
  idx_vars y
  exact out2_at xh xw y0 y1

theorem plain (c : Dev nD) : (dat2 (V4 m ρ) c).arrAt 2 cfg2.N
    = (fun i => pj m c (i 0) ⟨2560 + i 1, by have : (i 1 : ℕ) < 6656 := (i 1).isLt; omega⟩ : FVec Ideal S8192x6656 .bf16) := by
  refine (dat2 (V4 m ρ) c).arrAt_eq_of_covers 2 _ (by decide +kernel) fun t _ y => ?_
  blk_simp
  rw [after2_2]
  refine (out2_at' _ _ y).trans ?_
  unfold pj
  refine congrArg₂ dt (funext fun k => ?_) (funext fun k => ?_)
  · refine (congrFun (congrArg ((win2_0.blk t).view.read (Elt Ideal)) (V4_v1 m ρ c)) (ix2 (y 0) k)).trans ?_
    blk_simp [idx2 t]
    refine congrArg₂ (hn m c) (Fin.ext ?_) (Fin.ext ?_) <;> blk_simp [idx2 t]
  · refine (congrFun (congrArg ((win2_1.blk t).view.read (Elt Ideal)) (V4_arg2 m ρ c)) (ix2 k (y 1))).trans ?_
    unfold aW; blk_ext [idx2 t]

/-! ## The fourth call -/

theorem V6_v28 (c : Dev nD) : V6 m ρ c main_v28 = (shapeCast S1x8192 (V5 m ρ c main_arg3) shapeCasts_S8192_S1x8192 : FVec Ideal S1x8192 .f32) := rfl

theorem rd3_2 (g : FVec Ideal S1x8192 .f32) (t : Fin cfg3.N) (n : Fin 256) (N : Fin 8192) (h : (N : ℕ) = t.val % 32 * 256 + n) :
    ((win3_2.blk t).view.read (Elt Ideal) g : FVec Ideal S1x256 .f32) (ix2 0 n) = g (ix2 0 N) := by
  blk_ext [idx3 t]

theorem row3_at (g : FVec Ideal S8192 .f32) (k : Fin 8192) :
    (shapeCast S1x8192 g shapeCasts_S8192_S1x8192 : FVec Ideal S1x8192 .f32) (ix2 0 k) = g (ix1 k) := by
  pointwise

theorem out3_at' (xh : Vec Ideal S2048x4096 .bf16) (xw : Vec Ideal S4096x256 .f32) (xb : Vec Ideal S1x256 .f32) (y : S2048x256.Idx) :
    out3_3 xh xw xb y = sgK (dt (fun k => xh (ix2 (y 0) k)) (fun k => xw (ix2 k (y 1))) + xb (ix2 0 (y 1))) := by
  idx_vars y
  exact out3_at xh xw xb y0 y1

theorem gated (c : Dev nD) : (dat3 (V6 m ρ) c).arrAt 3 cfg3.N
    = (fun i => sgK (pj m c (i 0) ⟨9216 + i 1, by have : (i 1 : ℕ) < 8192 := (i 1).isLt; omega⟩ + aB m c (i 1)) : FVec Ideal S8192x8192 .bf16) := by
  refine (dat3 (V6 m ρ) c).arrAt_eq_of_covers 3 _ (by decide +kernel) fun t _ y => ?_
  blk_simp
  rw [after3_3]
  refine (out3_at' _ _ _ y).trans ?_
  unfold pj
  refine congrArg sgK (congrArg₂ (· + ·) (congrArg₂ dt (funext fun k => ?_) (funext fun k => ?_)) ?_)
  · refine (congrFun (congrArg ((win3_0.blk t).view.read (Elt Ideal)) (V6_v1 m ρ c)) (ix2 (y 0) k)).trans ?_
    blk_simp [idx3 t]
    refine congrArg₂ (hn m c) (Fin.ext ?_) (Fin.ext ?_) <;> blk_simp [idx3 t]
  · refine (congrFun (congrArg ((win3_1.blk t).view.read (Elt Ideal)) (V6_arg2 m ρ c)) (ix2 k (y 1))).trans ?_
    unfold aW; blk_ext [idx3 t]
  · refine (congrFun (congrArg ((win3_2.blk t).view.read (Elt Ideal)) (V6_v28 m ρ c)) (ix2 0 (y 1))).trans ?_
    refine (rd3_2 _ t (y 1) ((win3_3.blk t).view.emb y 1) (by blk_simp [idx3 t])).trans ((row3_at _ _).trans ?_)
    rw [V5_arg3]
    rfl

end Cert.InV

end

end
-- ==== Proof.InRotary.lean ====
module

public import proofs.«01_k».proof.Proof.InArrays

/-! The input projections: the rotary call. -/

set_option maxRecDepth 16384

@[expose] public section

noncomputable section

open Idealize.ShloMosaic Idealize.ShloMosaic.TcCoe Idealize.SL.Sem
open Idealize.ShloMosaic.Pipeline (Dat)
open Cert.InProjIdeal Cert.InProjIdeal.Gen

namespace Cert.InV

/-! ## The tables -/

/-- The angles: position times inverse frequency. -/
def ang : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

def cosT : FVec Ideal S2048x16 .f32 := Host.cos ang
def sinT : FVec Ideal S2048x16 .f32 := Host.sin ang

/-- Three column groups side by side. -/
def tab (a b : FVec Ideal S2048x16 .f32) (o : FVec Ideal S2048x96 .f32) : FVec Ideal S2048x128 .f32 :=
  concatenate S2048x128 1 [⟨S2048x16, a⟩, ⟨S2048x16, b⟩, ⟨S2048x96, o⟩] concatenates_S2048x16_S2048x16_S2048x96_S2048x128_d1

def ones : FVec Ideal S2048x96 .f32 := broadcastInDim S2048x96 ![] bcast_S_S2048x96 (constant S_ .f32 0x3F800000#32)
def zeros : FVec Ideal S2048x96 .f32 := broadcastInDim S2048x96 ![] bcast_S_S2048x96 (constant S_ .f32 0x00000000#32)
def zh : FVec Ideal S2048x16 .f32 := broadcastInDim S2048x16 ![] bcast_S_S2048x16 (constant S_ .f32 0x00000000#32)

theorem tab_at (a b : FVec Ideal S2048x16 .f32) (o : FVec Ideal S2048x96 .f32) (s : Fin 2048) (d : Fin 128) :
    tab a b o (ix2 s d) = if h : (d : ℕ) < 16 then a (ix2 s ⟨d, h⟩) else if h' : (d : ℕ) < 32 then b (ix2 s ⟨d - 16, by omega⟩)
      else o (ix2 s ⟨d - 32, by omega⟩) := by
  pointwise [tab]
  by_cases h : (d : ℕ) < 16
  · rw [dif_pos h, dif_pos h]
  · rw [dif_neg h, dif_neg h]
    by_cases h' : (d : ℕ) < 32
    · rw [dif_pos h', dif_pos (by omega)]
    · rw [dif_neg h', dif_neg (by omega)]
      exact congrArg (fun q => o (ix2 s q)) (Fin.ext (by show (d : ℕ) - 16 - 16 = d - 32; omega))

theorem one_bits : Ideal.ofBits .f32 0x3F800000#32 = 1 := by
  simp [Ideal.ofBits, Ideal.ieee]
  rw [← EReal.coe_mul]
  norm_num

/-- Element `d` of a head `a` after the rotation. -/
def rot (a : Fin 128 → EReal) (c s : Fin 16 → EReal) (d : Fin 128) : EReal :=
  if h : (d : ℕ) < 16 then a d * c ⟨d, h⟩ - a ⟨d + 16, by omega⟩ * s ⟨d, h⟩
  else if h' : (d : ℕ) < 32 then a d * c ⟨d - 16, by omega⟩ + a ⟨d - 16, by omega⟩ * s ⟨d - 16, by omega⟩
  else a d

theorem rotK_eq (a : Fin 128 → EReal) (C S : FVec Ideal S2048x16 .f32) (s : Fin 2048) (d : Fin 128) :
    rotK a (fun k => tab C C ones (ix2 s k)) (fun k => tab (Host.negf S) zh zeros (ix2 s k)) (fun k => tab zh S zeros (ix2 s k)) d
      = rot a (fun j => C (ix2 s j)) (fun j => S (ix2 s j)) d := by
  unfold rotK rot
  simp only [tab_at]
  have hz : ∀ j : Fin 16, zh (ix2 s j) = 0 := fun j => by pointwise [zh]
  have hz' : ∀ j : Fin 96, zeros (ix2 s j) = 0 := fun j => by pointwise [zeros]
  have ho : ∀ j : Fin 96, ones (ix2 s j) = 1 := fun j => one_bits
  have hn : ∀ j : Fin 16, (Host.negf S : FVec Ideal S2048x16 .f32) (ix2 s j) = -S (ix2 s j) := fun j => rfl
  split_ifs with h h'
  · rw [hn, hz, mul_zero, add_zero, mul_neg, sub_eq_add_neg]
    exact congrArg (fun q => a d * _ + -(a q * _)) (Fin.ext (by show ((d : ℕ) + 128 - 112) % 128 = d + 16; omega))
  · rw [hz, mul_zero, add_zero]
    exact congrArg (fun q => a d * _ + a q * _) (Fin.ext (by show ((d : ℕ) + 128 - 16) % 128 = d - 16; omega))
  · rw [hz', ho, mul_one, mul_zero, mul_zero, add_zero, add_zero]

variable (m : (ℓ : Loc nD τ sig) → Buf (Elt Ideal) ℓ) (ρ : Dev nD → PrngReg)

set_option maxHeartbeats 1000000 in
theorem V3_v22 (c : Dev nD) : V3 m ρ c main_v22 = tab cosT cosT ones := rfl
set_option maxHeartbeats 1000000 in
theorem V3_v24 (c : Dev nD) : V3 m ρ c main_v24 = tab (Host.negf sinT) zh zeros := rfl
set_option maxHeartbeats 1000000 in
theorem V3_v25 (c : Dev nD) : V3 m ρ c main_v25 = tab zh sinT zeros := rfl

theorem out1_at' (xh : Vec Ideal S2048x4096 .bf16) (xw : Vec Ideal S4096x256 .f32) (xc x₁ x₂ : Vec Ideal S2048x128 .f32)
    (y : S2048x256.Idx) :
    out1_5 xh xw xc x₁ x₂ y = rotK (fun k => dt (fun l => xh (ix2 (y 0) l))
        (fun l => xw (ix2 l ⟨(y 1).val / 128 * 128 + k, by have := (y 1).isLt; have h : (y 1).val < 256 := this; omega⟩)))
      (fun k => xc (ix2 (y 0) k)) (fun k => x₁ (ix2 (y 0) k)) (fun k => x₂ (ix2 (y 0) k)) ⟨(y 1).val % 128, Nat.mod_lt _ (by decide)⟩ := by
  have hb : (y 1).val < 256 := (y 1).isLt
  by_cases h : (y 1).val < 128
  · have hy : y = ix2 (y 0) ⟨(⟨(y 1).val, h⟩ : Fin 128), hb⟩ := eq_ix2 y
    have h0 : (y 1).val / 128 = 0 := by omega
    have hm : (⟨(y 1).val % 128, Nat.mod_lt _ (by decide)⟩ : Fin 128) = ⟨(y 1).val, h⟩ := Fin.ext (by show (y 1).val % 128 = (y 1).val; omega)
    rw [hm]
    refine (congrArg (out1_5 xh xw xc x₁ x₂) hy).trans ((out1_lo xh xw xc x₁ x₂ (y 0) ⟨(y 1).val, h⟩).trans ?_)
    refine congrArg (fun a => rotK a _ _ _ _) (funext fun k => ?_)
    refine congrArg (dt _) (funext fun l => ?_)
    exact congrArg (fun q => xw (ix2 l q)) (Fin.ext (by show k.val = (y 1).val / 128 * 128 + k.val; omega))
  · have hl : (y 1).val - 128 < 128 := by omega
    have hy : y = ix2 (y 0) ⟨128 + (⟨(y 1).val - 128, hl⟩ : Fin 128).val, by show 128 + ((y 1).val - 128) < 256; omega⟩ :=
      (eq_ix2 y).trans (congrArg (ix2 (y 0)) (Fin.ext (by show (y 1).val = 128 + ((y 1).val - 128); omega)))
    have hm : (⟨(y 1).val % 128, Nat.mod_lt _ (by decide)⟩ : Fin 128) = ⟨(y 1).val - 128, hl⟩ := Fin.ext (by show _ % 128 = _ - 128; omega)
    rw [hm]
    refine (congrArg (out1_5 xh xw xc x₁ x₂) hy).trans ((out1_hi xh xw xc x₁ x₂ (y 0) ⟨(y 1).val - 128, hl⟩).trans ?_)
    refine congrArg (fun a => rotK a _ _ _ _) (funext fun k => ?_)
    refine congrArg (dt _) (funext fun l => ?_)
    exact congrArg (fun q => xw (ix2 l q)) (Fin.ext (by show 128 + k.val = (y 1).val / 128 * 128 + k.val; omega))

theorem rotK_congr {a a' c c' s₁ s₁' s₂ s₂' : Fin 128 → EReal} {d d' : Fin 128} (ha : a = a') (hc : c = c') (h₁ : s₁ = s₁')
    (h₂ : s₂ = s₂') (hd : d = d') : rotK a c s₁ s₂ d = rotK a' c' s₁' s₂' d' := by
  subst ha hc h₁ h₂ hd; rfl

theorem rot_congr {a a' : Fin 128 → EReal} {c c' s s' : Fin 16 → EReal} {d d' : Fin 128} (ha : a = a') (hc : c = c') (hs : s = s')
    (hd : d = d') : rot a c s d = rot a' c' s' d' := by
  subst ha hc hs hd; rfl

/-- One element of the rotated projection. -/
def rq (c : Dev nD) (R : Fin 8192) (n : Fin 2560) : EReal :=
  rot (fun k => pj m c R ⟨n / 128 * 128 + k, by omega⟩) (fun j => cosT (ix2 ⟨R % 2048, by omega⟩ j))
    (fun j => sinT (ix2 ⟨R % 2048, by omega⟩ j)) ⟨n % 128, by omega⟩

theorem rd1_2 (g : FVec Ideal S2048x128 .f32) (t : Fin cfg1.N) (r : Fin 2048) (k : Fin 128) :
    ((win1_2.blk t).view.read (Elt Ideal) g : FVec Ideal S2048x128 .f32) (ix2 r k) = g (ix2 r k) := by
  blk_ext [idx1 t]
theorem rd1_3 (g : FVec Ideal S2048x128 .f32) (t : Fin cfg1.N) (r : Fin 2048) (k : Fin 128) :
    ((win1_3.blk t).view.read (Elt Ideal) g : FVec Ideal S2048x128 .f32) (ix2 r k) = g (ix2 r k) := by
  blk_ext [idx1 t]
theorem rd1_4 (g : FVec Ideal S2048x128 .f32) (t : Fin cfg1.N) (r : Fin 2048) (k : Fin 128) :
    ((win1_4.blk t).view.read (Elt Ideal) g : FVec Ideal S2048x128 .f32) (ix2 r k) = g (ix2 r k) := by
  blk_ext [idx1 t]

theorem rd1_0 (g : FVec Ideal S8192x4096 .bf16) (t : Fin cfg1.N) (r : Fin 2048) (k : Fin 4096) (R : Fin 8192)
    (h : (R : ℕ) = t.val / 10 * 2048 + r) :
    ((win1_0.blk t).view.read (Elt Ideal) g : FVec Ideal S2048x4096 .bf16) (ix2 r k) = g (ix2 R k) := by
  blk_ext [idx1 t]
theorem rd1_1 (g : FVec Ideal S4096x17408 .f32) (t : Fin cfg1.N) (k : Fin 4096) (n : Fin 256) (N : Fin 17408)
    (h : (N : ℕ) = t.val % 10 * 256 + n) :
    ((win1_1.blk t).view.read (Elt Ideal) g : FVec Ideal S4096x256 .f32) (ix2 k n) = g (ix2 k N) := by
  blk_ext [idx1 t]

/-- The rotation call's grid point `t`, element `(r, n)` of its block. -/
theorem rot_blk (c : Dev nD) (t : Fin cfg1.N) (y : S2048x256.Idx) (R : Fin 8192) (n : Fin 2560)
    (hR : (R : ℕ) = t.val / 10 * 2048 + (y 0).val) (hn' : (n : ℕ) = t.val % 10 * 256 + (y 1).val) :
    out1_5 (iblk1 (V3 m ρ) c 0 t) (iblk1 (V3 m ρ) c 1 t) (iblk1 (V3 m ρ) c 2 t) (iblk1 (V3 m ρ) c 3 t) (iblk1 (V3 m ρ) c 4 t) y
      = rq m c R n := by
  have hy0 : (y 0).val < 2048 := (y 0).isLt
  have hy1 : (y 1).val < 256 := (y 1).isLt
  refine (out1_at' _ _ _ _ _ y).trans ?_
  refine (rotK_congr rfl (funext fun k => ?_) (funext fun k => ?_) (funext fun k => ?_) rfl).trans ((rotK_eq _ cosT sinT (y 0) _).trans ?_)
  · exact (congrFun (congrArg ((win1_2.blk t).view.read (Elt Ideal)) (V3_v22 m ρ c)) (ix2 (y 0) k)).trans (rd1_2 _ t (y 0) k)
  · exact (congrFun (congrArg ((win1_3.blk t).view.read (Elt Ideal)) (V3_v24 m ρ c)) (ix2 (y 0) k)).trans (rd1_3 _ t (y 0) k)
  · exact (congrFun (congrArg ((win1_4.blk t).view.read (Elt Ideal)) (V3_v25 m ρ c)) (ix2 (y 0) k)).trans (rd1_4 _ t (y 0) k)
  unfold rq
  have hr : y 0 = (⟨R % 2048, by omega⟩ : Fin 2048) := Fin.ext (by show (y 0).val = R.val % 2048; omega)
  refine rot_congr (funext fun k => ?_) (funext fun j => congrArg (fun q => cosT (ix2 q j)) hr)
    (funext fun j => congrArg (fun q => sinT (ix2 q j)) hr) (Fin.ext ?_)
  · unfold pj
    refine congrArg₂ dt (funext fun l => ?_) (funext fun l => ?_)
    · refine (congrFun (congrArg ((win1_0.blk t).view.read (Elt Ideal)) (V3_v1 m ρ c)) (ix2 (y 0) l)).trans ?_
      exact rd1_0 _ t (y 0) l R hR
    · refine (congrFun (congrArg ((win1_1.blk t).view.read (Elt Ideal)) (V3_arg2 m ρ c)) (ix2 l _)).trans ?_
      unfold aW
      refine rd1_1 _ t l _ _ ?_
      show n.val / 128 * 128 + k.val = t.val % 10 * 256 + ((y 1).val / 128 * 128 + k.val)
      omega
  · show (y 1).val % 128 = n.val % 128
    omega

theorem rotated (c : Dev nD) : (dat1 (V3 m ρ) c).arrAt 5 cfg1.N = (fun i => rq m c (i 0) (i 1) : FVec Ideal S8192x2560 .bf16) := by
  refine (dat1 (V3 m ρ) c).arrAt_eq_of_covers 5 _ (by decide +kernel) fun t _ y => ?_
  blk_simp
  rw [after1_5]
  refine (rot_blk m ρ c t y _ _ ?_ ?_) <;> blk_simp [idx1 t]

end Cert.InV

end

end
-- ==== Proof.InRef.lean ====
module

public import proofs.«01_k».proof.Proof.InRotary
public import proofs.«01_k».proof.Proof.Gen.InProjRefIdeal.Run
public import proofs.«01_k».proof.Defs

/-! The input projections: the plain program's results at an index. -/

set_option maxRecDepth 16384

@[expose] public section

noncomputable section

open Idealize.ShloMosaic Idealize.ShloMosaic.TcCoe Idealize.SL.Sem

namespace Cert.InV

/-- The plain program's normed input. -/
def hR (x : FVec Ideal Cert.InProjRefIdeal.S8192x4096 .f32) (g : FVec Ideal Cert.InProjRefIdeal.S4096 .f32) : FVec Ideal Cert.InProjRefIdeal.S8192x4096 .f32 :=
  (mulf (mulf x (broadcastInDim Cert.InProjRefIdeal.S8192x4096 ![0, 1] Cert.InProjRefIdeal.Facts₀.bcast_S8192x1_S8192x4096_0_1 (Host.rsqrt (addf (Host.divf (broadcastInDim Cert.InProjRefIdeal.S8192x1 ![0] Cert.InProjRefIdeal.Facts₀.bcast_S8192_S8192x1_0 (Host.reduceAdd (mulf x x) (constant Cert.InProjRefIdeal.S_ .f32 0x00000000#32) Cert.InProjRefIdeal.Facts₀.reducesTo_S8192x4096_S8192_d1 Cert.InProjRefIdeal.Facts₀.h_S_)) (broadcastInDim Cert.InProjRefIdeal.S8192x1 ![] Cert.InProjRefIdeal.Facts₀.bcast_S_S8192x1 (constant Cert.InProjRefIdeal.S_ .f32 0x45800000#32))) (broadcastInDim Cert.InProjRefIdeal.S8192x1 ![] Cert.InProjRefIdeal.Facts₀.bcast_S_S8192x1 (constant Cert.InProjRefIdeal.S_ .f32 0x358637BD#32)))))) (broadcastInDim Cert.InProjRefIdeal.S8192x4096 ![0, 1] Cert.InProjRefIdeal.Facts₀.bcast_S1x4096_S8192x4096_0_1 (broadcastInDim Cert.InProjRefIdeal.S1x4096 ![1] Cert.InProjRefIdeal.Facts₀.bcast_S4096_S1x4096_1 g)))

/-- Its projection. -/
def pR (h : FVec Ideal Cert.InProjRefIdeal.S8192x4096 .f32) (w : FVec Ideal Cert.InProjRefIdeal.S4096x17408 .f32) : FVec Ideal Cert.InProjRefIdeal.S8192x17408 .f32 :=
  Host.dotGeneral Cert.InProjRefIdeal.dot_S8192x4096_S4096x17408_S8192x17408_1_0_0_1_n_n none h w

/-- Its rotation of the sixteen query heads. -/
def rotQ (X : FVec Ideal Cert.InProjRefIdeal.S4x2048x16x128 .f32) (C S : FVec Ideal Cert.InProjRefIdeal.S2048x16 .f32) : FVec Ideal Cert.InProjRefIdeal.S4x2048x16x128 .f32 :=
  (concatenate Cert.InProjRefIdeal.S4x2048x16x128 3 [⟨Cert.InProjRefIdeal.S4x2048x16x32, (concatenate Cert.InProjRefIdeal.S4x2048x16x32 3 [⟨Cert.InProjRefIdeal.S4x2048x16x16, (subf (mulf (extractStridedSlice Cert.InProjRefIdeal.S4x2048x16x16 ![0, 0, 0, 0] (extractStridedSlice Cert.InProjRefIdeal.S4x2048x16x32 ![0, 0, 0, 0] X Cert.InProjRefIdeal.Facts₀.slices_S4x2048x16x128_S4x2048x16x32_0_0_0_0) Cert.InProjRefIdeal.Facts₀.slices_S4x2048x16x32_S4x2048x16x16_0_0_0_0) (broadcastInDim Cert.InProjRefIdeal.S4x2048x16x16 ![0, 1, 2, 3] Cert.InProjRefIdeal.Facts₀.bcast_S1x2048x1x16_S4x2048x16x16_0_1_2_3 (broadcastInDim Cert.InProjRefIdeal.S1x2048x1x16 ![1, 3] Cert.InProjRefIdeal.Facts₀.bcast_S2048x16_S1x2048x1x16_1_3 C))) (mulf (extractStridedSlice Cert.InProjRefIdeal.S4x2048x16x16 ![0, 0, 0, 16] (extractStridedSlice Cert.InProjRefIdeal.S4x2048x16x32 ![0, 0, 0, 0] X Cert.InProjRefIdeal.Facts₀.slices_S4x2048x16x128_S4x2048x16x32_0_0_0_0) Cert.InProjRefIdeal.Facts₀.slices_S4x2048x16x32_S4x2048x16x16_0_0_0_16) (broadcastInDim Cert.InProjRefIdeal.S4x2048x16x16 ![0, 1, 2, 3] Cert.InProjRefIdeal.Facts₀.bcast_S1x2048x1x16_S4x2048x16x16_0_1_2_3 (broadcastInDim Cert.InProjRefIdeal.S1x2048x1x16 ![1, 3] Cert.InProjRefIdeal.Facts₀.bcast_S2048x16_S1x2048x1x16_1_3 S))))⟩, ⟨Cert.InProjRefIdeal.S4x2048x16x16, (addf (mulf (extractStridedSlice Cert.InProjRefIdeal.S4x2048x16x16 ![0, 0, 0, 16] (extractStridedSlice Cert.InProjRefIdeal.S4x2048x16x32 ![0, 0, 0, 0] X Cert.InProjRefIdeal.Facts₀.slices_S4x2048x16x128_S4x2048x16x32_0_0_0_0) Cert.InProjRefIdeal.Facts₀.slices_S4x2048x16x32_S4x2048x16x16_0_0_0_16) (broadcastInDim Cert.InProjRefIdeal.S4x2048x16x16 ![0, 1, 2, 3] Cert.InProjRefIdeal.Facts₀.bcast_S1x2048x1x16_S4x2048x16x16_0_1_2_3 (broadcastInDim Cert.InProjRefIdeal.S1x2048x1x16 ![1, 3] Cert.InProjRefIdeal.Facts₀.bcast_S2048x16_S1x2048x1x16_1_3 C))) (mulf (extractStridedSlice Cert.InProjRefIdeal.S4x2048x16x16 ![0, 0, 0, 0] (extractStridedSlice Cert.InProjRefIdeal.S4x2048x16x32 ![0, 0, 0, 0] X Cert.InProjRefIdeal.Facts₀.slices_S4x2048x16x128_S4x2048x16x32_0_0_0_0) Cert.InProjRefIdeal.Facts₀.slices_S4x2048x16x32_S4x2048x16x16_0_0_0_0) (broadcastInDim Cert.InProjRefIdeal.S4x2048x16x16 ![0, 1, 2, 3] Cert.InProjRefIdeal.Facts₀.bcast_S1x2048x1x16_S4x2048x16x16_0_1_2_3 (broadcastInDim Cert.InProjRefIdeal.S1x2048x1x16 ![1, 3] Cert.InProjRefIdeal.Facts₀.bcast_S2048x16_S1x2048x1x16_1_3 S))))⟩] Cert.InProjRefIdeal.Facts₀.concatenates_S4x2048x16x16_S4x2048x16x16_S4x2048x16x32_d3)⟩, ⟨Cert.InProjRefIdeal.S4x2048x16x96, (extractStridedSlice Cert.InProjRefIdeal.S4x2048x16x96 ![0, 0, 0, 32] X Cert.InProjRefIdeal.Facts₀.slices_S4x2048x16x128_S4x2048x16x96_0_0_0_32)⟩] Cert.InProjRefIdeal.Facts₀.concatenates_S4x2048x16x32_S4x2048x16x96_S4x2048x16x128_d3)

/-- Its rotation of the four key heads. -/
def rotKV (X : FVec Ideal Cert.InProjRefIdeal.S4x2048x4x128 .f32) (C S : FVec Ideal Cert.InProjRefIdeal.S2048x16 .f32) : FVec Ideal Cert.InProjRefIdeal.S4x2048x4x128 .f32 :=
  (concatenate Cert.InProjRefIdeal.S4x2048x4x128 3 [⟨Cert.InProjRefIdeal.S4x2048x4x32, (concatenate Cert.InProjRefIdeal.S4x2048x4x32 3 [⟨Cert.InProjRefIdeal.S4x2048x4x16, (subf (mulf (extractStridedSlice Cert.InProjRefIdeal.S4x2048x4x16 ![0, 0, 0, 0] (extractStridedSlice Cert.InProjRefIdeal.S4x2048x4x32 ![0, 0, 0, 0] X Cert.InProjRefIdeal.Facts₀.slices_S4x2048x4x128_S4x2048x4x32_0_0_0_0) Cert.InProjRefIdeal.Facts₀.slices_S4x2048x4x32_S4x2048x4x16_0_0_0_0) (broadcastInDim Cert.InProjRefIdeal.S4x2048x4x16 ![0, 1, 2, 3] Cert.InProjRefIdeal.Facts₀.bcast_S1x2048x1x16_S4x2048x4x16_0_1_2_3 (broadcastInDim Cert.InProjRefIdeal.S1x2048x1x16 ![1, 3] Cert.InProjRefIdeal.Facts₀.bcast_S2048x16_S1x2048x1x16_1_3 C))) (mulf (extractStridedSlice Cert.InProjRefIdeal.S4x2048x4x16 ![0, 0, 0, 16] (extractStridedSlice Cert.InProjRefIdeal.S4x2048x4x32 ![0, 0, 0, 0] X Cert.InProjRefIdeal.Facts₀.slices_S4x2048x4x128_S4x2048x4x32_0_0_0_0) Cert.InProjRefIdeal.Facts₀.slices_S4x2048x4x32_S4x2048x4x16_0_0_0_16) (broadcastInDim Cert.InProjRefIdeal.S4x2048x4x16 ![0, 1, 2, 3] Cert.InProjRefIdeal.Facts₀.bcast_S1x2048x1x16_S4x2048x4x16_0_1_2_3 (broadcastInDim Cert.InProjRefIdeal.S1x2048x1x16 ![1, 3] Cert.InProjRefIdeal.Facts₀.bcast_S2048x16_S1x2048x1x16_1_3 S))))⟩, ⟨Cert.InProjRefIdeal.S4x2048x4x16, (addf (mulf (extractStridedSlice Cert.InProjRefIdeal.S4x2048x4x16 ![0, 0, 0, 16] (extractStridedSlice Cert.InProjRefIdeal.S4x2048x4x32 ![0, 0, 0, 0] X Cert.InProjRefIdeal.Facts₀.slices_S4x2048x4x128_S4x2048x4x32_0_0_0_0) Cert.InProjRefIdeal.Facts₀.slices_S4x2048x4x32_S4x2048x4x16_0_0_0_16) (broadcastInDim Cert.InProjRefIdeal.S4x2048x4x16 ![0, 1, 2, 3] Cert.InProjRefIdeal.Facts₀.bcast_S1x2048x1x16_S4x2048x4x16_0_1_2_3 (broadcastInDim Cert.InProjRefIdeal.S1x2048x1x16 ![1, 3] Cert.InProjRefIdeal.Facts₀.bcast_S2048x16_S1x2048x1x16_1_3 C))) (mulf (extractStridedSlice Cert.InProjRefIdeal.S4x2048x4x16 ![0, 0, 0, 0] (extractStridedSlice Cert.InProjRefIdeal.S4x2048x4x32 ![0, 0, 0, 0] X Cert.InProjRefIdeal.Facts₀.slices_S4x2048x4x128_S4x2048x4x32_0_0_0_0) Cert.InProjRefIdeal.Facts₀.slices_S4x2048x4x32_S4x2048x4x16_0_0_0_0) (broadcastInDim Cert.InProjRefIdeal.S4x2048x4x16 ![0, 1, 2, 3] Cert.InProjRefIdeal.Facts₀.bcast_S1x2048x1x16_S4x2048x4x16_0_1_2_3 (broadcastInDim Cert.InProjRefIdeal.S1x2048x1x16 ![1, 3] Cert.InProjRefIdeal.Facts₀.bcast_S2048x16_S1x2048x1x16_1_3 S))))⟩] Cert.InProjRefIdeal.Facts₀.concatenates_S4x2048x4x16_S4x2048x4x16_S4x2048x4x32_d3)⟩, ⟨Cert.InProjRefIdeal.S4x2048x4x96, (extractStridedSlice Cert.InProjRefIdeal.S4x2048x4x96 ![0, 0, 0, 32] X Cert.InProjRefIdeal.Facts₀.slices_S4x2048x4x128_S4x2048x4x96_0_0_0_32)⟩] Cert.InProjRefIdeal.Facts₀.concatenates_S4x2048x4x32_S4x2048x4x96_S4x2048x4x128_d3)

/-- Its first result. -/
def refQK (P : FVec Ideal Cert.InProjRefIdeal.S8192x17408 .f32) (C S : FVec Ideal Cert.InProjRefIdeal.S2048x16 .f32) : FVec Ideal Cert.InProjRefIdeal.S8192x2560 .bf16 :=
  truncf .bf16 (concatenate Cert.InProjRefIdeal.S8192x2560 1 [⟨Cert.InProjRefIdeal.S8192x2048, (shapeCast _ (rotQ (shapeCast _ (extractStridedSlice Cert.InProjRefIdeal.S8192x2048 ![0, 0] P Cert.InProjRefIdeal.Facts₀.slices_S8192x17408_S8192x2048_0_0) Cert.InProjRefIdeal.Facts₀.shapeCasts_S8192x2048_S4x2048x16x128) C S) Cert.InProjRefIdeal.Facts₀.shapeCasts_S4x2048x16x128_S8192x2048)⟩, ⟨Cert.InProjRefIdeal.S8192x512, (shapeCast _ (rotKV (shapeCast _ (extractStridedSlice Cert.InProjRefIdeal.S8192x512 ![0, 2048] P Cert.InProjRefIdeal.Facts₀.slices_S8192x17408_S8192x512_0_2048) Cert.InProjRefIdeal.Facts₀.shapeCasts_S8192x512_S4x2048x4x128) C S) Cert.InProjRefIdeal.Facts₀.shapeCasts_S4x2048x4x128_S8192x512)⟩] Cert.InProjRefIdeal.Facts₀.concatenates_S8192x2048_S8192x512_S8192x2560_d1) Cert.InProjRefIdeal.Facts₀.bitsLt_bf16_f32

/-- Its second result. -/
def refPlain (P : FVec Ideal Cert.InProjRefIdeal.S8192x17408 .f32) : FVec Ideal Cert.InProjRefIdeal.S8192x6656 .bf16 :=
  truncf .bf16 (concatenate Cert.InProjRefIdeal.S8192x6656 1 [⟨Cert.InProjRefIdeal.S8192x512, (extractStridedSlice Cert.InProjRefIdeal.S8192x512 ![0, 2560] P Cert.InProjRefIdeal.Facts₀.slices_S8192x17408_S8192x512_0_2560)⟩, ⟨Cert.InProjRefIdeal.S8192x2048, (extractStridedSlice Cert.InProjRefIdeal.S8192x2048 ![0, 3072] P Cert.InProjRefIdeal.Facts₀.slices_S8192x17408_S8192x2048_0_3072)⟩, ⟨Cert.InProjRefIdeal.S8192x2048, (extractStridedSlice Cert.InProjRefIdeal.S8192x2048 ![0, 5120] P Cert.InProjRefIdeal.Facts₀.slices_S8192x17408_S8192x2048_0_5120)⟩, ⟨Cert.InProjRefIdeal.S8192x2048, (extractStridedSlice Cert.InProjRefIdeal.S8192x2048 ![0, 7168] P Cert.InProjRefIdeal.Facts₀.slices_S8192x17408_S8192x2048_0_7168)⟩] Cert.InProjRefIdeal.Facts₀.concatenates_S8192x512_S8192x2048_S8192x2048_S8192x2048_S8192x6656_d1) Cert.InProjRefIdeal.Facts₀.bitsLt_bf16_f32

/-- Its third result. -/
def refGate (P : FVec Ideal Cert.InProjRefIdeal.S8192x17408 .f32) (b : FVec Ideal Cert.InProjRefIdeal.S8192 .f32) : FVec Ideal Cert.InProjRefIdeal.S8192x8192 .bf16 :=
  truncf .bf16 (Host.divf (broadcastInDim Cert.InProjRefIdeal.S8192x8192 ![] Cert.InProjRefIdeal.Facts₀.bcast_S_S8192x8192 (constant Cert.InProjRefIdeal.S_ .f32 0x3F800000#32)) (addf (broadcastInDim Cert.InProjRefIdeal.S8192x8192 ![] Cert.InProjRefIdeal.Facts₀.bcast_S_S8192x8192 (constant Cert.InProjRefIdeal.S_ .f32 0x3F800000#32)) (Host.exp (Host.negf (addf (extractStridedSlice Cert.InProjRefIdeal.S8192x8192 ![0, 9216] P Cert.InProjRefIdeal.Facts₀.slices_S8192x17408_S8192x8192_0_9216) (broadcastInDim Cert.InProjRefIdeal.S8192x8192 ![0, 1] Cert.InProjRefIdeal.Facts₀.bcast_S1x8192_S8192x8192_0_1 (broadcastInDim Cert.InProjRefIdeal.S1x8192 ![1] Cert.InProjRefIdeal.Facts₀.bcast_S8192_S1x8192_1 b))))))) Cert.InProjRefIdeal.Facts₀.bitsLt_bf16_f32

theorem hR_at (x g) (R : Fin 8192) (k : Fin 4096) :
    hR x g (ix2 R k) = Cert.Cross.nrm (fun l => x (ix2 R l)) (fun l => g (ix1 l)) k := by
  pointwise [hR, Cert.Cross.nrm]

theorem pR_at (h w) (R : Fin 8192) (n : Fin 17408) :
    pR h w (ix2 R n) = dt (fun k => h (ix2 R k)) (fun k => w (ix2 k n)) := by
  pointwise [pR, dt]

theorem rotQ_at (X C S) (b : Fin 4) (s : Fin 2048) (h : Fin 16) (d : Fin 128) :
    rotQ X C S (ix4 b s h d) = rot (fun k => X (ix4 b s h k)) (fun j => C (ix2 s j)) (fun j => S (ix2 s j)) d := by
  pointwise [rotQ, rot]
  by_cases h1 : (d : ℕ) < 16
  · rw [dif_pos (by omega), dif_pos h1, dif_pos h1]
    exact congrArg (fun q => X (ix4 b s h d) * _ - X (ix4 b s h q) * _) (Fin.ext (by show 16 + (d : ℕ) = d + 16; omega))
  · by_cases h2 : (d : ℕ) < 32
    · rw [dif_pos h2, dif_neg h1, dif_neg h1, dif_pos h2]
      exact congrArg (fun q => X (ix4 b s h q) * _ + X (ix4 b s h ⟨d - 16, by omega⟩) * _) (Fin.ext (by show 16 + ((d : ℕ) - 16) = d; omega))
    · rw [dif_neg h2, dif_neg h1, dif_neg h2]
      exact congrArg (fun q => X (ix4 b s h q)) (Fin.ext (by show 32 + ((d : ℕ) - 32) = d; omega))

theorem rotKV_at (X C S) (b : Fin 4) (s : Fin 2048) (h : Fin 4) (d : Fin 128) :
    rotKV X C S (ix4 b s h d) = rot (fun k => X (ix4 b s h k)) (fun j => C (ix2 s j)) (fun j => S (ix2 s j)) d := by
  pointwise [rotKV, rot]
  by_cases h1 : (d : ℕ) < 16
  · rw [dif_pos (by omega), dif_pos h1, dif_pos h1]
    exact congrArg (fun q => X (ix4 b s h d) * _ - X (ix4 b s h q) * _) (Fin.ext (by show 16 + (d : ℕ) = d + 16; omega))
  · by_cases h2 : (d : ℕ) < 32
    · rw [dif_pos h2, dif_neg h1, dif_neg h1, dif_pos h2]
      exact congrArg (fun q => X (ix4 b s h q) * _ + X (ix4 b s h ⟨d - 16, by omega⟩) * _) (Fin.ext (by show 16 + ((d : ℕ) - 16) = d; omega))
    · rw [dif_neg h2, dif_neg h1, dif_neg h2]
      exact congrArg (fun q => X (ix4 b s h q)) (Fin.ext (by show 32 + ((d : ℕ) - 32) = d; omega))

theorem refPlain_at (P) (R : Fin 8192) (n : Fin 6656) : refPlain P (ix2 R n) = P (ix2 R ⟨2560 + n, by omega⟩) := by
  pointwise [refPlain]
  by_cases h1 : (n : ℕ) < 512
  · rw [dif_pos h1]
  rw [dif_neg h1]
  by_cases h2 : (n : ℕ) - 512 < 2048
  · rw [dif_pos h2]
    exact congrArg (fun q => P (ix2 R q)) (Fin.ext (by show 3072 + ((n : ℕ) - 512) = 2560 + n; omega))
  rw [dif_neg h2]
  by_cases h3 : (n : ℕ) - 512 - 2048 < 2048
  · rw [dif_pos h3]
    exact congrArg (fun q => P (ix2 R q)) (Fin.ext (by show 5120 + ((n : ℕ) - 512 - 2048) = 2560 + n; omega))
  · rw [dif_neg h3]
    exact congrArg (fun q => P (ix2 R q)) (Fin.ext (by show 7168 + ((n : ℕ) - 512 - 2048 - 2048) = 2560 + n; omega))

theorem refGate_at (P b) (R : Fin 8192) (n : Fin 8192) :
    refGate P b (ix2 R n) = Ideal.div 1 (1 + Ideal.exp (-(P (ix2 R ⟨9216 + n, by omega⟩) + b (ix1 n)))) := by
  pointwise [refGate]

theorem xq_at (P : FVec Ideal Cert.InProjRefIdeal.S8192x17408 .f32) (b : Fin 4) (s : Fin 2048) (h : Fin 16) (d : Fin 128) :
    (shapeCast Cert.InProjRefIdeal.S4x2048x16x128 (extractStridedSlice Cert.InProjRefIdeal.S8192x2048 ![0, 0] P Cert.InProjRefIdeal.Facts₀.slices_S8192x17408_S8192x2048_0_0)
      Cert.InProjRefIdeal.Facts₀.shapeCasts_S8192x2048_S4x2048x16x128 : FVec Ideal Cert.InProjRefIdeal.S4x2048x16x128 .f32) (ix4 b s h d)
      = P (ix2 ⟨b * 2048 + s, by omega⟩ ⟨h * 128 + d, by omega⟩) := by
  pointwise

theorem xk_at (P : FVec Ideal Cert.InProjRefIdeal.S8192x17408 .f32) (b : Fin 4) (s : Fin 2048) (h : Fin 4) (d : Fin 128) :
    (shapeCast Cert.InProjRefIdeal.S4x2048x4x128 (extractStridedSlice Cert.InProjRefIdeal.S8192x512 ![0, 2048] P Cert.InProjRefIdeal.Facts₀.slices_S8192x17408_S8192x512_0_2048)
      Cert.InProjRefIdeal.Facts₀.shapeCasts_S8192x512_S4x2048x4x128 : FVec Ideal Cert.InProjRefIdeal.S4x2048x4x128 .f32) (ix4 b s h d)
      = P (ix2 ⟨b * 2048 + s, by omega⟩ ⟨2048 + (h * 128 + d), by omega⟩) := by
  pointwise

theorem refQK_at (P C S) (R : Fin 8192) (n : Fin 2560) :
    refQK P C S (ix2 R n) = rot (fun k => P (ix2 R ⟨n / 128 * 128 + k, by omega⟩)) (fun j => C (ix2 ⟨R % 2048, by omega⟩ j))
      (fun j => S (ix2 ⟨R % 2048, by omega⟩ j)) ⟨n % 128, by omega⟩ := by
  pointwise [refQK]
  by_cases h : (n : ℕ) < 2048
  · rw [dif_pos h, rotQ_at]
    refine rot_congr (funext fun k => (xq_at P _ _ _ k).trans ?_) rfl rfl rfl
    exact congrArg₂ (fun a b => P (ix2 a b)) (Fin.ext (by show (R : ℕ) / 2048 * 2048 + R % 2048 = R; omega)) rfl
  · rw [dif_neg h, rotKV_at]
    refine rot_congr (funext fun k => (xk_at P _ _ _ k).trans ?_) rfl rfl (Fin.ext ?_)
    · exact congrArg₂ (fun a b => P (ix2 a b)) (Fin.ext (by show (R : ℕ) / 2048 * 2048 + R % 2048 = R; omega))
        (Fin.ext (by show 2048 + (((n : ℕ) - 2048) / 128 * 128 + k) = n / 128 * 128 + k; omega))
    · show ((n : ℕ) - 2048) % 128 = n % 128
      omega

theorem sg_real (x : ℝ) : (1 / 2 : ℝ) * Real.tanh (1 / 2 * x) + 1 / 2 = 1 / (1 + Real.exp (-x)) := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have hp := Real.exp_pos (1 / 2 * x)
  have hq := Real.exp_pos (-(1 / 2 * x))
  rw [Real.tanh_eq_sinh_div_cosh, Real.sinh_eq, Real.cosh_eq, h1]
  generalize Real.exp (1 / 2 * x) = u at *
  generalize Real.exp (-(1 / 2 * x)) = v at *
  have hu : u + v ≠ 0 := by positivity
  have hv : 1 + v * v ≠ 0 := by positivity
  field_simp
  linear_combination (2 * v) * h2

theorem half_bits : Ideal.ofBits .bf16 0x3F00#16 = ((1 / 2 : ℝ) : EReal) := by
  simp [Ideal.ofBits, Ideal.ieee]
  rw [← EReal.coe_mul]
  norm_num

theorem sg_eq (x : EReal) : sgK x = Ideal.div 1 (1 + Ideal.exp (-x)) := by
  unfold sgK
  rw [half_bits]
  induction x using EReal.rec with
  | bot =>
    have hl : ((1 / 2 : ℝ) : EReal) * (-1) + ((1 / 2 : ℝ) : EReal) = 0 := by
      rw [← EReal.coe_one, ← EReal.coe_neg, ← EReal.coe_mul, ← EReal.coe_add]; norm_num
    rw [EReal.coe_mul_bot_of_pos (by norm_num), Ideal.tanh_bot, hl, EReal.neg_bot, Ideal.exp_top,
      EReal.add_top_of_ne_bot (by decide)]
    unfold Ideal.div
    rw [if_neg (by decide), EReal.inv_top, mul_zero]
  | top =>
    have hl : ((1 / 2 : ℝ) : EReal) * 1 + ((1 / 2 : ℝ) : EReal) = 1 := by
      rw [← EReal.coe_one, ← EReal.coe_mul, ← EReal.coe_add]; norm_num
    rw [EReal.coe_mul_top_of_pos (by norm_num), Ideal.tanh_top, hl, EReal.neg_top, Ideal.exp_bot, add_zero,
      ← EReal.coe_one, Ideal.div_coe one_ne_zero]
    norm_num
  | coe x =>
    have hne : (1 + Real.exp (-x)) ≠ 0 := by positivity
    rw [← EReal.coe_mul, Ideal.tanh_coe, ← EReal.coe_mul, ← EReal.coe_add, sg_real, ← EReal.coe_neg, Ideal.exp_coe,
      ← EReal.coe_one, ← EReal.coe_add, Ideal.div_coe hne, EReal.coe_one, one_mul]

section
variable (m : (ℓ : Loc Cert.InProjRefIdeal.nD Cert.InProjRefIdeal.τ Cert.InProjRefIdeal.sig) → Buf (Elt Ideal) ℓ) (c : Dev Cert.InProjRefIdeal.nD)

/-- The plain program's projection of its arguments. -/
def prj : FVec Ideal Cert.InProjRefIdeal.S8192x17408 .f32 :=
  pR (hR (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)))
    (m ((c.tc : Thread Cert.InProjRefIdeal.nD Cert.InProjRefIdeal.τ).loc Cert.InProjRefIdeal.main_arg2))

theorem ref_out0 : Cert.InProjRefIdeal.Value.res_out0 m c = refQK (prj m c) cosT sinT := rfl

end

variable (m : (ℓ : Loc Cert.InProjIdeal.nD Cert.InProjIdeal.τ Cert.InProjIdeal.sig) → Buf (Elt Ideal) ℓ)

theorem prj_at (m' : (ℓ : Loc Cert.InProjRefIdeal.nD Cert.InProjRefIdeal.τ Cert.InProjRefIdeal.sig) → Buf (Elt Ideal) ℓ) (c : Dev Cert.InProjIdeal.nD)
    (h0 : m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0))
    (h1 : m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1))
    (h2 : m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2))
    (R : Fin 8192) (n : Fin 17408) : prj m' c (ix2 R n) = pj m c R n := by
  unfold prj
  rw [h0, h1, h2, pR_at]
  exact congrArg (fun f => dt f (aW m c n)) (funext fun k => hR_at _ _ R k)

variable (ρ : Dev Cert.InProjIdeal.nD → PrngReg)

open Cert.InProjIdeal Cert.InProjIdeal.Gen in
theorem out_v26 (c : Dev nD) : W7 m ρ c main_v26 = (fun i => rq m c (i 0) (i 1) : FVec Ideal S8192x2560 .bf16) :=
  (W7_of m ρ c main_v26 (by decide)).trans ((W6_of m ρ c main_v26 (by decide)).trans ((W5_of m ρ c main_v26 (by decide)).trans
    ((W4_arr m ρ c 5).trans (rotated m ρ c))))

open Cert.InProjIdeal Cert.InProjIdeal.Gen in
theorem out_v27 (c : Dev nD) : W7 m ρ c main_v27
    = (fun i => pj m c (i 0) ⟨2560 + i 1, by have : (i 1 : ℕ) < 6656 := (i 1).isLt; omega⟩ : FVec Ideal S8192x6656 .bf16) :=
  (W7_of m ρ c main_v27 (by decide)).trans ((W6_of m ρ c main_v27 (by decide)).trans ((W5_arr m ρ c 2).trans (plain m ρ c)))

theorem algebraic : algebraic_InProjIdeal_InProjRefIdeal := by
  intro m ρ m' ρ' _ hm
  refine ⟨fun c => (fun i => rq m c (i 0) (i 1) : FVec Ideal Cert.InProjIdeal.S8192x2560 .bf16),
    fun c => (fun i => pj m c (i 0) ⟨2560 + i 1, by have : (i 1 : ℕ) < 6656 := (i 1).isLt; omega⟩ : FVec Ideal Cert.InProjIdeal.S8192x6656 .bf16),
    fun c => (fun i => sgK (pj m c (i 0) ⟨9216 + i 1, by have : (i 1 : ℕ) < 8192 := (i 1).isLt; omega⟩ + aB m c (i 1)) : FVec Ideal Cert.InProjIdeal.S8192x8192 .bf16),
    (θ_run _ _ _).mono (fun r h c => ?_) (run m ρ),
    (θ_run _ _ _).mono (fun r h c => ?_) (Cert.InProjRefIdeal.Value.run m' ρ')⟩
  · open Cert.InProjIdeal Cert.InProjIdeal.Gen in
    exact ⟨(h c _ (mem_uc main_v26 (by decide))).trans (out_v26 m ρ c),
      (h c _ (mem_uc main_v27 (by decide))).trans (out_v27 m ρ c),
      (h c _ (mem_uc main_v29 (by decide))).trans ((W7_arr m ρ c 3).trans (gated m ρ c)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c)⟩
  · obtain ⟨h0, h1, h2, h3⟩ := hm c
    refine ⟨(h c).1.trans ((ref_out0 m' c).trans (funext fun i => ?_)),
      (h c).2.1.trans ((show _ = refPlain (prj m' c) from rfl).trans (funext fun i => ?_)),
      (h c).2.2.1.trans ((show _ = refGate (prj m' c) (m' ((c.tc : Thread Cert.InProjRefIdeal.nD Cert.InProjRefIdeal.τ).loc Cert.InProjRefIdeal.main_arg3)) from rfl).trans (funext fun i => ?_)),
      (h c).2.2.2⟩
    · refine (congrArg (refQK _ _ _) (eq_ix2 i : i = ix2 (i 0) (i 1))).trans ((refQK_at _ _ _ (i 0) (i 1)).trans ?_)
      exact rot_congr (funext fun k => prj_at m m' c h0 h1 h2 _ _) rfl rfl rfl
    · refine (congrArg (refPlain _) (eq_ix2 i : i = ix2 (i 0) (i 1))).trans ((refPlain_at _ (i 0) (i 1)).trans ?_)
      exact prj_at m m' c h0 h1 h2 _ _
    · refine (congrArg (refGate _ _) (eq_ix2 i : i = ix2 (i 0) (i 1))).trans ((refGate_at _ _ (i 0) (i 1)).trans ?_)
      refine (sg_eq _).symm.trans (congrArg sgK (congrArg₂ (· + ·) (prj_at m m' c h0 h1 h2 _ _) ?_))
      rw [h3]; rfl

end Cert.InV

end

end
-- ==== Proof.MergeV.lean ====
module

public import proofs.«01_k».proof.Defs
public import proofs.«01_k».proof.Proof.Gen.MergeOutIdeal.Frame
public import proofs.«01_k».proof.Proof.Gen.MergeOutRefIdeal.Run
public import Idealize.ShloMosaic.Lib.ValueIdx
public import Idealize.ShloMosaic.Lib.Pipeline.ValueKit
public import Idealize.ShloMosaic.Lib.Pipeline.ReadBack
public import Idealize.ShloMosaic.Lib.Claim

/-! The gated merge of the two branches and the output projection: the two calls one after the other, against the
    plain program. -/

set_option maxRecDepth 16384

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.MergeOutIdeal Cert.MergeOutIdeal.Gen

namespace Cert.MergeV

section Run

variable {F : FTy → Type} [FloatOps F]

variable (m : (ℓ : Loc nD τ sig) → Buf (Elt F) ℓ) (ρ : Dev nD → PrngReg)

set_option backward.isDefEq.respectTransparency.types false in
/-- Both regions run; every buffer outside the regions ends at the contents the second leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

end Run

/-- One element of the merged branches. -/
def mg (ga gb : EReal) (a : Fin 2048 → EReal) (wa : Fin 2048 → EReal) (b : Fin 2048 → EReal) (wb : Fin 2048 → EReal) : EReal :=
  ga * (∑ k, a k * wa k) + gb * (∑ k, b k * wb k)

/-- One element of the result. -/
def ot (x : EReal) (p : Fin 4096 → EReal) (w : Fin 4096 → EReal) : EReal := x + ∑ k, p k * w k

theorem out0_at (xa xb : Vec Ideal S2048x2048 .bf16) (wa wb : Vec Ideal S2048x256 .f32) (ga gb : Vec Ideal S2048x256 .bf16)
    (r : Fin 2048) (n : Fin 256) :
    out0_6 xa xb wa wb ga gb (ix2 r n) = mg (ga (ix2 r n)) (gb (ix2 r n)) (fun k => xa (ix2 r k)) (fun k => wa (ix2 k n))
      (fun k => xb (ix2 r k)) (fun k => wb (ix2 k n)) := by
  unfold out0_6 k0_pay7 k0_pay8
  canon_tiles x h
  all_goals
    idx_vars x
    obtain rfl : n = x1 := Fin.ext (by assumption)
    pointwise [k0_pay1, k0_pay2, k0_pay3, k0_pay4, k0_pay5, k0_pay6, mg]
    exact congrArg (fun q : Fin 2048 => ga (ix2 q n) * (∑ k, xa (ix2 q k) * wa (ix2 k n)) + gb (ix2 q n) * (∑ k, xb (ix2 q k) * wb (ix2 k n)))
      (Fin.ext (by simpa using h0.symm))

theorem out1_at (p : Vec Ideal S2048x4096 .bf16) (w : Vec Ideal S4096x256 .f32) (x : Vec Ideal S2048x256 .f32)
    (r : Fin 2048) (n : Fin 256) :
    out1_3 p w x (ix2 r n) = ot (x (ix2 r n)) (fun k => p (ix2 r k)) (fun k => w (ix2 k n)) := by
  unfold out1_3
  canon_tiles y h
  all_goals
    idx_vars y
    obtain rfl : n = y1 := Fin.ext (by assumption)
    pointwise [k1_pay1, k1_pay2, k1_pay3, k1_pay4, k1_pay5, ot]
    exact congrArg (fun q : Fin 2048 => x (ix2 q n) + ∑ k, p (ix2 q k) * w (ix2 k n)) (Fin.ext (by simpa using h0.symm))

variable (m : (ℓ : Loc nD τ sig) → Buf (Elt Ideal) ℓ) (ρ : Dev nD → PrngReg)

def aX (c : Dev nD) (R : Fin 8192) (n : Fin 4096) : EReal := (m ((c : Thread nD τ).loc main_arg0) : FVec Ideal S8192x4096 .f32) (ix2 R n)
def aA (c : Dev nD) (R : Fin 8192) (k : Fin 2048) : EReal := (m ((c : Thread nD τ).loc main_arg1) : FVec Ideal S8192x2048 .bf16) (ix2 R k)
def aB (c : Dev nD) (R : Fin 8192) (k : Fin 2048) : EReal := (m ((c : Thread nD τ).loc main_arg2) : FVec Ideal S8192x2048 .bf16) (ix2 R k)
def wA (c : Dev nD) (n : Fin 4096) (k : Fin 2048) : EReal := (m ((c : Thread nD τ).loc main_arg3) : FVec Ideal S2048x4096 .f32) (ix2 k n)
def wB (c : Dev nD) (n : Fin 4096) (k : Fin 2048) : EReal := (m ((c : Thread nD τ).loc main_arg4) : FVec Ideal S2048x4096 .f32) (ix2 k n)
def aG (c : Dev nD) (R : Fin 8192) (n : Fin 8192) : EReal := (m ((c : Thread nD τ).loc main_arg5) : FVec Ideal S8192x8192 .bf16) (ix2 R n)
def wO (c : Dev nD) (n : Fin 4096) (k : Fin 4096) : EReal := (m ((c : Thread nD τ).loc main_arg6) : FVec Ideal S4096x4096 .f32) (ix2 k n)

/-- The merged branches. -/
def mrg (c : Dev nD) (R : Fin 8192) (n : Fin 4096) : EReal :=
  mg (aG m c R ⟨n, by omega⟩) (aG m c R ⟨4096 + n, by omega⟩) (aA m c R) (wA m c n) (aB m c R) (wB m c n)

/-- The result of both programs. -/
def res (c : Dev nD) : FVec Ideal S8192x4096 .f32 := fun i => ot (aX m c (i 0) (i 1)) (mrg m c (i 0)) (wO m c (i 1))

theorem idx0 : ∀ t : Fin cfg0.N, win0_0.index t = ![t.val / 16, 0] ∧ win0_1.index t = ![t.val / 16, 0]
    ∧ win0_2.index t = ![0, t.val % 16] ∧ win0_3.index t = ![0, t.val % 16] ∧ win0_4.index t = ![t.val / 16, t.val % 16]
    ∧ win0_5.index t = ![t.val / 16, t.val % 16 + 16] ∧ win0_6.index t = ![t.val / 16, t.val % 16] ∧ t.val < 64 :=
  (by decide +kernel : ∀ t : Fin grid0.N, _)

theorem idx1 : ∀ t : Fin cfg1.N, win1_0.index t = ![t.val / 16, 0] ∧ win1_1.index t = ![0, t.val % 16]
    ∧ win1_2.index t = ![t.val / 16, t.val % 16] ∧ win1_3.index t = ![t.val / 16, t.val % 16] ∧ t.val < 64 :=
  (by decide +kernel : ∀ t : Fin grid1.N, _)

theorem out0_at' (xa xb : Vec Ideal S2048x2048 .bf16) (wa wb : Vec Ideal S2048x256 .f32) (ga gb : Vec Ideal S2048x256 .bf16)
    (y : S2048x256.Idx) :
    out0_6 xa xb wa wb ga gb y = mg (ga y) (gb y) (fun k => xa (ix2 (y 0) k)) (fun k => wa (ix2 k (y 1)))
      (fun k => xb (ix2 (y 0) k)) (fun k => wb (ix2 k (y 1))) := by
  idx_vars y
  exact out0_at xa xb wa wb ga gb y0 y1

theorem out1_at' (p : Vec Ideal S2048x4096 .bf16) (w : Vec Ideal S4096x256 .f32) (x : Vec Ideal S2048x256 .f32)
    (y : S2048x256.Idx) :
    out1_3 p w x y = ot (x y) (fun k => p (ix2 (y 0) k)) (fun k => w (ix2 k (y 1))) := by
  idx_vars y
  exact out1_at p w x y0 y1

/-- What the first call leaves. -/
theorem merged (c : Dev nD) : (dat0 (V0 m ρ) c).arrAt 6 cfg0.N = (fun i => mrg m c (i 0) (i 1) : FVec Ideal S8192x4096 .bf16) := by
  refine (dat0 (V0 m ρ) c).arrAt_eq_of_covers 6 _ (by decide +kernel) fun t _ y => ?_
  blk_simp
  rw [after0_6]
  refine (out0_at' _ _ _ _ _ _ y).trans ?_
  unfold mrg mg
  refine congrArg₂ (· + ·)
    (congrArg₂ (· * ·) ?_ (Finset.sum_congr rfl fun k _ => congrArg₂ (· * ·) ?_ ?_))
    (congrArg₂ (· * ·) ?_ (Finset.sum_congr rfl fun k _ => congrArg₂ (· * ·) ?_ ?_))
  · unfold aG; blk_ext [iblk0, idx0 t]
  · unfold aA; blk_ext [iblk0, idx0 t]
  · unfold wA; blk_ext [iblk0, idx0 t]
  · unfold aG; blk_ext [iblk0, idx0 t]
  · unfold aB; blk_ext [iblk0, idx0 t]
  · unfold wB; blk_ext [iblk0, idx0 t]

theorem V1_v0 (c : Dev nD) : V1 m ρ c main_v0 = (fun i => mrg m c (i 0) (i 1) : FVec Ideal S8192x4096 .bf16) :=
  (W1_arr m ρ c 6).trans (merged m ρ c)

theorem V1_arg0 (c : Dev nD) : V1 m ρ c main_arg0 = m ((c : Thread nD τ).loc main_arg0) := W1_args m ρ c _ (by decide)
theorem V1_arg6 (c : Dev nD) : V1 m ρ c main_arg6 = m ((c : Thread nD τ).loc main_arg6) := W1_args m ρ c _ (by decide)

theorem final (c : Dev nD) : (dat1 (V1 m ρ) c).arrAt 3 cfg1.N = res m c := by
  refine (dat1 (V1 m ρ) c).arrAt_eq_of_covers 3 _ (by decide +kernel) fun t _ y => ?_
  blk_simp
  rw [after1_3]
  refine (out1_at' _ _ _ y).trans ?_
  unfold res ot
  refine congrArg₂ (· + ·) ?_ (Finset.sum_congr rfl fun k _ => congrArg₂ (· * ·) ?_ ?_)
  · refine (congrFun (congrArg ((win1_2.blk t).view.read (Elt Ideal)) (V1_arg0 m ρ c)) y).trans ?_
    unfold aX; blk_ext [idx1 t]
  · refine (congrFun (congrArg ((win1_0.blk t).view.read (Elt Ideal)) (V1_v0 m ρ c)) (ix2 (y 0) k)).trans ?_
    blk_simp [idx1 t]
    refine congrArg₂ (mrg m c) (Fin.ext ?_) (Fin.ext ?_) <;> blk_simp [idx1 t]
  · refine (congrFun (congrArg ((win1_1.blk t).view.read (Elt Ideal)) (V1_arg6 m ρ c)) (ix2 k (y 1))).trans ?_
    unfold wO; blk_ext [idx1 t]

/-! ## The reference -/

/-- The plain program's merged branches. -/
def mrgR (a b : FVec Ideal Cert.MergeOutRefIdeal.S8192x2048 .bf16) (wa wb : FVec Ideal Cert.MergeOutRefIdeal.S2048x4096 .f32)
    (g : FVec Ideal Cert.MergeOutRefIdeal.S8192x8192 .bf16) : FVec Ideal Cert.MergeOutRefIdeal.S8192x4096 .f32 :=
  addf
    (mulf (shapeCast _ (extractStridedSlice Cert.MergeOutRefIdeal.S8192x1x4096 ![0, 0, 0] (shapeCast _ (extf .f32 g Cert.MergeOutRefIdeal.Facts₀.bitsLt_bf16_f32) Cert.MergeOutRefIdeal.Facts₀.shapeCasts_S8192x8192_S8192x2x4096) Cert.MergeOutRefIdeal.Facts₀.slices_S8192x2x4096_S8192x1x4096_0_0_0) Cert.MergeOutRefIdeal.Facts₀.shapeCasts_S8192x1x4096_S8192x4096)
      (Host.dotGeneral Cert.MergeOutRefIdeal.dot_S8192x2048_S2048x4096_S8192x4096_1_0_0_1_n_n none (extf .f32 a Cert.MergeOutRefIdeal.Facts₀.bitsLt_bf16_f32) wa))
    (mulf (shapeCast _ (extractStridedSlice Cert.MergeOutRefIdeal.S8192x1x4096 ![0, 1, 0] (shapeCast _ (extf .f32 g Cert.MergeOutRefIdeal.Facts₀.bitsLt_bf16_f32) Cert.MergeOutRefIdeal.Facts₀.shapeCasts_S8192x8192_S8192x2x4096) Cert.MergeOutRefIdeal.Facts₀.slices_S8192x2x4096_S8192x1x4096_0_1_0) Cert.MergeOutRefIdeal.Facts₀.shapeCasts_S8192x1x4096_S8192x4096)
      (Host.dotGeneral Cert.MergeOutRefIdeal.dot_S8192x2048_S2048x4096_S8192x4096_1_0_0_1_n_n none (extf .f32 b Cert.MergeOutRefIdeal.Facts₀.bitsLt_bf16_f32) wb))

theorem mrgR_at (a b wa wb g) (R : Fin 8192) (n : Fin 4096) :
    mrgR a b wa wb g (ix2 R n) = mg (g (ix2 R ⟨n, by omega⟩)) (g (ix2 R ⟨4096 + n, by omega⟩)) (fun k => a (ix2 R k)) (fun k => wa (ix2 k n))
      (fun k => b (ix2 R k)) (fun k => wb (ix2 k n)) := by
  pointwise [mrgR, mg]

theorem ref_at (x : FVec Ideal Cert.MergeOutRefIdeal.S8192x4096 .f32) (p : FVec Ideal Cert.MergeOutRefIdeal.S8192x4096 .f32)
    (w : FVec Ideal Cert.MergeOutRefIdeal.S4096x4096 .f32) (R : Fin 8192) (n : Fin 4096) :
    addf x (Host.dotGeneral Cert.MergeOutRefIdeal.dot_S8192x4096_S4096x4096_S8192x4096_1_0_0_1_n_n none p w) (ix2 R n)
      = ot (x (ix2 R n)) (fun k => p (ix2 R k)) (fun k => w (ix2 k n)) := by
  pointwise [ot]

theorem algebraic : algebraic_MergeOutIdeal_MergeOutRefIdeal := by
  intro m ρ m' ρ' _ hm
  refine ⟨fun c => res m c, (θ_run _ _ _).mono (fun r h c => ?_) (run m ρ),
    (θ_run _ _ _).mono (fun r h c => ?_) (Cert.MergeOutRefIdeal.Value.run m' ρ')⟩
  · exact ⟨(h c _ (mem_uc main_v1 (by decide))).trans ((W2_arr m ρ c 3).trans (final m ρ c)),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c)⟩
  · refine ⟨(h c).1.trans (funext fun i => ?_), (h c).2⟩
    obtain ⟨h0, h1, h2, h3, h4, h5, h6⟩ := hm c
    have hi : i = ix2 (i 0) (i 1) := eq_ix2 i
    rw [h0, h1, h2, h3, h4, h5, h6, hi]
    refine (ref_at _ (mrgR _ _ _ _ _) _ _ _).trans ?_
    exact congrArg (fun p => ot (aX m c (i 0) (i 1)) p (wO m c (i 1))) (funext fun k => mrgR_at _ _ _ _ _ (i 0) k)

end Cert.MergeV

end

end
-- ==== Proof.DownBlock.lean ====
module

public import proofs.«01_k».proof.Proof.Gen.DownIdeal.Value
public import proofs.«01_k».proof.Proof.Gen.DownRefIdeal.Run
public import Idealize.ShloMosaic.Lib.ValueIdx
public import Idealize.ShloMosaic.Lib.Pipeline.ValueKit
public import Idealize.ShloMosaic.Lib.Pipeline.ReadBack
public import Idealize.ShloMosaic.Lib.Claim
public import proofs.«01_k».proof.Defs

/-! The experts' down projection: at expert `e`, row `r`, column `n` both programs leave
    `(∑ k, hmid e r k * w e k n) * val e r`. -/

set_option maxRecDepth 16384

@[expose] public section

noncomputable section

open Idealize.ShloMosaic Idealize.ShloMosaic.TcCoe Idealize.SL.Sem
open Idealize.ShloMosaic.Pipeline (Dat)
open Cert.DownIdeal Cert.DownIdeal.Gen

namespace Cert.DownV

/-- One element of the result. -/
def el (h : Fin 2048 → EReal) (w : Fin 2048 → EReal) (v : EReal) : EReal := (∑ k, h k * w k) * v

theorem out_at (xh : Vec Ideal S1x1024x2048 .bf16) (xw : Vec Ideal S1x2048x1024 .f32) (xv : Vec Ideal S1x1024x1 .f32)
    (r : Fin 1024) (n : Fin 1024) :
    out0_3 xh xw xv (ix3 0 r n) = el (fun k => xh (ix3 0 r k)) (fun k => xw (ix3 0 k n)) (xv (ix3 0 r 0)) := by
  unfold out0_3
  canon_tiles x h
  all_goals
    idx_vars x
    obtain rfl : n = x2 := Fin.ext (by assumption)
    obtain rfl : x0 = 0 := Fin.ext (by omega)
    pointwise [k0_pay1, k0_pay2, k0_pay3, k0_pay4, k0_pay5, k0_pay6, el]
    exact congrArg (fun q : Fin 1024 => (∑ k, xh (ix3 0 q k) * xw (ix3 0 k n)) * xv (ix3 0 q 0)) (Fin.ext (by simpa using h1.symm))

variable (m : (ℓ : Loc nD τ sig) → Buf (Elt Ideal) ℓ)

def aH (c : Dev nD) (e : Fin 16) (r : Fin 1024) (k : Fin 2048) : EReal := (m ((c : Thread nD τ).loc main_arg0) : FVec Ideal S16x1024x2048 .bf16) (ix3 e r k)
def aW (c : Dev nD) (e : Fin 16) (n : Fin 4096) (k : Fin 2048) : EReal := (m ((c : Thread nD τ).loc main_arg1) : FVec Ideal S16x2048x4096 .f32) (ix3 e k n)
def aV (c : Dev nD) (e : Fin 16) (r : Fin 1024) : EReal := (m ((c : Thread nD τ).loc main_arg2) : FVec Ideal S16x1024x1 .f32) (ix3 e r 0)

/-- The result array of both programs. -/
def res (c : Dev nD) : FVec Ideal S16x1024x4096 .bf16 := fun i => el (aH m c (i 0) (i 1)) (aW m c (i 0) (i 2)) (aV m c (i 0) (i 1))

theorem idx : ∀ t : Fin cfg0.N, win0_0.index t = ![t.val / 4, 0, 0] ∧ win0_1.index t = ![t.val / 4, 0, t.val % 4]
    ∧ win0_2.index t = ![t.val / 4, 0, 0] ∧ win0_3.index t = ![t.val / 4, 0, t.val % 4] ∧ t.val < 64 :=
  (by decide +kernel : ∀ t : Fin grid0.N, _)

theorem out_at' (xh : Vec Ideal S1x1024x2048 .bf16) (xw : Vec Ideal S1x2048x1024 .f32) (xv : Vec Ideal S1x1024x1 .f32)
    (y : S1x1024x1024.Idx) :
    out0_3 xh xw xv y = el (fun k => xh (ix3 0 (y 1) k)) (fun k => xw (ix3 0 k (y 2))) (xv (ix3 0 (y 1) 0)) := by
  idx_vars y
  obtain rfl : y0 = 0 := Subsingleton.elim _ _
  exact out_at xh xw xv y1 y2

theorem final3 (c : Dev nD) : (dats m 0 c).arrAt 3 (cfgs 0).N = res m c := by
  refine (dats m 0 c).arrAt_eq_of_covers 3 _ (by decide +kernel) fun t _ y => ?_
  blk_simp
  rw [after0_3]
  refine (out_at' _ _ _ y).trans ?_
  unfold res el
  refine congrArg₂ (· * ·) (Finset.sum_congr rfl fun k _ => congrArg₂ (· * ·) ?_ ?_) ?_
  · unfold aH; blk_ext [iblk, V, idx t]
  · unfold aW; blk_ext [iblk, V, idx t]
  · unfold aV; blk_ext [iblk, V, idx t]

/-! ## The reference -/

open Cert.DownRefIdeal in
theorem ref_at (h : FVec Ideal Cert.DownRefIdeal.S16x1024x2048 .bf16) (w : FVec Ideal Cert.DownRefIdeal.S16x2048x4096 .f32)
    (v : FVec Ideal Cert.DownRefIdeal.S16x1024x1 .f32) (e : Fin 16) (r : Fin 1024) (n : Fin 4096) :
    truncf .bf16 (mulf (Host.dotGeneral Cert.DownRefIdeal.dot_S16x1024x2048_S16x2048x4096_S16x1024x4096_2_1_1_2_0_0 none (extf .f32 h Cert.DownRefIdeal.Facts₀.bitsLt_bf16_f32) w)
        (broadcastInDim Cert.DownRefIdeal.S16x1024x4096 ![0, 1, 2] Cert.DownRefIdeal.Facts₀.bcast_S16x1024x1_S16x1024x4096_0_1_2 v)) Cert.DownRefIdeal.Facts₀.bitsLt_bf16_f32 (ix3 e r n)
      = el (fun k => h (ix3 e r k)) (fun k => w (ix3 e k n)) (v (ix3 e r 0)) := by
  pointwise [el]

theorem algebraic : algebraic_DownIdeal_DownRefIdeal := by
  intro m ρ m' ρ' _ hm
  refine ⟨fun c => res m c, (θ_run _ _ _).mono (fun r h c => ?_) (Cert.DownIdeal.Value.run_blocks m ρ),
    (θ_run _ _ _).mono (fun r h c => ?_) (Cert.DownRefIdeal.Value.run m' ρ')⟩
  · exact ⟨(h c).1.trans (final3 m c), (h c).2⟩
  · refine ⟨(h c).1.trans (funext fun i => ?_), (h c).2⟩
    obtain ⟨h0, h1, h2⟩ := hm c
    have hi : i = ix3 (i 0) (i 1) (i 2) := eq_ix3 i
    rw [h0, h1, h2, hi]
    exact ref_at _ _ _ _ _ _

end Cert.DownV

end

end
-- ==== Proof.MemV.lean ====
module

public import proofs.«01_k».proof.Proof.InBlock
public import proofs.«01_k».proof.Proof.Gen.MemoryIdeal.Frame
public import proofs.«01_k».proof.Proof.Gen.MemoryRefIdeal.Run
public import proofs.«01_k».proof.Defs

/-! The memory's norm, its key and value projections, and the casts of the cross-attention's weights. -/

set_option maxRecDepth 16384

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.MemoryIdeal Cert.MemoryIdeal.Gen

namespace Cert.MemV

open Cert.InV (dt)

section Run

variable {F : FTy → Type} [FloatOps F]

variable (m : (ℓ : Loc nD τ sig) → Buf (Elt F) ℓ) (ρ : Dev nD → PrngReg)

set_option backward.isDefEq.respectTransparency.types false in
/-- The five regions run; every buffer outside the regions ends at the contents the last leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Run

/-! ## What a grid point leaves -/

theorem out0_at' (x : Vec Ideal S512x4096 .f32) (g : Vec Ideal S1x4096 .f32) (r : Fin 512) (n : Fin 4096) :
    out0_2 x g (ix2 r n) = Cert.Cross.nrm (fun k => x (ix2 r k)) (fun k => g (ix2 0 k)) n := by
  unfold out0_2
  canon_tiles y h
  idx_vars y
  obtain rfl : r = y0 := Fin.ext (by assumption)
  obtain rfl : n = y1 := Fin.ext (by assumption)
  pointwise [k0_pay1, Cert.Cross.nrm]

theorem out0_at (x : Vec Ideal S512x4096 .f32) (g : Vec Ideal S1x4096 .f32) (y : S512x4096.Idx) :
    out0_2 x g y = Cert.Cross.nrm (fun k => x (ix2 (y 0) k)) (fun k => g (ix2 0 k)) (y 1) := by
  idx_vars y
  exact out0_at' x g y0 y1

theorem out1_at' (xh : Vec Ideal S1024x4096 .bf16) (xw : Vec Ideal S4096x256 .f32) (r : Fin 1024) (n : Fin 256) :
    out1_2 xh xw (ix2 r n) = dt (fun k => xh (ix2 r k)) (fun k => xw (ix2 k n)) := by
  unfold out1_2
  canon_tiles y h
  all_goals
    idx_vars y
    obtain rfl : n = y1 := Fin.ext (by assumption)
    pointwise [k1_pay1, k1_pay2, k1_pay3, k1_pay4, k1_pay5, dt]
    exact congrArg (fun q : Fin 1024 => ∑ k, xh (ix2 q k) * xw (ix2 k n)) (Fin.ext (by simpa using h0.symm))

theorem out1_at (xh : Vec Ideal S1024x4096 .bf16) (xw : Vec Ideal S4096x256 .f32) (y : S1024x256.Idx) :
    out1_2 xh xw y = dt (fun k => xh (ix2 (y 0) k)) (fun k => xw (ix2 k (y 1))) := by
  idx_vars y
  exact out1_at' xh xw y0 y1

theorem out2_at' (xh : Vec Ideal S1024x4096 .bf16) (xw : Vec Ideal S4096x256 .f32) (r : Fin 1024) (n : Fin 256) :
    out2_2 xh xw (ix2 r n) = dt (fun k => xh (ix2 r k)) (fun k => xw (ix2 k n)) := by
  unfold out2_2
  canon_tiles y h
  all_goals
    idx_vars y
    obtain rfl : n = y1 := Fin.ext (by assumption)
    pointwise [k2_pay1, k2_pay2, k2_pay3, k2_pay4, k2_pay5, dt]
    exact congrArg (fun q : Fin 1024 => ∑ k, xh (ix2 q k) * xw (ix2 k n)) (Fin.ext (by simpa using h0.symm))

theorem out2_at (xh : Vec Ideal S1024x4096 .bf16) (xw : Vec Ideal S4096x256 .f32) (y : S1024x256.Idx) :
    out2_2 xh xw y = dt (fun k => xh (ix2 (y 0) k)) (fun k => xw (ix2 k (y 1))) := by
  idx_vars y
  exact out2_at' xh xw y0 y1

theorem out3_at (x : Vec Ideal S4096x512 .f32) (y : S4096x512.Idx) : out3_1 x y = x y := by
  idx_vars y
  unfold out3_1
  canon_tiles z h
  idx_vars z
  obtain rfl : y0 = z0 := Fin.ext (by assumption)
  obtain rfl : y1 = z1 := Fin.ext (by assumption)
  pointwise [k3_pay1]

theorem out4_at (x : Vec Ideal S512x4096 .f32) (y : S512x4096.Idx) : out4_1 x y = x y := by
  idx_vars y
  unfold out4_1
  canon_tiles z h
  idx_vars z
  obtain rfl : y0 = z0 := Fin.ext (by assumption)
  obtain rfl : y1 = z1 := Fin.ext (by assumption)
  pointwise [k4_pay1]

/-! ## The arrays -/

variable (m : (ℓ : Loc nD τ sig) → Buf (Elt Ideal) ℓ) (ρ : Dev nD → PrngReg)

/-- The memory, its gain, and the columns of the two weights. -/
def aX (c : Dev nD) (R : Fin 1024) (k : Fin 4096) : EReal := (m ((c : Thread nD τ).loc main_arg0) : FVec Ideal S1024x4096 .f32) (ix2 R k)
def aG (c : Dev nD) (k : Fin 4096) : EReal := (m ((c : Thread nD τ).loc main_arg1) : FVec Ideal S4096 .f32) (ix1 k)
def wK (c : Dev nD) (n : Fin 512) (k : Fin 4096) : EReal := (m ((c : Thread nD τ).loc main_arg2) : FVec Ideal S4096x512 .f32) (ix2 k n)
def wV (c : Dev nD) (n : Fin 512) (k : Fin 4096) : EReal := (m ((c : Thread nD τ).loc main_arg3) : FVec Ideal S4096x512 .f32) (ix2 k n)

/-- A row of the normed memory. -/
def hn (c : Dev nD) (R : Fin 1024) : Fin 4096 → EReal := Cert.Cross.nrm (aX m c R) (aG m c)

theorem idx0 : ∀ t : Fin cfg0.N, win0_0.index t = ![t.val, 0] ∧ win0_1.index t = ![0, 0] ∧ win0_2.index t = ![t.val, 0] ∧ t.val < 2 :=
  (by decide +kernel : ∀ t : Fin grid0.N, _)
theorem idx1 : ∀ t : Fin cfg1.N, win1_0.index t = ![0, 0] ∧ win1_1.index t = ![0, t.val] ∧ win1_2.index t = ![0, t.val] ∧ t.val < 2 :=
  (by decide +kernel : ∀ t : Fin grid1.N, _)
theorem idx2 : ∀ t : Fin cfg2.N, win2_0.index t = ![0, 0] ∧ win2_1.index t = ![0, t.val] ∧ win2_2.index t = ![0, t.val] ∧ t.val < 2 :=
  (by decide +kernel : ∀ t : Fin grid2.N, _)
theorem idx3 : ∀ t : Fin cfg3.N, win3_0.index t = ![0, 0] ∧ win3_1.index t = ![0, 0] :=
  (by decide +kernel : ∀ t : Fin grid3.N, _)
theorem idx4 : ∀ t : Fin cfg4.N, win4_0.index t = ![0, 0] ∧ win4_1.index t = ![0, 0] :=
  (by decide +kernel : ∀ t : Fin grid4.N, _)

theorem V1_v0 (c : Dev nD) : V1 m ρ c main_v0 = (shapeCast S1x4096 (m ((c : Thread nD τ).loc main_arg1)) shapeCasts_S4096_S1x4096 : FVec Ideal S1x4096 .f32) := rfl

theorem rd0_1 (g : FVec Ideal S1x4096 .f32) (t : Fin cfg0.N) (k : Fin 4096) :
    ((win0_1.blk t).view.read (Elt Ideal) g : FVec Ideal S1x4096 .f32) (ix2 0 k) = g (ix2 0 k) := by
  blk_ext [idx0 t]

theorem row_at (g : FVec Ideal S4096 .f32) (k : Fin 4096) :
    (shapeCast S1x4096 g shapeCasts_S4096_S1x4096 : FVec Ideal S1x4096 .f32) (ix2 0 k) = g (ix1 k) := by
  pointwise

theorem normed (c : Dev nD) : (dat0 (V1 m ρ) c).arrAt 2 cfg0.N = (fun i => hn m c (i 0) (i 1) : FVec Ideal S1024x4096 .bf16) := by
  refine (dat0 (V1 m ρ) c).arrAt_eq_of_covers 2 _ (by decide +kernel) fun t _ y => ?_
  blk_simp
  rw [after0_2]
  refine (out0_at _ _ y).trans ?_
  unfold hn
  refine congr (congrArg₂ Cert.Cross.nrm (funext fun k => ?_) (funext fun k => ?_)) (Fin.ext (by blk_simp [idx0 t]))
  · refine (congrFun (congrArg ((win0_0.blk t).view.read (Elt Ideal)) (W1_args m ρ c main_arg0 (by decide))) (ix2 (y 0) k)).trans ?_
    unfold aX; blk_ext [idx0 t]
  · refine (congrFun (congrArg ((win0_1.blk t).view.read (Elt Ideal)) (V1_v0 m ρ c)) (ix2 0 k)).trans ?_
    exact (rd0_1 _ t k).trans (row_at _ k)

theorem V2_v1 (c : Dev nD) : V2 m ρ c main_v1 = (fun i => hn m c (i 0) (i 1) : FVec Ideal S1024x4096 .bf16) :=
  (W2_arr m ρ c 2).trans (normed m ρ c)
theorem V3_v1 (c : Dev nD) : V3 m ρ c main_v1 = (fun i => hn m c (i 0) (i 1) : FVec Ideal S1024x4096 .bf16) :=
  (W3_of m ρ c main_v1 (by decide)).trans (V2_v1 m ρ c)

theorem keyed (c : Dev nD) : (dat1 (V2 m ρ) c).arrAt 2 cfg1.N
    = (fun i => dt (hn m c (i 0)) (wK m c (i 1)) : FVec Ideal S1024x512 .bf16) := by
  refine (dat1 (V2 m ρ) c).arrAt_eq_of_covers 2 _ (by decide +kernel) fun t _ y => ?_
  blk_simp
  rw [after1_2]
  refine (out1_at _ _ y).trans ?_
  refine congrArg₂ dt (funext fun k => ?_) (funext fun k => ?_)
  · refine (congrFun (congrArg ((win1_0.blk t).view.read (Elt Ideal)) (V2_v1 m ρ c)) (ix2 (y 0) k)).trans ?_
    blk_simp [idx1 t]
    refine congrArg₂ (hn m c) (Fin.ext ?_) (Fin.ext ?_) <;> blk_simp [idx1 t]
  · refine (congrFun (congrArg ((win1_1.blk t).view.read (Elt Ideal)) (W2_args m ρ c main_arg2 (by decide))) (ix2 k (y 1))).trans ?_
    unfold wK; blk_ext [idx1 t]

theorem valued (c : Dev nD) : (dat2 (V3 m ρ) c).arrAt 2 cfg2.N
    = (fun i => dt (hn m c (i 0)) (wV m c (i 1)) : FVec Ideal S1024x512 .bf16) := by
  refine (dat2 (V3 m ρ) c).arrAt_eq_of_covers 2 _ (by decide +kernel) fun t _ y => ?_
  blk_simp
  rw [after2_2]
  refine (out2_at _ _ y).trans ?_
  refine congrArg₂ dt (funext fun k => ?_) (funext fun k => ?_)
  · refine (congrFun (congrArg ((win2_0.blk t).view.read (Elt Ideal)) (V3_v1 m ρ c)) (ix2 (y 0) k)).trans ?_
    blk_simp [idx2 t]
    refine congrArg₂ (hn m c) (Fin.ext ?_) (Fin.ext ?_) <;> blk_simp [idx2 t]
  · refine (congrFun (congrArg ((win2_1.blk t).view.read (Elt Ideal)) (W3_args m ρ c main_arg3 (by decide))) (ix2 k (y 1))).trans ?_
    unfold wV; blk_ext [idx2 t]

theorem castq (c : Dev nD) : (dat3 (V4 m ρ) c).arrAt 1 cfg3.N
    = (m ((c : Thread nD τ).loc main_arg4) : FVec Ideal S4096x512 .f32) := by
  refine (dat3 (V4 m ρ) c).arrAt_eq_of_covers 1 _ (by decide +kernel) fun t _ y => ?_
  blk_simp
  rw [after3_1]
  refine (out3_at _ y).trans ?_
  refine (congrFun (congrArg ((win3_0.blk t).view.read (Elt Ideal)) (W4_args m ρ c main_arg4 (by decide))) y).trans ?_
  blk_ext [idx3 t]

theorem casto (c : Dev nD) : (dat4 (V5 m ρ) c).arrAt 1 cfg4.N
    = (m ((c : Thread nD τ).loc main_arg5) : FVec Ideal S512x4096 .f32) := by
  refine (dat4 (V5 m ρ) c).arrAt_eq_of_covers 1 _ (by decide +kernel) fun t _ y => ?_
  blk_simp
  rw [after4_1]
  refine (out4_at _ y).trans ?_
  refine (congrFun (congrArg ((win4_0.blk t).view.read (Elt Ideal)) (W5_args m ρ c main_arg5 (by decide))) y).trans ?_
  blk_ext [idx4 t]

theorem out_v2 (c : Dev nD) : W6 m ρ c main_v2 = (fun i => dt (hn m c (i 0)) (wK m c (i 1)) : FVec Ideal S1024x512 .bf16) :=
  (W6_of m ρ c main_v2 (by decide)).trans ((W5_of m ρ c main_v2 (by decide)).trans ((W4_of m ρ c main_v2 (by decide)).trans
    ((W3_arr m ρ c 2).trans (keyed m ρ c))))
theorem out_v3 (c : Dev nD) : W6 m ρ c main_v3 = (fun i => dt (hn m c (i 0)) (wV m c (i 1)) : FVec Ideal S1024x512 .bf16) :=
  (W6_of m ρ c main_v3 (by decide)).trans ((W5_of m ρ c main_v3 (by decide)).trans ((W4_arr m ρ c 2).trans (valued m ρ c)))

/-! ## The plain program -/

/-- The plain program's normed memory. -/
def hR (x : FVec Ideal Cert.MemoryRefIdeal.S1024x4096 .f32) (g : FVec Ideal Cert.MemoryRefIdeal.S4096 .f32) : FVec Ideal Cert.MemoryRefIdeal.S1024x4096 .f32 :=
  (mulf (mulf x (broadcastInDim Cert.MemoryRefIdeal.S1024x4096 ![0, 1] Cert.MemoryRefIdeal.Facts₀.bcast_S1024x1_S1024x4096_0_1 (Host.rsqrt (addf (Host.divf (broadcastInDim Cert.MemoryRefIdeal.S1024x1 ![0] Cert.MemoryRefIdeal.Facts₀.bcast_S1024_S1024x1_0 (Host.reduceAdd (mulf x x) (constant Cert.MemoryRefIdeal.S_ .f32 0x00000000#32) Cert.MemoryRefIdeal.Facts₀.reducesTo_S1024x4096_S1024_d1 Cert.MemoryRefIdeal.Facts₀.h_S_)) (broadcastInDim Cert.MemoryRefIdeal.S1024x1 ![] Cert.MemoryRefIdeal.Facts₀.bcast_S_S1024x1 (constant Cert.MemoryRefIdeal.S_ .f32 0x45800000#32))) (broadcastInDim Cert.MemoryRefIdeal.S1024x1 ![] Cert.MemoryRefIdeal.Facts₀.bcast_S_S1024x1 (constant Cert.MemoryRefIdeal.S_ .f32 0x358637BD#32)))))) (broadcastInDim Cert.MemoryRefIdeal.S1024x4096 ![0, 1] Cert.MemoryRefIdeal.Facts₀.bcast_S1x4096_S1024x4096_0_1 (broadcastInDim Cert.MemoryRefIdeal.S1x4096 ![1] Cert.MemoryRefIdeal.Facts₀.bcast_S4096_S1x4096_1 g)))

theorem hR_at (x g) (R : Fin 1024) (k : Fin 4096) :
    hR x g (ix2 R k) = Cert.Cross.nrm (fun l => x (ix2 R l)) (fun l => g (ix1 l)) k := by
  pointwise [hR, Cert.Cross.nrm]

/-- Its projection. -/
def pR (h : FVec Ideal Cert.MemoryRefIdeal.S1024x4096 .f32) (w : FVec Ideal Cert.MemoryRefIdeal.S4096x512 .f32) : FVec Ideal Cert.MemoryRefIdeal.S1024x512 .bf16 :=
  truncf .bf16 (Host.dotGeneral Cert.MemoryRefIdeal.dot_S1024x4096_S4096x512_S1024x512_1_0_0_1_n_n none h w) Cert.MemoryRefIdeal.Facts₀.bitsLt_bf16_f32

theorem pR_at (h w) (R : Fin 1024) (n : Fin 512) :
    pR h w (ix2 R n) = dt (fun k => h (ix2 R k)) (fun k => w (ix2 k n)) := by
  pointwise [pR, dt]

theorem ref_at (x g w) (i : Cert.MemoryRefIdeal.S1024x512.Idx) :
    pR (hR x g) w i = dt (Cert.Cross.nrm (fun l => x (ix2 (i 0) l)) (fun l => g (ix1 l))) (fun k => w (ix2 k (i 1))) := by
  idx_vars i
  refine (pR_at _ _ i0 i1).trans ?_
  exact congrArg (fun f => dt f (fun k => w (ix2 k i1))) (funext fun k => hR_at _ _ i0 k)

theorem algebraic : algebraic_MemoryIdeal_MemoryRefIdeal := by
  intro m ρ m' ρ' _ hm
  refine ⟨fun c => (fun i => dt (hn m c (i 0)) (wK m c (i 1)) : FVec Ideal S1024x512 .bf16),
    fun c => (fun i => dt (hn m c (i 0)) (wV m c (i 1)) : FVec Ideal S1024x512 .bf16),
    fun c => (m ((c : Thread nD τ).loc main_arg4) : FVec Ideal S4096x512 .f32),
    fun c => (m ((c : Thread nD τ).loc main_arg5) : FVec Ideal S512x4096 .f32),
    (θ_run _ _ _).mono (fun r h c => ?_) (run m ρ),
    (θ_run _ _ _).mono (fun r h c => ?_) (Cert.MemoryRefIdeal.Value.run m' ρ')⟩
  · exact ⟨(h c _ (mem_uc main_v2 (by decide))).trans (out_v2 m ρ c),
      (h c _ (mem_uc main_v3 (by decide))).trans (out_v3 m ρ c),
      (h c _ (mem_uc main_v4 (by decide))).trans ((W6_of m ρ c main_v4 (by decide)).trans ((W5_arr m ρ c 1).trans (castq m ρ c))),
      (h c _ (mem_uc main_v5 (by decide))).trans ((W6_arr m ρ c 1).trans (casto m ρ c)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩
  · obtain ⟨h0, h1, h2, h3, h4, h5⟩ := hm c
    refine ⟨(h c).1.trans (funext fun i => ?_), (h c).2.1.trans (funext fun i => ?_), (h c).2.2.1.trans ?_, (h c).2.2.2.1.trans ?_,
      (h c).2.2.2.2⟩
    · rw [h0, h1, h2]; exact ref_at _ _ _ i
    · rw [h0, h1, h3]; exact ref_at _ _ _ i
    · rw [h4]; rfl
    · rw [h5]; rfl

end Cert.MemV

end

end
-- ==== Proof.WinP.lean ====
module

public import proofs.«01_k».proof.Proof.Gen.WindowIdeal.Value

/-! The windowed attention's stores: what one block of 128 query rows leaves, and the list of them a trip of the loop writes. -/

set_option maxRecDepth 16384

@[expose] public section

noncomputable section

open Idealize.ShloMosaic Idealize.ShloMosaic.TcCoe
open Cert.WindowIdeal Cert.WindowIdeal.Gen

namespace Cert.WinV

/-- A `128 × 128` tile of half-precision entries. -/
abbrev Tile := Vec Ideal S128x128 .bf16

/-- A `512 × 128` tile: four heads of 128 query rows. -/
abbrev Wide := FVec Ideal S512x128 .f32

/-- What the kernel adds to a row's number before it masks the block before: for most blocks it is known to be nothing. -/
def wp (k : Fin k0_t1_loop.trips) (u : Fin 8) : BitVec 32 :=
  match u with
  | 0 => Scalar.select (Scalar.cmpi .sgt (Scalar.addi (Scalar.muli (Scf.iv 0#32 1#32 k) 8#32) 0#32) 0#32) 0#32 256#32
  | 2 => Scalar.select (Scalar.cmpi .sgt (Scalar.addi (Scalar.muli (Scf.iv 0#32 1#32 k) 8#32) 2#32) 0#32) 0#32 256#32
  | 5 => Scalar.select (Scalar.cmpi .sgt (Scalar.addi (Scalar.muli (Scf.iv 0#32 1#32 k) 8#32) 5#32) 0#32) 0#32 256#32
  | _ => 0#32

/-- What the kernel takes from a row's number before it masks the block after: for most blocks it is known to be nothing. -/
def wn (k : Fin k0_t1_loop.trips) (u : Fin 8) : BitVec 32 :=
  match u with
  | 2 => Scalar.select (Scalar.cmpi .slt (Scalar.addi (Scalar.muli (Scf.iv 0#32 1#32 k) 8#32) 2#32) 15#32) 0#32 256#32
  | 5 => Scalar.select (Scalar.cmpi .slt (Scalar.addi (Scalar.muli (Scf.iv 0#32 1#32 k) 8#32) 5#32) 15#32) 0#32 256#32
  | 7 => Scalar.select (Scalar.cmpi .slt (Scalar.addi (Scalar.muli (Scf.iv 0#32 1#32 k) 8#32) 7#32) 15#32) 0#32 256#32
  | _ => 0#32

theorem wp_eq : ∀ (k : Fin k0_t1_loop.trips) (u : Fin 8), wp k u = if 0 < 8 * k.val + u.val then 0#32 else 256#32 := by decide +kernel

theorem wn_eq : ∀ (k : Fin k0_t1_loop.trips) (u : Fin 8), wn k u = if 8 * k.val + u.val < 15 then 0#32 else 256#32 := by decide +kernel

/-- The scores against the block before. -/
def sP (v16 v17 : IVec S512x128 32) (w : BitVec 32) (q0 q1 q2 q3 kp : Tile) : Wide := k0_pay10 v16 v17 w (k0_pay6 q0 q1 q2 q3 kp)

/-- The scores against the block itself. -/
def sC (q0 q1 q2 q3 kc : Tile) : Wide := k0_pay9 (k0_pay7 q0 q1 q2 q3 kc) k0_pay8

/-- The scores against the block after. -/
def sN (v16 v17 : IVec S512x128 32) (w : BitVec 32) (q0 q1 q2 q3 kn : Tile) : Wide := k0_pay11 v16 v17 w (k0_pay5 q0 q1 q2 q3) kn

/-- The four heads' results of one block, from its three tiles of scores, the sinks and its three tiles of values. -/
def oB (s c p n : Wide) (vp vc vn : Tile) : Wide :=
  k0_pay120 (k0_pay57 (k0_pay53 s c p n)) (k0_pay58 (k0_pay54 s c p n)) (k0_pay59 (k0_pay55 s c p n))
    (k0_pay60 s (k0_pay52 s c p n) (k0_pay56 s c p n)) vp vc vn

section Pieces

variable (arg3 : Memref sig .tc .vmem S2048x512 .bf16) (arg4 : Memref sig .tc .vmem S2048x128 .bf16) (arg5 : Memref sig .tc .vmem S2048x128 .bf16)
variable (v16 v17 : IVec S512x128 32) (wP wN : BitVec 32) (s : Wide)
variable (X3 : BufTy.Contents (Elt Ideal) arg3.view.ty) (X4 : BufTy.Contents (Elt Ideal) arg4.view.ty) (X5 : BufTy.Contents (Elt Ideal) arg5.view.ty)
variable (k : Fin k0_t1_loop.trips) (u : Fin 8)

/-- The four heads' results of block `u` of trip `k`, from what the three buffers hold. -/
def oA : Wide :=
  oB s
    (sC (arg3.view.readAt (Elt Ideal) (Rect.unit (s := S2048x512) (k0_off2 k (BitVec.ofNat 32 u.val)) S128x128.size (k0_off2_inb k u)).toLoadRect X3)
      (arg3.view.readAt (Elt Ideal) (Rect.unit (s := S2048x512) (k0_off3 k (BitVec.ofNat 32 u.val)) S128x128.size (k0_off3_inb k u)).toLoadRect X3)
      (arg3.view.readAt (Elt Ideal) (Rect.unit (s := S2048x512) (k0_off4 k (BitVec.ofNat 32 u.val)) S128x128.size (k0_off4_inb k u)).toLoadRect X3)
      (arg3.view.readAt (Elt Ideal) (Rect.unit (s := S2048x512) (k0_off5 k (BitVec.ofNat 32 u.val)) S128x128.size (k0_off5_inb k u)).toLoadRect X3)
      (arg4.view.readAt (Elt Ideal) (Rect.unit (s := S2048x128) (k0_off7 k (BitVec.ofNat 32 u.val)) S128x128.size (k0_off7_inb k u)).toLoadRect X4))
    (sP v16 v17 wP (arg3.view.readAt (Elt Ideal) (Rect.unit (s := S2048x512) (k0_off2 k (BitVec.ofNat 32 u.val)) S128x128.size (k0_off2_inb k u)).toLoadRect X3)
      (arg3.view.readAt (Elt Ideal) (Rect.unit (s := S2048x512) (k0_off3 k (BitVec.ofNat 32 u.val)) S128x128.size (k0_off3_inb k u)).toLoadRect X3)
      (arg3.view.readAt (Elt Ideal) (Rect.unit (s := S2048x512) (k0_off4 k (BitVec.ofNat 32 u.val)) S128x128.size (k0_off4_inb k u)).toLoadRect X3)
      (arg3.view.readAt (Elt Ideal) (Rect.unit (s := S2048x512) (k0_off5 k (BitVec.ofNat 32 u.val)) S128x128.size (k0_off5_inb k u)).toLoadRect X3)
      (arg4.view.readAt (Elt Ideal) (Rect.unit (s := S2048x128) (k0_off6 k (BitVec.ofNat 32 u.val)) S128x128.size (k0_off6_inb k u)).toLoadRect X4))
    (sN v16 v17 wN (arg3.view.readAt (Elt Ideal) (Rect.unit (s := S2048x512) (k0_off2 k (BitVec.ofNat 32 u.val)) S128x128.size (k0_off2_inb k u)).toLoadRect X3)
      (arg3.view.readAt (Elt Ideal) (Rect.unit (s := S2048x512) (k0_off3 k (BitVec.ofNat 32 u.val)) S128x128.size (k0_off3_inb k u)).toLoadRect X3)
      (arg3.view.readAt (Elt Ideal) (Rect.unit (s := S2048x512) (k0_off4 k (BitVec.ofNat 32 u.val)) S128x128.size (k0_off4_inb k u)).toLoadRect X3)
      (arg3.view.readAt (Elt Ideal) (Rect.unit (s := S2048x512) (k0_off5 k (BitVec.ofNat 32 u.val)) S128x128.size (k0_off5_inb k u)).toLoadRect X3)
      (arg4.view.readAt (Elt Ideal) (Rect.unit (s := S2048x128) (k0_off8 k (BitVec.ofNat 32 u.val)) S128x128.size (k0_off8_inb k u)).toLoadRect X4))
    (arg5.view.readAt (Elt Ideal) (Rect.unit (s := S2048x128) (k0_off6 k (BitVec.ofNat 32 u.val)) S128x128.size (k0_off6_inb k u)).toLoadRect X5)
    (arg5.view.readAt (Elt Ideal) (Rect.unit (s := S2048x128) (k0_off7 k (BitVec.ofNat 32 u.val)) S128x128.size (k0_off7_inb k u)).toLoadRect X5)
    (arg5.view.readAt (Elt Ideal) (Rect.unit (s := S2048x128) (k0_off8 k (BitVec.ofNat 32 u.val)) S128x128.size (k0_off8_inb k u)).toLoadRect X5)

/-- The first head's store. -/
def pc0 : View.Piece (Elt Ideal) S2048x512 .bf16 :=
  ⟨Rect.unit (s := S2048x512) (k0_off2 k (BitVec.ofNat 32 u.val)) S128x128.size (k0_off2_inb k u),
    truncf .bf16 (extractStridedSlice S128x128 ![0, 0] (oA arg3 arg4 arg5 v16 v17 wP wN s X3 X4 X5 k u) slices_S512x128_o0_0_S128x128) bitsLt_bf16_f32⟩

/-- The second head's store. -/
def pc1 : View.Piece (Elt Ideal) S2048x512 .bf16 :=
  ⟨Rect.unit (s := S2048x512) (k0_off3 k (BitVec.ofNat 32 u.val)) S128x128.size (k0_off3_inb k u),
    truncf .bf16 (extractStridedSlice S128x128 ![128, 0] (oA arg3 arg4 arg5 v16 v17 wP wN s X3 X4 X5 k u) slices_S512x128_o128_0_S128x128) bitsLt_bf16_f32⟩

/-- The third head's store. -/
def pc2 : View.Piece (Elt Ideal) S2048x512 .bf16 :=
  ⟨Rect.unit (s := S2048x512) (k0_off4 k (BitVec.ofNat 32 u.val)) S128x128.size (k0_off4_inb k u),
    truncf .bf16 (extractStridedSlice S128x128 ![256, 0] (oA arg3 arg4 arg5 v16 v17 wP wN s X3 X4 X5 k u) slices_S512x128_o256_0_S128x128) bitsLt_bf16_f32⟩

/-- The fourth head's store. -/
def pc3 : View.Piece (Elt Ideal) S2048x512 .bf16 :=
  ⟨Rect.unit (s := S2048x512) (k0_off5 k (BitVec.ofNat 32 u.val)) S128x128.size (k0_off5_inb k u),
    truncf .bf16 (extractStridedSlice S128x128 ![384, 0] (oA arg3 arg4 arg5 v16 v17 wP wN s X3 X4 X5 k u) slices_S512x128_o384_0_S128x128) bitsLt_bf16_f32⟩

/-- A block's four stores, the last one first. -/
def pcs : List (View.Piece (Elt Ideal) S2048x512 .bf16) :=
  [pc3 arg3 arg4 arg5 v16 v17 wP wN s X3 X4 X5 k u, pc2 arg3 arg4 arg5 v16 v17 wP wN s X3 X4 X5 k u,
    pc1 arg3 arg4 arg5 v16 v17 wP wN s X3 X4 X5 k u, pc0 arg3 arg4 arg5 v16 v17 wP wN s X3 X4 X5 k u]

end Pieces

/-- A trip's stores. -/
theorem trip_pieces (𝒱 : Variants) (c : Dev nD) (bd : Option 𝒱.V) (i : grid0.Coords) (arg2 : Memref sig .tc .smem S16 .f32) (harg2 : arg2.IsWhole)
    (arg3 : Memref sig .tc .vmem S2048x512 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x512 .bf16) (harg6 : arg6.IsWhole)
    (v16 : IVec S512x128 32) (v17 : IVec S512x128 32) (v23 : FVec Ideal S128x128 .f32) (v29 : FVec Ideal S128x128 .f32) (v35 : FVec Ideal S128x128 .f32)
    (v39 : Elt Ideal .f32) (cst_10 : Ideal .f32) (X3 : BufTy.Contents (Elt Ideal) arg3.view.ty) (X4 : BufTy.Contents (Elt Ideal) arg4.view.ty)
    (X5 : BufTy.Contents (Elt Ideal) arg5.view.ty) (k : Fin k0_t1_loop.trips) :
    (trip_k0_t1 (F := Ideal) 𝒱 c bd i arg2 harg2 arg3 harg3 arg4 harg4 arg5 harg5 arg6 harg6 v16 v17 v23 v29 v35 v39 cst_10 X3 X4 X5 k).1
      = pcs arg3 arg4 arg5 v16 v17 (wp k 7) (wn k 7) (k0_pay1 v23 v29 v35 v39 cst_10) X3 X4 X5 k 7 ++ (
        pcs arg3 arg4 arg5 v16 v17 (wp k 6) (wn k 6) (k0_pay1 v23 v29 v35 v39 cst_10) X3 X4 X5 k 6 ++ (
        pcs arg3 arg4 arg5 v16 v17 (wp k 5) (wn k 5) (k0_pay1 v23 v29 v35 v39 cst_10) X3 X4 X5 k 5 ++ (
        pcs arg3 arg4 arg5 v16 v17 (wp k 4) (wn k 4) (k0_pay1 v23 v29 v35 v39 cst_10) X3 X4 X5 k 4 ++ (
        pcs arg3 arg4 arg5 v16 v17 (wp k 3) (wn k 3) (k0_pay1 v23 v29 v35 v39 cst_10) X3 X4 X5 k 3 ++ (
        pcs arg3 arg4 arg5 v16 v17 (wp k 2) (wn k 2) (k0_pay1 v23 v29 v35 v39 cst_10) X3 X4 X5 k 2 ++ (
        pcs arg3 arg4 arg5 v16 v17 (wp k 1) (wn k 1) (k0_pay1 v23 v29 v35 v39 cst_10) X3 X4 X5 k 1 ++ (
        pcs arg3 arg4 arg5 v16 v17 (wp k 0) (wn k 0) (k0_pay1 v23 v29 v35 v39 cst_10) X3 X4 X5 k 0))))))) := by
  sl_kernel_rfl

end Cert.WinV

end

end
-- ==== Proof.WinSpec.lean ====
module

public import proofs.«01_k».proof.Proof.Spec

/-! The mathematics of one row of the windowed attention, over the extended reals: a softmax over the sink and the
    keys, in the kernel's form (three blocks of keys, powers of two) and in the reference's (all keys, exponentials). No
    program is mentioned here. -/

set_option maxRecDepth 16384

@[expose] public section

noncomputable section

open Idealize.ShloMosaic

namespace Cert.WinS

open Cert.Cross

/-! ## Scores -/

/-- A score: a real number, or the mask. -/
def Sc (x : EReal) : Prop := x = ⊥ ∨ Re x

theorem sc_bot : Sc ⊥ := .inl rfl
theorem sc_max {x y : EReal} (hx : Sc x) (hy : Sc y) : Sc (max x y) := by
  rcases max_choice x y with h | h <;> rw [h] <;> assumption

theorem sc_mx {n : ℕ} (s : Fin n → EReal) (h : ∀ j, Sc (s j)) : Sc (mx s) := by
  rw [mx_eq_sup]
  exact Finset.sup_induction sc_bot (fun _ ha _ hb => sc_max ha hb) fun j _ => h j

theorem re_bot : ¬ Re ⊥ := fun ⟨r, h⟩ => EReal.coe_ne_bot r h.symm

/-- A score no smaller than a real is a real. -/
theorem sc_ge {x y : EReal} (hx : Sc x) (hy : Re y) (h : y ≤ x) : Re x := by
  rcases hx with rfl | hx
  · exact absurd (le_bot_iff.1 h ▸ hy) re_bot
  · exact hx

theorem le_mx {n : ℕ} (s : Fin n → EReal) (j : Fin n) : s j ≤ mx s := by
  rw [mx_eq_sup]
  exact Finset.le_sup (f := s) (Finset.mem_univ j)

theorem sc_lt {x : EReal} (h : x < ⊤) : Sc x := by
  induction x with
  | bot => exact sc_bot
  | coe r => exact .inr (re_coe r)
  | top => exact absurd h (lt_irrefl _)

/-- The reciprocal of `ln 2`. -/
def lg : EReal := (((Real.log 2)⁻¹ : ℝ) : EReal)

theorem lg_pos : 0 < (Real.log 2)⁻¹ := inv_pos.2 (Real.log_pos (by norm_num))

theorem re_lg {x : EReal} (h : Re x) : Re (x * lg) := h.mul (re_coe _)

theorem sc_lg {x : EReal} (h : Sc x) : Sc (x * lg) := by
  rcases h with rfl | h
  · left; exact EReal.bot_mul_coe_of_pos lg_pos
  · exact .inr (re_lg h)

/-- The weight of a score. -/
def ew (x : EReal) : ℝ := if x = ⊥ then 0 else Real.exp x.toReal

theorem ew_bot : ew ⊥ = 0 := if_pos rfl
theorem ew_coe (r : ℝ) : ew (r : EReal) = Real.exp r := by
  rw [ew, if_neg (EReal.coe_ne_bot r), EReal.toReal_coe]
theorem ew_nonneg (x : EReal) : 0 ≤ ew x := by
  unfold ew; split
  · exact le_rfl
  · exact (Real.exp_pos _).le

/-- The weights of a row that holds a real do not all vanish. -/
theorem sum_ew_pos {n : ℕ} (f : Fin n → EReal) (h : ∃ l, Re (f l)) : 0 < ∑ l, ew (f l) := by
  obtain ⟨l, r, hr⟩ := h
  refine Finset.sum_pos' (fun l _ => ew_nonneg _) ⟨l, Finset.mem_univ l, ?_⟩
  rw [hr, ew_coe]
  exact Real.exp_pos r

theorem exp_sub {x : EReal} (h : Sc x) (M : ℝ) : Ideal.exp (x - M) = ((ew x * Real.exp (-M) : ℝ) : EReal) := by
  rcases h with rfl | ⟨r, rfl⟩
  · rw [EReal.bot_sub, Ideal.exp_bot, ew_bot, zero_mul, EReal.coe_zero]
  · rw [← EReal.coe_sub, Ideal.exp_coe, ew_coe, ← Real.exp_add, sub_eq_add_neg]

theorem exp2_sub {x : EReal} (h : Sc x) (M : ℝ) :
    Ideal.exp2 (x * lg - M) = ((ew x * (2 : ℝ) ^ (-M) : ℝ) : EReal) := by
  rcases h with rfl | ⟨r, rfl⟩
  · rw [lg, EReal.bot_mul_coe_of_pos lg_pos, EReal.bot_sub, Ideal.exp2_bot, ew_bot, zero_mul, EReal.coe_zero]
  · rw [lg, ← EReal.coe_mul, ← EReal.coe_sub, Ideal.exp2_coe, ew_coe]
    congr 1
    show (2 : ℝ) ^ (r * (Real.log 2)⁻¹ - M) = _
    rw [sub_eq_add_neg, Real.rpow_add (by norm_num)]
    congr 1
    rw [Real.rpow_def_of_pos (by norm_num)]
    congr 1
    have : Real.log 2 ≠ 0 := (Real.log_pos (by norm_num)).ne'
    field_simp

theorem sum_mul_coe {n : ℕ} (f : Fin n → EReal) {c : ℝ} (hc : 0 ≤ c) : (∑ l, f l) * (c : EReal) = ∑ l, f l * (c : EReal) := by
  have h0 : (0 : EReal) ≤ (c : EReal) := by exact_mod_cast hc
  have key : ∀ s : Finset (Fin n), (∑ l ∈ s, f l) * (c : EReal) = ∑ l ∈ s, f l * (c : EReal) := by
    intro s
    classical
    induction s using Finset.induction_on with
    | empty => simp
    | insert a s ha ih =>
      rw [Finset.sum_insert ha, Finset.sum_insert ha, EReal.right_distrib_of_nonneg_of_ne_top h0 (EReal.coe_ne_top c), ih]
  exact key _

/-! ## The kernel's row -/

/-- The largest of a row's scores and its sink. -/
def km (P C N : Fin 128 → EReal) (s : EReal) : EReal := max (mx fun l => max (max (P l) (C l)) (N l)) s

/-- The kernel's row: the block before, the block itself and the block after, in powers of two. -/
def kr (P C N vP vC vN : Fin 128 → EReal) (s : EReal) : EReal :=
  ((∑ l, Ideal.exp2 (P l - km P C N s) * vP l) + (∑ l, Ideal.exp2 (C l - km P C N s) * vC l)
      + ∑ l, Ideal.exp2 (N l - km P C N s) * vN l)
    * Ideal.div 1 ((∑ l, (Ideal.exp2 (P l - km P C N s) + Ideal.exp2 (C l - km P C N s) + Ideal.exp2 (N l - km P C N s)))
      + Ideal.exp2 (s - km P C N s))

/-- A row by its weights. -/
def wr (D : ℝ) (x v : EReal) : EReal := ((ew x * (1 / D) : ℝ) : EReal) * v

theorem kr_eq (p q n vP vC vN : Fin 128 → EReal) (σ : EReal) (hσ : Sc σ) (hp : ∀ l, Sc (p l)) (hq : ∀ l, Sc (q l)) (hn : ∀ l, Sc (n l))
    (h0 : ∃ l, Re (q l)) (D : ℝ) (hD : D = (∑ l, ew (p l)) + (∑ l, ew (q l)) + (∑ l, ew (n l)) + ew σ) :
    kr (fun l => p l * lg) (fun l => q l * lg) (fun l => n l * lg) vP vC vN (σ * lg)
      = (∑ l, wr D (p l) (vP l)) + (∑ l, wr D (q l) (vC l)) + ∑ l, wr D (n l) (vN l) := by
  obtain ⟨M, hM⟩ : Re (km (fun l => p l * lg) (fun l => q l * lg) (fun l => n l * lg) (σ * lg)) := by
    obtain ⟨l, hl⟩ := h0
    refine sc_ge (sc_max (sc_mx _ fun l => sc_max (sc_max (sc_lg (hp l)) (sc_lg (hq l))) (sc_lg (hn l))) (sc_lg hσ)) (re_lg hl) ?_
    exact ((le_max_right _ _).trans (le_max_left _ _)).trans
      ((le_mx (fun l => max (max (p l * lg) (q l * lg)) (n l * lg)) l).trans (le_max_left _ _))
  have hD0 : 0 < D := by
    rw [hD]
    have h1 := Finset.sum_nonneg fun l (_ : l ∈ Finset.univ) => ew_nonneg (p l)
    have h2 := sum_ew_pos q h0
    have h3 := Finset.sum_nonneg fun l (_ : l ∈ Finset.univ) => ew_nonneg (n l)
    have h4 := ew_nonneg σ
    linarith
  have ha : (0 : ℝ) < (2 : ℝ) ^ (-M) := Real.rpow_pos_of_pos (by norm_num) _
  have hden : (∑ l, (Ideal.exp2 (p l * lg - (M : EReal)) + Ideal.exp2 (q l * lg - (M : EReal)) + Ideal.exp2 (n l * lg - (M : EReal))))
      + Ideal.exp2 (σ * lg - (M : EReal)) = ((D * (2 : ℝ) ^ (-M) : ℝ) : EReal) := by
    have h1 : ∀ l, Ideal.exp2 (p l * lg - (M : EReal)) + Ideal.exp2 (q l * lg - (M : EReal)) + Ideal.exp2 (n l * lg - (M : EReal))
        = (((ew (p l) + ew (q l) + ew (n l)) * (2 : ℝ) ^ (-M) : ℝ) : EReal) := fun l => by
      rw [exp2_sub (hp l), exp2_sub (hq l), exp2_sub (hn l), ← EReal.coe_add, ← EReal.coe_add]
      congr 1; ring
    rw [Finset.sum_congr rfl fun l _ => h1 l, coe_sum, exp2_sub hσ, ← EReal.coe_add, ← Finset.sum_mul, hD,
      Finset.sum_add_distrib, Finset.sum_add_distrib]
    congr 1; ring
  have hpos : (0 : ℝ) < D * (2 : ℝ) ^ (-M) := mul_pos hD0 ha
  have hc : (0 : ℝ) ≤ 1 / (D * (2 : ℝ) ^ (-M)) := by positivity
  have hc' : (0 : EReal) ≤ ((1 / (D * (2 : ℝ) ^ (-M)) : ℝ) : EReal) := by exact_mod_cast hc
  have one : ∀ x v : EReal, Sc x → Ideal.exp2 (x * lg - (M : EReal)) * v * ((1 / (D * (2 : ℝ) ^ (-M)) : ℝ) : EReal) = wr D x v := by
    intro x v hx
    rw [exp2_sub hx, mul_right_comm, ← EReal.coe_mul, wr]
    congr 2
    field_simp
  simp only [kr, hM]
  rw [hden, Ideal.div_coe hpos.ne', one_mul, EReal.right_distrib_of_nonneg_of_ne_top hc' (EReal.coe_ne_top _),
    EReal.right_distrib_of_nonneg_of_ne_top hc' (EReal.coe_ne_top _), sum_mul_coe _ hc, sum_mul_coe _ hc, sum_mul_coe _ hc]
  simp only [one _ _ (hp _), one _ _ (hq _), one _ _ (hn _)]

/-! ## The reference's row -/

/-- A row's scores against all keys, and its sink behind them. -/
def row (T : Fin 2048 → EReal) (s : EReal) (j : Fin 2049) : EReal := if h : (j : ℕ) < 2048 then T ⟨j, h⟩ else s

/-- The reference's row. -/
def rr (T v : Fin 2048 → EReal) (s : EReal) : EReal := ∑ j : Fin 2048, smR (row T s) ⟨j, by omega⟩ * v j

theorem sum_row {R : Type} [AddCommMonoid R] (f : EReal → R) (T : Fin 2048 → EReal) (s : EReal) :
    ∑ j, f (row T s j) = (∑ j, f (T j)) + f s := by
  rw [Fin.sum_univ_castSucc]
  refine congrArg₂ (· + ·) (Finset.sum_congr rfl fun j _ => congrArg f ?_) (congrArg f ?_)
  · rw [row, dif_pos (show ((Fin.castSucc j : Fin 2049) : ℕ) < 2048 from j.isLt)]
    rfl
  · rw [row, dif_neg (by simp)]

theorem rr_eq (T v : Fin 2048 → EReal) (σ : EReal) (hσ : Sc σ) (hT : ∀ j, Sc (T j)) (h0 : ∃ j, Re (T j)) (D : ℝ)
    (hD : D = (∑ j, ew (T j)) + ew σ) :
    rr T v σ = ∑ j, wr D (T j) (v j) := by
  have hR : ∀ j, Sc (row T σ j) := fun j => by
    unfold row; split
    · exact hT _
    · exact hσ
  have hmx : Re (mx (row T σ)) := by
    obtain ⟨j, hj⟩ := h0
    refine sc_ge (sc_mx _ hR) hj ?_
    have h1 := le_mx (row T σ) ⟨j, by omega⟩
    rwa [row, dif_pos (show ((⟨j, by omega⟩ : Fin 2049) : ℕ) < 2048 from j.isLt)] at h1
  obtain ⟨M, hM⟩ := hmx
  have hD0 : 0 < D := by
    rw [hD]
    have h1 := sum_ew_pos T h0
    have h4 := ew_nonneg σ
    linarith
  have hden : ∑ l, Ideal.exp (row T σ l - (M : EReal)) = ((D * Real.exp (-M) : ℝ) : EReal) := by
    rw [Finset.sum_congr rfl fun l _ => exp_sub (hR l) M, coe_sum, ← Finset.sum_mul, sum_row ew, hD]
  have ha := Real.exp_pos (-M)
  unfold rr
  refine Finset.sum_congr rfl fun j _ => ?_
  rw [smR, max_mx, hM, hden, Ideal.div_coe (mul_pos hD0 ha).ne', exp_sub (hR _), ← EReal.coe_mul, wr]
  have hj : row T σ ⟨j, by omega⟩ = T j := by rw [row, dif_pos (show ((⟨j, by omega⟩ : Fin 2049) : ℕ) < 2048 from j.isLt)]
  rw [hj]
  congr 2
  field_simp

/-! ## All keys, or three blocks of them -/

theorem regroup {R : Type} [AddCommMonoid R] (f : Fin 2048 → R) (n : Fin 16)
    (h : ∀ b : Fin 16, (b : ℕ) + 1 ≠ n → b ≠ n → (b : ℕ) ≠ (n : ℕ) + 1 → ∀ l : Fin 128, f ⟨l + 128 * b, by omega⟩ = 0) :
    ∑ j, f j = (if h : 0 < (n : ℕ) then ∑ l : Fin 128, f ⟨l + 128 * (n - 1), by omega⟩ else 0) + (∑ l : Fin 128, f ⟨l + 128 * n, by omega⟩)
      + if h : (n : ℕ) < 15 then ∑ l : Fin 128, f ⟨l + 128 * (n + 1), by omega⟩ else 0 := by
  have h1 : ∑ j, f j = ∑ b : Fin 16, ∑ l : Fin 128, f ⟨l + 128 * b, by omega⟩ := by
    rw [← Fintype.sum_prod_type']
    exact ((finProdFinEquiv (m := 16) (n := 128)).sum_comp f).symm
  rw [h1]
  set g : Fin 16 → R := fun b => ∑ l : Fin 128, f ⟨l + 128 * b, by omega⟩ with hg
  have hz : ∀ b : Fin 16, (b : ℕ) + 1 ≠ n → b ≠ n → (b : ℕ) ≠ (n : ℕ) + 1 → g b = 0 := fun b a1 a2 a3 =>
    Finset.sum_eq_zero fun l _ => h b a1 a2 a3 l
  have h2 : ∀ b : Fin 16, g b = (if (b : ℕ) + 1 = n then g b else 0) + (if b = n then g b else 0) + (if (b : ℕ) = (n : ℕ) + 1 then g b else 0) := by
    intro b
    by_cases a1 : (b : ℕ) + 1 = n
    · rw [if_pos a1, if_neg (by intro e; subst e; omega), if_neg (by omega)]; simp
    · by_cases a2 : b = n
      · subst a2; simp
      · by_cases a3 : (b : ℕ) = (n : ℕ) + 1
        · rw [if_neg a1, if_neg a2, if_pos a3]; simp
        · rw [hz b a1 a2 a3]; simp
  rw [Finset.sum_congr rfl fun b _ => h2 b, Finset.sum_add_distrib, Finset.sum_add_distrib]
  congr 1
  · congr 1
    · by_cases hn : 0 < (n : ℕ)
      · rw [dif_pos hn, Finset.sum_eq_single (⟨n - 1, by omega⟩ : Fin 16)]
        · rw [if_pos (by show (n : ℕ) - 1 + 1 = n; omega)]
        · intro b _ hb
          exact if_neg fun e => hb (Fin.ext (by show (b : ℕ) = (n : ℕ) - 1; omega))
        · intro hb; exact absurd (Finset.mem_univ _) hb
      · rw [dif_neg hn]
        exact Finset.sum_eq_zero fun b _ => if_neg (by omega)
    · rw [Finset.sum_ite_eq' Finset.univ n g, if_pos (Finset.mem_univ _)]
  · by_cases hn : (n : ℕ) < 15
    · rw [dif_pos hn, Finset.sum_eq_single (⟨n + 1, by omega⟩ : Fin 16)]
      · rw [if_pos rfl]
      · intro b _ hb
        exact if_neg fun e => hb (Fin.ext (by show (b : ℕ) = (n : ℕ) + 1; omega))
      · intro hb; exact absurd (Finset.mem_univ _) hb
    · rw [dif_neg hn]
      exact Finset.sum_eq_zero fun b _ => if_neg (by have := b.isLt; omega)

/-- The two rows agree: of the keys outside the three blocks the reference masks all, of those inside the same as the kernel. -/
theorem row_eq (T v : Fin 2048 → EReal) (σ : EReal) (hσ : Sc σ) (n : Fin 16) (hT : ∀ j, Sc (T j))
    (hz : ∀ b : Fin 16, (b : ℕ) + 1 ≠ n → b ≠ n → (b : ℕ) ≠ (n : ℕ) + 1 → ∀ l : Fin 128, T ⟨l + 128 * b, by omega⟩ = ⊥)
    (p q r vP vC vN : Fin 128 → EReal) (hp : ∀ l, Sc (p l)) (hr : ∀ l, Sc (r l)) (h0 : ∃ l, Re (q l))
    (p1 : ∀ h : 0 < (n : ℕ), ∀ l : Fin 128, p l = T ⟨l + 128 * (n - 1), by omega⟩ ∧ vP l = v ⟨l + 128 * (n - 1), by omega⟩)
    (p0 : ¬ 0 < (n : ℕ) → ∀ l : Fin 128, p l = ⊥)
    (q1 : ∀ l : Fin 128, q l = T ⟨l + 128 * n, by omega⟩ ∧ vC l = v ⟨l + 128 * n, by omega⟩)
    (r1 : ∀ h : (n : ℕ) < 15, ∀ l : Fin 128, r l = T ⟨l + 128 * (n + 1), by omega⟩ ∧ vN l = v ⟨l + 128 * (n + 1), by omega⟩)
    (r0 : ¬ (n : ℕ) < 15 → ∀ l : Fin 128, r l = ⊥) :
    kr (fun l => p l * lg) (fun l => q l * lg) (fun l => r l * lg) vP vC vN (σ * lg) = rr T v σ := by
  have hT0 : ∃ j, Re (T j) := by
    obtain ⟨l, hl⟩ := h0
    exact ⟨_, (q1 l).1 ▸ hl⟩
  have hq : ∀ l, Sc (q l) := fun l => by rw [(q1 l).1]; exact hT _
  have hs : ∑ j, ew (T j) = (∑ l, ew (p l)) + (∑ l, ew (q l)) + ∑ l, ew (r l) := by
    rw [regroup (fun j => ew (T j)) n fun b a1 a2 a3 l => by rw [hz b a1 a2 a3 l, ew_bot]]
    congr 1
    · congr 1
      · by_cases h : 0 < (n : ℕ)
        · rw [dif_pos h]; exact Finset.sum_congr rfl fun l _ => by rw [(p1 h l).1]
        · rw [dif_neg h]; exact (Finset.sum_eq_zero fun l _ => by rw [p0 h l, ew_bot]).symm
      · exact Finset.sum_congr rfl fun l _ => by rw [(q1 l).1]
    · by_cases h : (n : ℕ) < 15
      · rw [dif_pos h]; exact Finset.sum_congr rfl fun l _ => by rw [(r1 h l).1]
      · rw [dif_neg h]; exact (Finset.sum_eq_zero fun l _ => by rw [r0 h l, ew_bot]).symm
  have w0 : ∀ (D : ℝ) (x : EReal), wr D ⊥ x = 0 := fun D x => by rw [wr, ew_bot, zero_mul, EReal.coe_zero, zero_mul]
  rw [rr_eq T v σ hσ hT hT0 ((∑ j, ew (T j)) + ew σ) rfl, kr_eq p q r vP vC vN σ hσ hp hq hr h0 ((∑ j, ew (T j)) + ew σ) (by rw [hs]),
    regroup (fun j => wr _ (T j) (v j)) n fun b a1 a2 a3 l => by rw [hz b a1 a2 a3 l, w0]]
  congr 1
  · congr 1
    · by_cases h : 0 < (n : ℕ)
      · rw [dif_pos h]; exact Finset.sum_congr rfl fun l _ => by rw [(p1 h l).1, (p1 h l).2]
      · rw [dif_neg h]; exact Finset.sum_eq_zero fun l _ => by rw [p0 h l, w0]
    · exact Finset.sum_congr rfl fun l _ => by rw [(q1 l).1, (q1 l).2]
  · by_cases h : (n : ℕ) < 15
    · rw [dif_pos h]; exact Finset.sum_congr rfl fun l _ => by rw [(r1 h l).1, (r1 h l).2]
    · rw [dif_neg h]; exact Finset.sum_eq_zero fun l _ => by rw [r0 h l, w0]

end Cert.WinS

end

end
-- ==== Proof.WinK.lean ====
module

public import proofs.«01_k».proof.Proof.Gen.WindowIdeal.Value
public import proofs.«01_k».proof.Proof.WinSpec

/-! The windowed attention's tiles read at an index: scores, masks, sinks, and the kernel's row of `WinSpec.lean`. -/

set_option maxRecDepth 16384

@[expose] public section

noncomputable section

open Idealize.ShloMosaic Idealize.ShloMosaic.TcCoe Idealize.SL.Sem
open Cert.WindowIdeal Cert.WindowIdeal.Gen

namespace Cert.WinV

open Cert.Cross Cert.WinS

theorem named_s : Named.named (F := Ideal) κ "s" (φ := .f32) 0x3E0293EE#32 = scl * lg := by
  rw [scl, lg, ← EReal.coe_mul]; rfl
theorem named_mask : Named.named (F := Ideal) κ "mask" (φ := .f32) 0xF149F2CA#32 = (⊥ : EReal) := rfl
theorem named_lg : Named.named (F := Ideal) κ "log2e" (φ := .f32) 0x3FB8AA3B#32 = lg := rfl

/-- A row of the four heads' tiles stacked. -/
def stk (q0 q1 q2 q3 : S128x128.Idx → EReal) (r : Fin 512) (d : Fin 128) : EReal :=
  if r.val < 128 then q0 (ix2 ⟨r % 128, by omega⟩ d) else if r.val < 256 then q1 (ix2 ⟨r % 128, by omega⟩ d)
    else if r.val < 384 then q2 (ix2 ⟨r % 128, by omega⟩ d) else q3 (ix2 ⟨r % 128, by omega⟩ d)

theorem stk_of (q0 q1 q2 q3 : S128x128.Idx → EReal) (r : Fin 512) (d : Fin 128) :
    (if h : (r : ℕ) < 128 then q0 (ix2 ⟨r, h⟩ d) else if h : (r : ℕ) - 128 < 128 then q1 (ix2 ⟨r - 128, h⟩ d)
      else if h : (r : ℕ) - 128 - 128 < 128 then q2 (ix2 ⟨r - 128 - 128, h⟩ d) else q3 (ix2 ⟨r - 128 - 128 - 128, by omega⟩ d)) = stk q0 q1 q2 q3 r d := by
  have key : ∀ (q : S128x128.Idx → EReal) (a b : ℕ) (ha : a < 128) (hb : b < 128), a = b → q (ix2 ⟨a, ha⟩ d) = q (ix2 ⟨b, hb⟩ d) := by
    intro q a b ha hb e; subst e; rfl
  unfold stk
  by_cases h0 : (r : ℕ) < 128
  · rw [dif_pos h0, if_pos h0]; exact key _ _ _ _ _ (by omega)
  rw [dif_neg h0, if_neg h0]
  by_cases h1 : (r : ℕ) < 256
  · rw [dif_pos (by omega), if_pos h1]; exact key _ _ _ _ _ (by omega)
  rw [dif_neg (by omega), if_neg h1]
  by_cases h2 : (r : ℕ) < 384
  · rw [dif_pos (by omega), if_pos h2]; exact key _ _ _ _ _ (by omega)
  rw [dif_neg (by omega), if_neg h2]; exact key _ _ _ _ _ (by omega)

theorem pay5_at (q0 q1 q2 q3 : Vec Ideal S128x128 .bf16) (r : Fin 512) (d : Fin 128) :
    k0_pay5 (F := Ideal) q0 q1 q2 q3 (ix2 r d) = stk q0 q1 q2 q3 r d := by
  pointwise [k0_pay5]
  exact stk_of q0 q1 q2 q3 r d

/-- A score times the reciprocal of `ln 2`. -/
def scK (q0 q1 q2 q3 : Vec Ideal S128x128 .bf16) (kk : Vec Ideal S128x128 .bf16) (r : Fin 512) (l : Fin 128) : EReal :=
  (∑ d, stk q0 q1 q2 q3 r d * kk (ix2 l d)) * scl

theorem pay6_at (q0 q1 q2 q3 kk : Vec Ideal S128x128 .bf16) (r : Fin 512) (l : Fin 128) :
    k0_pay6 (F := Ideal) q0 q1 q2 q3 kk (ix2 r l) = scK q0 q1 q2 q3 kk r l * lg := by
  pointwise [k0_pay6, pay5_at, scK, named_s, mul_assoc]

theorem pay9_at (q0 q1 q2 q3 kk : Vec Ideal S128x128 .bf16) (r : Fin 512) (l : Fin 128) :
    k0_pay9 (F := Ideal) (k0_pay7 q0 q1 q2 q3 kk) k0_pay8 (ix2 r l) = scK q0 q1 q2 q3 kk r l * lg := by
  pointwise [k0_pay9, k0_pay7, k0_pay8, pay5_at, scK, named_s, mul_assoc]

theorem pay10_at (v16 v17 : IVec S512x128 32) (w : BitVec 32) (s : FVec Ideal S512x128 .f32) (r : Fin 512) (l : Fin 128) :
    k0_pay10 (F := Ideal) v16 v17 w s (ix2 r l)
      = Scalar.select (IntOp.cmpi .sge (v17 (ix2 r l)) (IntOp.addi (v16 (ix2 r l)) w)) (s (ix2 r l)) ⊥ := by
  pointwise [k0_pay10, named_mask]

theorem pay11_at (v16 v17 : IVec S512x128 32) (w : BitVec 32) (q0 q1 q2 q3 kk : Vec Ideal S128x128 .bf16) (r : Fin 512) (l : Fin 128) :
    k0_pay11 (F := Ideal) v16 v17 w (k0_pay5 q0 q1 q2 q3) kk (ix2 r l)
      = Scalar.select (IntOp.cmpi .sle (v17 (ix2 r l)) (IntOp.subi (v16 (ix2 r l)) w)) (scK q0 q1 q2 q3 kk r l * lg) ⊥ := by
  pointwise [k0_pay11, named_mask, pay5_at, scK, named_s, mul_assoc]

theorem pay163_at (r : Fin 512) (l : Fin 128) : k0_pay163 (ix2 r l) = BitVec.ofNat 32 (r.val % 128) := by
  pointwise [k0_pay163]
  clear l
  revert r
  decide +kernel

theorem v17_at (r : Fin 512) (l : Fin 128) : kernelRun0_A.sl.v17 (ix2 r l) = BitVec.ofNat 32 l.val := by
  pointwise [kernelRun0_A.sl.v17]

theorem pay1_at (v23 v29 v35 : FVec Ideal S128x128 .f32) (x c : EReal) (r : Fin 512) (l : Fin 128) :
    k0_pay1 (F := Ideal) v23 v29 v35 x c (ix2 r l) = stk v23 v29 v35 (fun _ => x * c) r l := by
  pointwise [k0_pay1]
  exact stk_of v23 v29 v35 (fun _ => x * c) r l

theorem pay52_at (s c p n : FVec Ideal S512x128 .f32) (r : Fin 512) (l : Fin 128) :
    k0_pay52 (F := Ideal) s c p n (ix2 r l) = km (fun l => p (ix2 r l)) (fun l => c (ix2 r l)) (fun l => n (ix2 r l)) (s (ix2 r l)) := by
  pointwise [k0_pay52, km, mx]

theorem oB_row (s c p n : FVec Ideal S512x128 .f32) (vp vc vn : Vec Ideal S128x128 .bf16) (r : Fin 512) (d : Fin 128) (σ : EReal)
    (hs : ∀ l, s (ix2 r l) = σ) :
    k0_pay120 (F := Ideal) (k0_pay57 (k0_pay53 s c p n)) (k0_pay58 (k0_pay54 s c p n)) (k0_pay59 (k0_pay55 s c p n))
        (k0_pay60 s (k0_pay52 s c p n) (k0_pay56 s c p n)) vp vc vn (ix2 r d)
      = kr (fun l => p (ix2 r l)) (fun l => c (ix2 r l)) (fun l => n (ix2 r l)) (fun l => vp (ix2 l d)) (fun l => vc (ix2 l d))
          (fun l => vn (ix2 l d)) σ := by
  have h53 : ∀ l, k0_pay53 (F := Ideal) s c p n (ix2 r l) = Ideal.exp2 (p (ix2 r l) - km (fun l => p (ix2 r l)) (fun l => c (ix2 r l)) (fun l => n (ix2 r l)) σ) := fun l => by
    pointwise [k0_pay53, pay52_at, hs]
    rfl
  have h54 : ∀ l, k0_pay54 (F := Ideal) s c p n (ix2 r l) = Ideal.exp2 (c (ix2 r l) - km (fun l => p (ix2 r l)) (fun l => c (ix2 r l)) (fun l => n (ix2 r l)) σ) := fun l => by
    pointwise [k0_pay54, pay52_at, hs]
    rfl
  have h55 : ∀ l, k0_pay55 (F := Ideal) s c p n (ix2 r l) = Ideal.exp2 (n (ix2 r l) - km (fun l => p (ix2 r l)) (fun l => c (ix2 r l)) (fun l => n (ix2 r l)) σ) := fun l => by
    pointwise [k0_pay55, pay52_at, hs]
    rfl
  pointwise [k0_pay120, k0_pay57, k0_pay58, k0_pay59, k0_pay60, k0_pay56, h53, h54, h55, pay52_at, hs, kr]
  rfl

end Cert.WinV

end

end
-- ==== Proof.WinM.lean ====
module

public import Idealize.ShloMosaic.Lib.ValueIdx

/-! The windowed attention's two masks on 32-bit words, over the 128 rows and 128 keys of a tile. -/

@[expose] public section

noncomputable section

open Idealize.ShloMosaic

namespace Cert.WinV

theorem ge0 : ∀ a l : Fin 128, IntOp.cmpi .sge (BitVec.ofNat 32 l.val) (IntOp.addi (BitVec.ofNat 32 a.val) 0#32) = if a ≤ l then 1#1 else 0#1 := by
  decide +kernel
theorem ge1 : ∀ a l : Fin 128, IntOp.cmpi .sge (BitVec.ofNat 32 l.val) (IntOp.addi (BitVec.ofNat 32 a.val) 256#32) = 0#1 := by decide +kernel
theorem le0 : ∀ a l : Fin 128, IntOp.cmpi .sle (BitVec.ofNat 32 l.val) (IntOp.subi (BitVec.ofNat 32 a.val) 0#32) = if l ≤ a then 1#1 else 0#1 := by
  decide +kernel
theorem le1 : ∀ a l : Fin 128, IntOp.cmpi .sle (BitVec.ofNat 32 l.val) (IntOp.subi (BitVec.ofNat 32 a.val) 256#32) = 0#1 := by decide +kernel

end Cert.WinV

end

end
-- ==== Proof.WinB.lean ====
module

public import proofs.«01_k».proof.Proof.WinP
public import proofs.«01_k».proof.Proof.WinK
public import proofs.«01_k».proof.Proof.WinM
public import Idealize.ShloMosaic.Lib.WholeRead
public import Idealize.ShloMosaic.Lib.Pipeline.ValueKit

/-! The windowed attention's block of 128 query rows, at an index: what the loads read, what the masks keep, and the row they make. -/

set_option maxRecDepth 16384

@[expose] public section

noncomputable section

open Idealize.ShloMosaic Idealize.ShloMosaic.TcCoe
open Cert.WindowIdeal Cert.WindowIdeal.Gen Cert.Cross Cert.WinS

namespace Cert.WinV

/-! ## Loads -/

theorem rd512 {M : Memref sig .tc .vmem S2048x512 .bf16} (hM : M.IsWhole) (x : Vec Ideal S2048x512 .bf16) {off : Fin 2 → ℕ} {o0 o1 : ℕ}
    (ho : off = ![o0, o1]) (inb : ∀ a, off a + S128x128.size a ≤ S2048x512.size a) (a e : Fin 128) (h0 : o0 + a < 2048) (h1 : o1 + e < 512) :
    M.view.readAt (Elt Ideal) (Rect.unit (s := S2048x512) off S128x128.size inb).toLoadRect (hM.unread x) (ix2 a e)
      = x (ix2 ⟨o0 + a, h0⟩ ⟨o1 + e, h1⟩) := by
  subst ho
  rw [Memref.IsWhole.readAt_unread hM]
  congr 1
  funext b
  refine Fin.ext ?_
  match b with
  | ⟨0, _⟩ => exact ValueKit.rect_emb_unit_val _ _ _ _ _
  | ⟨1, _⟩ => exact ValueKit.rect_emb_unit_val _ _ _ _ _

theorem rd128 {M : Memref sig .tc .vmem S2048x128 .bf16} (hM : M.IsWhole) (x : Vec Ideal S2048x128 .bf16) {off : Fin 2 → ℕ} {o0 : ℕ}
    (ho : off = ![o0, 0]) (inb : ∀ a, off a + S128x128.size a ≤ S2048x128.size a) (a e : Fin 128) (h0 : o0 + a < 2048) :
    M.view.readAt (Elt Ideal) (Rect.unit (s := S2048x128) off S128x128.size inb).toLoadRect (hM.unread x) (ix2 a e)
      = x (ix2 ⟨o0 + a, h0⟩ e) := by
  subst ho
  rw [Memref.IsWhole.readAt_unread hM]
  congr 1
  funext b
  refine Fin.ext ?_
  match b with
  | ⟨0, _⟩ => exact ValueKit.rect_emb_unit_val _ _ _ _ _
  | ⟨1, _⟩ => exact (ValueKit.rect_emb_unit_val _ _ _ _ _).trans (Nat.zero_add _)

theorem k_lt : ∀ k : Fin k0_t1_loop.trips, k.val < 2 := by decide +kernel

theorem off6_eq : ∀ (k : Fin k0_t1_loop.trips) (r : Fin 8), k0_off6 k (BitVec.ofNat 32 r.val) = ![128 * (8 * k.val + r.val - 1), 0] := by decide +kernel

/-! ## Masks -/

theorem keepP (k : Fin k0_t1_loop.trips) (u : Fin 8) (a l : Fin 128) (x : EReal) :
    Scalar.select (IntOp.cmpi .sge (BitVec.ofNat 32 l.val) (IntOp.addi (BitVec.ofNat 32 a.val) (wp k u))) x ⊥
      = if 0 < 8 * k.val + u.val ∧ a ≤ l then x else ⊥ := by
  rw [wp_eq]
  by_cases h : 0 < 8 * k.val + u.val
  · rw [if_pos h, ge0]
    by_cases h2 : a ≤ l
    · rw [if_pos h2, if_pos ⟨h, h2⟩]; rfl
    · rw [if_neg h2, if_neg fun h3 => h2 h3.2]; rfl
  · rw [if_neg h, ge1, if_neg fun h3 => h h3.1]; rfl

theorem keepN (k : Fin k0_t1_loop.trips) (u : Fin 8) (a l : Fin 128) (x : EReal) :
    Scalar.select (IntOp.cmpi .sle (BitVec.ofNat 32 l.val) (IntOp.subi (BitVec.ofNat 32 a.val) (wn k u))) x ⊥
      = if 8 * k.val + u.val < 15 ∧ l ≤ a then x else ⊥ := by
  rw [wn_eq]
  by_cases h : 8 * k.val + u.val < 15
  · rw [if_pos h, le0]
    by_cases h2 : l ≤ a
    · rw [if_pos h2, if_pos ⟨h, h2⟩]; rfl
    · rw [if_neg h2, if_neg fun h3 => h2 h3.2]; rfl
  · rw [if_neg h, le1, if_neg fun h3 => h h3.1]; rfl

/-! ## The row -/

/-- A query row's score against a key, of the tiles one point loads. -/
def bs (x1 : Vec Ideal S2048x512 .bf16) (x2 : Vec Ideal S2048x128 .bf16) (R : Fin 2048) (g : Fin 4) (j : Fin 2048) : EReal :=
  (∑ e : Fin 128, x1 (ix2 R ⟨g * 128 + e, by omega⟩) * x2 (ix2 j e)) * scl

/-- The row of head `g` and of query `128 n + a`. -/
def krow (x1 : Vec Ideal S2048x512 .bf16) (x2 x3 : Vec Ideal S2048x128 .bf16) (σ : EReal) (n : Fin 16) (a : Fin 128) (g : Fin 4) (d : Fin 128) : EReal :=
  kr (fun l => (if 0 < n.val ∧ a ≤ l then bs x1 x2 ⟨128 * n + a, by omega⟩ g ⟨128 * (n.val - 1) + l, by omega⟩ else ⊥) * lg)
    (fun l => bs x1 x2 ⟨128 * n + a, by omega⟩ g ⟨128 * n + l, by omega⟩ * lg)
    (fun l => (if n.val < 15 ∧ l ≤ a then bs x1 x2 ⟨128 * n + a, by omega⟩ g ⟨128 * min (n.val + 1) 15 + l, by omega⟩ else ⊥) * lg)
    (fun l => x3 (ix2 ⟨128 * (n.val - 1) + l, by omega⟩ d)) (fun l => x3 (ix2 ⟨128 * n + l, by omega⟩ d))
    (fun l => x3 (ix2 ⟨128 * min (n.val + 1) 15 + l, by omega⟩ d)) (σ * lg)

theorem stk_at (q : Fin 4 → S128x128.Idx → EReal) (g : Fin 4) (a d : Fin 128) :
    stk (q 0) (q 1) (q 2) (q 3) ⟨g * 128 + a, by omega⟩ d = q g (ix2 a d) := by
  have ha : (⟨(⟨(g : ℕ) * 128 + a, by omega⟩ : Fin 512) % 128, by omega⟩ : Fin 128) = a := Fin.ext (by show ((g : ℕ) * 128 + a) % 128 = a; omega)
  unfold stk
  rw [ha]
  fin_cases g
  · rw [if_pos (show (0 : ℕ) * 128 + a < 128 by omega)]; rfl
  · rw [if_neg (show ¬ (1 : ℕ) * 128 + a < 128 by omega), if_pos (show (1 : ℕ) * 128 + a < 256 by omega)]; rfl
  · rw [if_neg (show ¬ (2 : ℕ) * 128 + a < 128 by omega), if_neg (show ¬ (2 : ℕ) * 128 + a < 256 by omega), if_pos (show (2 : ℕ) * 128 + a < 384 by omega)]; rfl
  · rw [if_neg (show ¬ (3 : ℕ) * 128 + a < 128 by omega), if_neg (show ¬ (3 : ℕ) * 128 + a < 256 by omega), if_neg (show ¬ (3 : ℕ) * 128 + a < 384 by omega)]; rfl

/-- The query tile of head `g` in block `n`. -/
def qT (x1 : Vec Ideal S2048x512 .bf16) (n : Fin 16) (g : Fin 4) : S128x128.Idx → EReal :=
  fun y => x1 (ix2 ⟨128 * n + (y 0).val, by have h : (y 0).val < 128 := (y 0).isLt; omega⟩ ⟨g * 128 + (y 1).val, by have h : (y 1).val < 128 := (y 1).isLt; omega⟩)

/-- Rows of a key or value tile from row `o`. -/
def kT (x : Vec Ideal S2048x128 .bf16) (o : ℕ) (ho : o + 128 ≤ 2048) : S128x128.Idx → EReal :=
  fun y => x (ix2 ⟨o + (y 0).val, by have h : (y 0).val < 128 := (y 0).isLt; omega⟩ (y 1))

theorem nn_lt (K U : ℕ) (h : K < 2) (hu : U < 8) : 8 * K + U < 16 := by omega
theorem o_lt (K U a : ℕ) (h : K < 2) (hu : U < 8) (ha : a < 128) : 1024 * K + 128 * U + a < 2048 := by omega
theorem o_eq (K U : ℕ) : 1024 * K + 128 * U = 128 * (8 * K + U) := by omega
theorem n_le0 (n : Fin 16) : 128 * n.val + 128 ≤ 2048 := by omega
theorem n_leP (n : Fin 16) : 128 * (n.val - 1) + 128 ≤ 2048 := by omega
theorem n_leN (n : Fin 16) : 128 * min (n.val + 1) 15 + 128 ≤ 2048 := by omega

/-- The block among the sixteen. -/
def nn (k : Fin k0_t1_loop.trips) (u : Fin 8) : Fin 16 := ⟨8 * k.val + u.val, nn_lt _ _ (k_lt k) u.isLt⟩

section

variable {arg3 : Memref sig .tc .vmem S2048x512 .bf16} (h3 : arg3.IsWhole) {arg4 : Memref sig .tc .vmem S2048x128 .bf16} (h4 : arg4.IsWhole)
variable (x1 : Vec Ideal S2048x512 .bf16) (x2 x3 : Vec Ideal S2048x128 .bf16) (k : Fin k0_t1_loop.trips) (u : Fin 8)

theorem q_tile {off : Fin 2 → ℕ} {o : ℕ} (n : Fin 16) (g : Fin 4) (ho : off = ![o, g.val * 128]) (e : o = 128 * n.val)
    (inb : ∀ a, off a + S128x128.size a ≤ S2048x512.size a) :
    arg3.view.readAt (Elt Ideal) (Rect.unit (s := S2048x512) off S128x128.size inb).toLoadRect (h3.unread x1) = qT x1 n g := by
  subst e
  funext y
  obtain ⟨a, e, rfl⟩ : ∃ a e : Fin 128, y = ix2 a e := ⟨y 0, y 1, eq_ix2 y⟩
  rw [rd512 h3 x1 ho inb a e (by omega) (by omega)]
  rfl

theorem k_tile {off : Fin 2 → ℕ} {o p : ℕ} (ho : off = ![o, 0]) (e : o = p) (hp : p + 128 ≤ 2048) (inb : ∀ a, off a + S128x128.size a ≤ S2048x128.size a) :
    arg4.view.readAt (Elt Ideal) (Rect.unit (s := S2048x128) off S128x128.size inb).toLoadRect (h4.unread x2) = kT x2 p hp := by
  subst e
  funext y
  obtain ⟨a, e, rfl⟩ : ∃ a e : Fin 128, y = ix2 a e := ⟨y 0, y 1, eq_ix2 y⟩
  rw [rd128 h4 x2 ho inb a e (by omega)]
  rfl

theorem scK_at (n : Fin 16) (p : ℕ) (hp : p + 128 ≤ 2048) (g : Fin 4) (a l : Fin 128) :
    scK (qT x1 n 0) (qT x1 n 1) (qT x1 n 2) (qT x1 n 3) (kT x2 p hp) ⟨g * 128 + a, by omega⟩ l
      = bs x1 x2 ⟨128 * n + a, by omega⟩ g ⟨p + l, by omega⟩ := by
  unfold scK bs
  refine congrArg (· * scl) (Finset.sum_congr rfl fun d _ => ?_)
  rw [stk_at (qT x1 n) g a d]
  rfl

end

theorem oA_at {arg3 : Memref sig .tc .vmem S2048x512 .bf16} (h3 : arg3.IsWhole) {arg4 : Memref sig .tc .vmem S2048x128 .bf16} (h4 : arg4.IsWhole)
    {arg5 : Memref sig .tc .vmem S2048x128 .bf16} (h5 : arg5.IsWhole) (s : Wide)
    (x1 : Vec Ideal S2048x512 .bf16) (x2 x3 : Vec Ideal S2048x128 .bf16) (k : Fin k0_t1_loop.trips) (u : Fin 8) (g : Fin 4) (a d : Fin 128) (σ : EReal)
    (hs : ∀ l, s (ix2 ⟨g * 128 + a, by omega⟩ l) = σ * lg) :
    oA arg3 arg4 arg5 k0_pay163 kernelRun0_A.sl.v17 (wp k u) (wn k u) s (h3.unread x1) (h4.unread x2) (h5.unread x3) k u (ix2 ⟨g * 128 + a, by omega⟩ d)
      = krow x1 x2 x3 σ (nn k u) a g d := by
  have ha : ((⟨(g : ℕ) * 128 + a, by omega⟩ : Fin 512) : ℕ) % 128 = a := by show ((g : ℕ) * 128 + a) % 128 = a; omega
  unfold oA
  rw [q_tile h3 x1 (nn k u) 0 (k0_off2_eq k u) (o_eq _ _), q_tile h3 x1 (nn k u) 1 (k0_off3_eq k u) (o_eq _ _), q_tile h3 x1 (nn k u) 2 (k0_off4_eq k u) (o_eq _ _), q_tile h3 x1 (nn k u) 3 (k0_off5_eq k u) (o_eq _ _),
    k_tile h4 x2 (k0_off7_eq k u) (p := 128 * (nn k u).val) (o_eq _ _) (n_le0 _), k_tile h4 x2 (off6_eq k u) (p := 128 * ((nn k u).val - 1)) rfl (n_leP _),
    k_tile h4 x2 (k0_off8_eq k u) (p := 128 * min ((nn k u).val + 1) 15) rfl (n_leN _),
    k_tile h5 x3 (k0_off7_eq k u) (p := 128 * (nn k u).val) (o_eq _ _) (n_le0 _), k_tile h5 x3 (off6_eq k u) (p := 128 * ((nn k u).val - 1)) rfl (n_leP _),
    k_tile h5 x3 (k0_off8_eq k u) (p := 128 * min ((nn k u).val + 1) 15) rfl (n_leN _)]
  unfold oB
  rw [oB_row _ _ _ _ _ _ _ _ _ _ hs]
  have bot : (⊥ : EReal) * lg = ⊥ := EReal.bot_mul_coe_of_pos lg_pos
  have eP : ∀ l, sP k0_pay163 kernelRun0_A.sl.v17 (wp k u) (qT x1 (nn k u) 0) (qT x1 (nn k u) 1) (qT x1 (nn k u) 2) (qT x1 (nn k u) 3)
      (kT x2 (128 * ((nn k u).val - 1)) (n_leP _)) (ix2 ⟨g * 128 + a, by omega⟩ l)
      = (if 0 < (nn k u).val ∧ a ≤ l then bs x1 x2 ⟨128 * (nn k u) + a, by omega⟩ g ⟨128 * ((nn k u).val - 1) + l, by omega⟩ else ⊥) * lg := fun l => by
    unfold sP
    rw [pay10_at, pay6_at, pay163_at, v17_at, ha, keepP, scK_at]
    by_cases h : 0 < 8 * k.val + u.val ∧ a ≤ l
    · rw [if_pos h, if_pos (show 0 < (nn k u).val ∧ a ≤ l from h)]
    · rw [if_neg h, if_neg (show ¬ (0 < (nn k u).val ∧ a ≤ l) from h), bot]
  have eC : ∀ l, sC (qT x1 (nn k u) 0) (qT x1 (nn k u) 1) (qT x1 (nn k u) 2) (qT x1 (nn k u) 3)
      (kT x2 (128 * (nn k u).val) (n_le0 _)) (ix2 ⟨g * 128 + a, by omega⟩ l)
      = bs x1 x2 ⟨128 * (nn k u) + a, by omega⟩ g ⟨128 * (nn k u).val + l, by omega⟩ * lg := fun l => by
    unfold sC
    rw [pay9_at, scK_at]
  have eN : ∀ l, sN k0_pay163 kernelRun0_A.sl.v17 (wn k u) (qT x1 (nn k u) 0) (qT x1 (nn k u) 1) (qT x1 (nn k u) 2) (qT x1 (nn k u) 3)
      (kT x2 (128 * min ((nn k u).val + 1) 15) (n_leN _)) (ix2 ⟨g * 128 + a, by omega⟩ l)
      = (if (nn k u).val < 15 ∧ l ≤ a then bs x1 x2 ⟨128 * (nn k u) + a, by omega⟩ g ⟨128 * min ((nn k u).val + 1) 15 + l, by omega⟩ else ⊥) * lg := fun l => by
    unfold sN
    rw [pay11_at, pay163_at, v17_at, ha, keepN, scK_at]
    by_cases h : 8 * k.val + u.val < 15 ∧ l ≤ a
    · rw [if_pos h, if_pos (show (nn k u).val < 15 ∧ l ≤ a from h)]
    · rw [if_neg h, if_neg (show ¬ ((nn k u).val < 15 ∧ l ≤ a) from h), bot]
  unfold krow
  simp only [eP, eC, eN]
  rfl

end Cert.WinV

end

end
-- ==== Proof.WinC.lean ====
module

public import proofs.«01_k».proof.Proof.WinB

/-! What one point of the windowed attention leaves in its output tile: every store's piece, and the whole tile. -/

set_option maxRecDepth 16384

@[expose] public section

noncomputable section

open Idealize.ShloMosaic Idealize.ShloMosaic.TcCoe
open Cert.WindowIdeal Cert.WindowIdeal.Gen Cert.Cross Cert.WinS

namespace Cert.WinV

variable (c : Dev nD) (i : grid0.Coords) (arg2 : Memref sig .tc .smem S16 .f32) (harg2 : arg2.IsWhole) (arg3 : Memref sig .tc .vmem S2048x512 .bf16)
  (harg3 : arg3.IsWhole) (arg4 : Memref sig .tc .vmem S2048x128 .bf16) (harg4 : arg4.IsWhole) (arg5 : Memref sig .tc .vmem S2048x128 .bf16)
  (harg5 : arg5.IsWhole) (arg6 : Memref sig .tc .vmem S2048x512 .bf16) (harg6 : arg6.IsWhole)
  (x0 : Vec Ideal S16 .f32) (x1 : Vec Ideal S2048x512 .bf16) (x2 : Vec Ideal S2048x128 .bf16) (x3 : Vec Ideal S2048x128 .bf16)

/-! ## The sinks -/

theorem i1_lt (i : grid0.Coords) : (i 1).val < 4 := (i 1).isLt

/-- The sink of the point's head `g`. -/
def sk (g : Fin 4) : EReal := x0 (ix1 ⟨4 * (i 1).val + g, by have := i1_lt i; omega⟩)

theorem rd16 {M : Memref sig .tc .smem S16 .f32} (hM : M.IsWhole) (x : Vec Ideal S16 .f32) {off : Fin 1 → ℕ} {o : ℕ}
    (ho : off = ![o]) (inb : ∀ a, off a + S1.size a ≤ S16.size a) (h0 : o < 16) (z : S1.Idx) :
    M.view.readAt (Elt Ideal) (Rect.unit (s := S16) off S1.size inb).toLoadRect (hM.unread x) z = x (ix1 ⟨o, h0⟩) := by
  subst ho
  rw [Memref.IsWhole.readAt_unread hM]
  congr 1
  funext b
  refine Fin.ext ?_
  match b with
  | ⟨0, _⟩ =>
    refine (ValueKit.rect_emb_unit_val _ _ _ _ _).trans ?_
    have hz : (z 0).val < 1 := (z 0).isLt
    show o + (z 0).val = o
    omega

theorem r4_at (a l : Fin 128) : kernelRun0_A.sl.r_4 (F := Ideal) c i arg2 harg2 x0 (ix2 a l) = sk i x0 0 * lg := by
  have h : kernelRun0_A.sl.r (F := Ideal) c i arg2 harg2 x0 = sk i x0 0 := rd16 harg2 x0 (k0_off1_eq i 0) _ _ _
  unfold kernelRun0_A.sl.r_4
  rw [h]
  pointwise [k0_pay164, named_lg]

theorem r5_at (a l : Fin 128) : kernelRun0_A.sl.r_5 (F := Ideal) c i arg2 harg2 x0 (ix2 a l) = sk i x0 1 * lg := by
  have h : kernelRun0_A.sl.r_1 (F := Ideal) c i arg2 harg2 x0 = sk i x0 1 := rd16 harg2 x0 (k0_off1_eq i 1) _ _ _
  unfold kernelRun0_A.sl.r_5
  rw [h]
  pointwise [k0_pay165, named_lg]

theorem r6_at (a l : Fin 128) : kernelRun0_A.sl.r_6 (F := Ideal) c i arg2 harg2 x0 (ix2 a l) = sk i x0 2 * lg := by
  have h : kernelRun0_A.sl.r_2 (F := Ideal) c i arg2 harg2 x0 = sk i x0 2 := rd16 harg2 x0 (k0_off1_eq i 2) _ _ _
  unfold kernelRun0_A.sl.r_6
  rw [h]
  pointwise [k0_pay166, named_lg]

theorem r3_at : kernelRun0_A.sl.r_3 (F := Ideal) c i arg2 harg2 x0 = sk i x0 3 := rd16 harg2 x0 (k0_off1_eq i 3) _ _ _

/-- The four heads' sinks, a tile each. -/
def sinks : Wide :=
  k0_pay1 (kernelRun0_A.sl.r_4 (F := Ideal) c i arg2 harg2 x0) (kernelRun0_A.sl.r_5 c i arg2 harg2 x0) (kernelRun0_A.sl.r_6 c i arg2 harg2 x0)
    (kernelRun0_A.sl.r_3 c i arg2 harg2 x0) kernelRun0_A.sl.cst_10

theorem sinks_at (g : Fin 4) (a l : Fin 128) : sinks c i arg2 harg2 x0 (ix2 ⟨g * 128 + a, by omega⟩ l) = sk i x0 g * lg := by
  unfold sinks
  rw [r3_at]
  refine (pay1_at _ _ _ _ _ _ _).trans ?_
  refine (stk_at ![kernelRun0_A.sl.r_4 (F := Ideal) c i arg2 harg2 x0, kernelRun0_A.sl.r_5 (F := Ideal) c i arg2 harg2 x0,
    kernelRun0_A.sl.r_6 (F := Ideal) c i arg2 harg2 x0, fun _ => sk i x0 3 * kernelRun0_A.sl.cst_10 (F := Ideal)] g a l).trans ?_
  match g with
  | 0 => exact r4_at c i arg2 harg2 x0 a l
  | 1 => exact r5_at c i arg2 harg2 x0 a l
  | 2 => exact r6_at c i arg2 harg2 x0 a l
  | 3 => rfl

/-! ## The pieces -/

/-- The tile a point leaves. -/
def G (y : S2048x512.Idx) : EReal :=
  krow x1 x2 x3 (sk i x0 ⟨(y 1).val / 128, by have h : (y 1).val < 512 := (y 1).isLt; omega⟩)
    ⟨(y 0).val / 128, by have h : (y 0).val < 2048 := (y 0).isLt; omega⟩ ⟨(y 0).val % 128, by omega⟩
    ⟨(y 1).val / 128, by have h : (y 1).val < 512 := (y 1).isLt; omega⟩ ⟨(y 1).val % 128, by omega⟩

theorem G_at (n : Fin 16) (g : Fin 4) (a d : Fin 128) :
    G i x0 x1 x2 x3 (ix2 ⟨128 * n + a, by omega⟩ ⟨g * 128 + d, by omega⟩) = krow x1 x2 x3 (sk i x0 g) n a g d := by
  have e1 : ∀ h, (⟨(g.val * 128 + d.val) / 128, h⟩ : Fin 4) = g := fun h => Fin.ext (by show (g.val * 128 + d.val) / 128 = g; omega)
  have e2 : ∀ h, (⟨(128 * n.val + a.val) / 128, h⟩ : Fin 16) = n := fun h => Fin.ext (by show (128 * n.val + a.val) / 128 = n; omega)
  have e3 : ∀ h, (⟨(128 * n.val + a.val) % 128, h⟩ : Fin 128) = a := fun h => Fin.ext (by show (128 * n.val + a.val) % 128 = a; omega)
  have e4 : ∀ h, (⟨(g.val * 128 + d.val) % 128, h⟩ : Fin 128) = d := fun h => Fin.ext (by show (g.val * 128 + d.val) % 128 = d; omega)
  have key : ∀ (g' : Fin 4) (n' : Fin 16) (a' d' : Fin 128), g' = g → n' = n → a' = a → d' = d →
      krow x1 x2 x3 (sk i x0 g') n' a' g' d' = krow x1 x2 x3 (sk i x0 g) n a g d := by
    rintro _ _ _ _ rfl rfl rfl rfl; rfl
  exact key _ _ _ _ (e1 _) (e2 _) (e3 _) (e4 _)

theorem emb_at {off : Fin 2 → ℕ} {o : ℕ} (n : Fin 16) (g : Fin 4) (ho : off = ![o, g.val * 128]) (e : o = 128 * n.val)
    (inb : ∀ a, off a + S128x128.size a ≤ S2048x512.size a) (a d : Fin 128) :
    (Rect.unit (s := S2048x512) off S128x128.size inb).emb (ix2 a d) = ix2 ⟨128 * n + a, by omega⟩ ⟨g * 128 + d, by omega⟩ := by
  subst e
  subst ho
  funext b
  refine Fin.ext ?_
  match b with
  | ⟨0, _⟩ => exact ValueKit.rect_emb_unit_val _ _ _ _ _
  | ⟨1, _⟩ => exact ValueKit.rect_emb_unit_val _ _ _ _ _

theorem cut0 (W : Wide) (a d : Fin 128) : truncf (F := Ideal) .bf16 (extractStridedSlice S128x128 ![0, 0] W slices_S512x128_o0_0_S128x128) bitsLt_bf16_f32 (ix2 a d)
    = W (ix2 ⟨(0 : Fin 4).val * 128 + a, by have := a.isLt; simp; omega⟩ d) := by
  pointwise []
theorem cut1 (W : Wide) (a d : Fin 128) : truncf (F := Ideal) .bf16 (extractStridedSlice S128x128 ![128, 0] W slices_S512x128_o128_0_S128x128) bitsLt_bf16_f32 (ix2 a d)
    = W (ix2 ⟨(1 : Fin 4).val * 128 + a, by have := a.isLt; simp; omega⟩ d) := by
  pointwise []
theorem cut2 (W : Wide) (a d : Fin 128) : truncf (F := Ideal) .bf16 (extractStridedSlice S128x128 ![256, 0] W slices_S512x128_o256_0_S128x128) bitsLt_bf16_f32 (ix2 a d)
    = W (ix2 ⟨(2 : Fin 4).val * 128 + a, by have := a.isLt; simp; omega⟩ d) := by
  pointwise []
theorem cut3 (W : Wide) (a d : Fin 128) : truncf (F := Ideal) .bf16 (extractStridedSlice S128x128 ![384, 0] W slices_S512x128_o384_0_S128x128) bitsLt_bf16_f32 (ix2 a d)
    = W (ix2 ⟨(3 : Fin 4).val * 128 + a, by have := a.isLt; simp; omega⟩ d) := by
  pointwise []

/-- Block `u` of trip `k`, its four heads. -/
abbrev OA (k : Fin k0_t1_loop.trips) (u : Fin 8) : Wide :=
  oA arg3 arg4 arg5 k0_pay163 kernelRun0_A.sl.v17 (wp k u) (wn k u) (sinks c i arg2 harg2 x0) (harg3.unread x1) (harg4.unread x2) (harg5.unread x3) k u

theorem piece_at (k : Fin k0_t1_loop.trips) (u : Fin 8) (g : Fin 4) {off : Fin 2 → ℕ} {o : ℕ} (ho : off = ![o, g.val * 128]) (e : o = 128 * (nn k u).val)
    (inb : ∀ a, off a + S128x128.size a ≤ S2048x512.size a) (a d : Fin 128) (h : g.val * 128 + a.val < 512) :
    OA c i arg2 harg2 arg3 harg3 arg4 harg4 arg5 harg5 x0 x1 x2 x3 k u (ix2 ⟨g.val * 128 + a.val, h⟩ d)
      = G i x0 x1 x2 x3 ((Rect.unit (s := S2048x512) off S128x128.size inb).emb (ix2 a d)) := by
  rw [emb_at (nn k u) g ho e inb a d, G_at]
  exact oA_at harg3 harg4 harg5 _ x1 x2 x3 k u g a d _ (sinks_at c i arg2 harg2 x0 g a)

/-- The block's four stores. -/
abbrev PC (k : Fin k0_t1_loop.trips) (u : Fin 8) : List (View.Piece (Elt Ideal) S2048x512 .bf16) :=
  pcs arg3 arg4 arg5 k0_pay163 kernelRun0_A.sl.v17 (wp k u) (wn k u) (sinks c i arg2 harg2 x0) (harg3.unread x1) (harg4.unread x2) (harg5.unread x3) k u

theorem pieces_ok (k : Fin k0_t1_loop.trips) (u : Fin 8) (p : View.Piece (Elt Ideal) S2048x512 .bf16)
    (hp : p ∈ PC c i arg2 harg2 arg3 harg3 arg4 harg4 arg5 harg5 x0 x1 x2 x3 k u) (x : p.1.shape.Idx) : p.2 x = G i x0 x1 x2 x3 (p.1.emb x) := by
  unfold PC pcs at hp
  rcases List.mem_cons.1 hp with rfl | hp
  · obtain ⟨a, d, rfl⟩ : ∃ a d : Fin 128, x = ix2 a d := ⟨x 0, x 1, eq_ix2 x⟩
    exact (cut3 _ a d).trans (piece_at c i arg2 harg2 arg3 harg3 arg4 harg4 arg5 harg5 x0 x1 x2 x3 k u 3 (k0_off5_eq k u) (o_eq _ _) (k0_off5_inb k u) a d _)
  rcases List.mem_cons.1 hp with rfl | hp
  · obtain ⟨a, d, rfl⟩ : ∃ a d : Fin 128, x = ix2 a d := ⟨x 0, x 1, eq_ix2 x⟩
    exact (cut2 _ a d).trans (piece_at c i arg2 harg2 arg3 harg3 arg4 harg4 arg5 harg5 x0 x1 x2 x3 k u 2 (k0_off4_eq k u) (o_eq _ _) (k0_off4_inb k u) a d _)
  rcases List.mem_cons.1 hp with rfl | hp
  · obtain ⟨a, d, rfl⟩ : ∃ a d : Fin 128, x = ix2 a d := ⟨x 0, x 1, eq_ix2 x⟩
    exact (cut1 _ a d).trans (piece_at c i arg2 harg2 arg3 harg3 arg4 harg4 arg5 harg5 x0 x1 x2 x3 k u 1 (k0_off3_eq k u) (o_eq _ _) (k0_off3_inb k u) a d _)
  rcases List.mem_cons.1 hp with rfl | hp
  · obtain ⟨a, d, rfl⟩ : ∃ a d : Fin 128, x = ix2 a d := ⟨x 0, x 1, eq_ix2 x⟩
    exact (cut0 _ a d).trans (piece_at c i arg2 harg2 arg3 harg3 arg4 harg4 arg5 harg5 x0 x1 x2 x3 k u 0 (k0_off2_eq k u) (o_eq _ _) (k0_off2_inb k u) a d _)
  exact absurd hp (List.not_mem_nil)

/-! ## The whole tile -/

/-- The stores of the trips before `n`. -/
abbrev PB (n : ℕ) : List (View.Piece (Elt Ideal) S2048x512 .bf16) :=
  pb_k0_t1 Variants.none c none i arg2 harg2 arg3 harg3 arg4 harg4 arg5 harg5 arg6 harg6 k0_pay163 kernelRun0_A.sl.v17
    (kernelRun0_A.sl.r_4 c i arg2 harg2 x0) (kernelRun0_A.sl.r_5 c i arg2 harg2 x0) (kernelRun0_A.sl.r_6 c i arg2 harg2 x0) (kernelRun0_A.sl.r_3 c i arg2 harg2 x0)
    kernelRun0_A.sl.cst_10 (harg3.unread x1) (harg4.unread x2) (harg5.unread x3) n

theorem trip_ok (k : Fin k0_t1_loop.trips) (p : View.Piece (Elt Ideal) S2048x512 .bf16)
    (hp : p ∈ tripL_k0_t1 (F := Ideal) Variants.none c none i arg2 harg2 arg3 harg3 arg4 harg4 arg5 harg5 arg6 harg6 k0_pay163 kernelRun0_A.sl.v17
      (kernelRun0_A.sl.r_4 c i arg2 harg2 x0) (kernelRun0_A.sl.r_5 c i arg2 harg2 x0) (kernelRun0_A.sl.r_6 c i arg2 harg2 x0) (kernelRun0_A.sl.r_3 c i arg2 harg2 x0)
      kernelRun0_A.sl.cst_10 (harg3.unread x1) (harg4.unread x2) (harg5.unread x3) k) (x : p.1.shape.Idx) : p.2 x = G i x0 x1 x2 x3 (p.1.emb x) := by
  unfold tripL_k0_t1 at hp
  rw [trip_pieces] at hp
  rcases List.mem_append.1 hp with hp | hp
  · exact pieces_ok c i arg2 harg2 arg3 harg3 arg4 harg4 arg5 harg5 x0 x1 x2 x3 k 7 p hp x
  rcases List.mem_append.1 hp with hp | hp
  · exact pieces_ok c i arg2 harg2 arg3 harg3 arg4 harg4 arg5 harg5 x0 x1 x2 x3 k 6 p hp x
  rcases List.mem_append.1 hp with hp | hp
  · exact pieces_ok c i arg2 harg2 arg3 harg3 arg4 harg4 arg5 harg5 x0 x1 x2 x3 k 5 p hp x
  rcases List.mem_append.1 hp with hp | hp
  · exact pieces_ok c i arg2 harg2 arg3 harg3 arg4 harg4 arg5 harg5 x0 x1 x2 x3 k 4 p hp x
  rcases List.mem_append.1 hp with hp | hp
  · exact pieces_ok c i arg2 harg2 arg3 harg3 arg4 harg4 arg5 harg5 x0 x1 x2 x3 k 3 p hp x
  rcases List.mem_append.1 hp with hp | hp
  · exact pieces_ok c i arg2 harg2 arg3 harg3 arg4 harg4 arg5 harg5 x0 x1 x2 x3 k 2 p hp x
  rcases List.mem_append.1 hp with hp | hp
  · exact pieces_ok c i arg2 harg2 arg3 harg3 arg4 harg4 arg5 harg5 x0 x1 x2 x3 k 1 p hp x
  exact pieces_ok c i arg2 harg2 arg3 harg3 arg4 harg4 arg5 harg5 x0 x1 x2 x3 k 0 p hp x

theorem pb_ok (n : ℕ) (hn : n ≤ k0_t1_loop.trips) : ∀ p ∈ PB c i arg2 harg2 arg3 harg3 arg4 harg4 arg5 harg5 arg6 harg6 x0 x1 x2 x3 n,
    ∀ x : p.1.shape.Idx, p.2 x = G i x0 x1 x2 x3 (p.1.emb x) := by
  induction n with
  | zero => exact fun p hp => absurd hp (List.not_mem_nil)
  | succ n ih =>
    intro p hp x
    have e := pb_k0_t1_succ (F := Ideal) Variants.none c none i arg2 harg2 arg3 harg3 arg4 harg4 arg5 harg5 arg6 harg6 k0_pay163 kernelRun0_A.sl.v17
      (kernelRun0_A.sl.r_4 c i arg2 harg2 x0) (kernelRun0_A.sl.r_5 c i arg2 harg2 x0) (kernelRun0_A.sl.r_6 c i arg2 harg2 x0) (kernelRun0_A.sl.r_3 c i arg2 harg2 x0)
      kernelRun0_A.sl.cst_10 (harg3.unread x1) (harg4.unread x2) (harg5.unread x3) ⟨n, hn⟩
    unfold PB at hp
    rw [e] at hp
    rcases List.mem_append.1 hp with hp | hp
    · exact trip_ok c i arg2 harg2 arg3 harg3 arg4 harg4 arg5 harg5 arg6 harg6 x0 x1 x2 x3 ⟨n, hn⟩ p hp x
    · exact ih (Nat.le_of_succ_le hn) p hp x

theorem run_pieces : (kernelRun0_A (F := Ideal) c i arg2 harg2 arg3 harg3 arg4 harg4 arg5 harg5 arg6 harg6 x0 x1 x2 x3).1
    = PB c i arg2 harg2 arg3 harg3 arg4 harg4 arg5 harg5 arg6 harg6 x0 x1 x2 x3 k0_t1_loop.trips := by
  sl_kernel_rfl

theorem out_at (y : S2048x512.Idx) : out0_A_4 (F := Ideal) c i arg2 harg2 arg3 harg3 arg4 harg4 arg5 harg5 arg6 harg6 x0 x1 x2 x3 y = G i x0 x1 x2 x3 y := by
  unfold out0_A_4
  refine View.read_writes_apply_of_pieces (Val := Elt Ideal) _ _ (G i x0 x1 x2 x3) _ ?_ y (cover0_A_4 c i arg2 harg2 arg3 harg3 arg4 harg4 arg5 harg5 arg6 harg6 x0 x1 x2 x3 y)
  rw [run_pieces]
  exact pb_ok c i arg2 harg2 arg3 harg3 arg4 harg4 arg5 harg5 arg6 harg6 x0 x1 x2 x3 _ le_rfl

end Cert.WinV

end

end
-- ==== Proof.WinRef.lean ====
module

public import proofs.«01_k».proof.Proof.Gen.WindowRefIdeal.Run
public import proofs.«01_k».proof.Proof.Ref
public import proofs.«01_k».proof.Proof.WinSpec

/-! The windowed attention's plain program, stage by stage, read at an index: the reference's row of `WinSpec.lean`. -/

set_option maxRecDepth 16384

@[expose] public section

noncomputable section

open Idealize.ShloMosaic Idealize.ShloMosaic.TcCoe Idealize.SL.Sem
open Cert.WindowRefIdeal Cert.WindowRefIdeal.Gen

namespace Cert.WinR

open Cert.Cross Cert.WinS

/-- The scores of all queries against all keys of their batch. -/
def d (x : FVec Ideal S8192x2560 .bf16) : FVec Ideal S4x4x4x2048x2048 .f32 :=
  mulf (transpose S4x4x4x2048x2048 [0, 1, 4, 3, 2] (Host.dotGeneral dot_S4x2048x4x128_S4x2048x4x4x128_S4x4x2048x2048x4_3_4_1_13_02_02 none
      (shapeCast _ (extf .f32 (extractStridedSlice S8192x512 ![0, 2048] x slices_S8192x2560_S8192x512_0_2048) bitsLt_bf16_f32) shapeCasts_S8192x512_S4x2048x4x128)
      (shapeCast _ (extf .f32 (extractStridedSlice S8192x2048 ![0, 0] x slices_S8192x2560_S8192x2048_0_0) bitsLt_bf16_f32) shapeCasts_S8192x2048_S4x2048x4x4x128))
      transposes_S4x4x2048x2048x4_S4x4x4x2048x2048_0_1_4_3_2)
    (broadcastInDim S4x4x4x2048x2048 ![] bcast_S_S4x4x4x2048x2048 (Host.rsqrt (constant S_ .f32 0x43000000#32)))

/-- A score. -/
def sco (x : FVec Ideal S8192x2560 .bf16) (b h g : Fin 4) (i j : Fin 2048) : EReal :=
  (∑ e : Fin 128, x (ix2 ⟨b * 2048 + i, by omega⟩ ⟨(h * 4 + g) * 128 + e, by omega⟩)
    * x (ix2 ⟨b * 2048 + j, by omega⟩ ⟨2048 + (h * 128 + e), by omega⟩)) * scl

theorem d_at (x : FVec Ideal S8192x2560 .bf16) (b h g : Fin 4) (i j : Fin 2048) : d x (ix5 b h g i j) = sco x b h g i j := by
  pointwise [d, sco]
  rw [Ref.scl_eq]
  refine congrArg (· * scl) (Finset.sum_congr rfl fun e _ => ?_)
  rw [mul_comm]
  refine congrArg (· * _) (congrArg (fun q => x (ix2 _ q)) (Fin.ext ?_))
  show (h : ℕ) * 512 + g * 128 + e = (h * 4 + g) * 128 + e
  ring

/-- Which keys a query sees. -/
def near : IVec S2048x2048 1 :=
  cmpi .sle (absi (subi (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))))
    (broadcastInDim S2048x2048 ![] bcast_S_S2048x2048 (constantI S_ 32 128#32))

theorem near_word (i j : Fin 2048) : IntOp.cmpi .sle (IntOp.absi (IntOp.subi (BitVec.ofNat 32 (j : ℕ)) (BitVec.ofNat 32 (i : ℕ)))) 128#32
    = if (j : ℕ) ≤ i + 128 ∧ (i : ℕ) ≤ j + 128 then 1#1 else 0#1 := by
  have hi := i.isLt
  have hj := j.isLt
  have hw : IntOp.subi (BitVec.ofNat 32 (j : ℕ)) (BitVec.ofNat 32 (i : ℕ)) = BitVec.ofNat 32 (((j : ℕ) + 2048 - i) + 4294965248) := by
    apply BitVec.eq_of_toNat_eq
    simp only [IntOp.subi, BitVec.toNat_sub, BitVec.toNat_ofNat]
    omega
  rw [hw, (by decide +kernel : ∀ k : Fin 4096, IntOp.cmpi .sle (IntOp.absi (BitVec.ofNat 32 ((k : ℕ) + 4294965248))) 128#32
    = if 1920 ≤ (k : ℕ) ∧ (k : ℕ) ≤ 2176 then 1#1 else 0#1) ⟨(j : ℕ) + 2048 - i, by omega⟩]
  exact if_congr (by simp only; omega) rfl rfl

theorem near_at (i j : Fin 2048) : near (ix2 i j) = if (j : ℕ) ≤ i + 128 ∧ (i : ℕ) ≤ j + 128 then 1#1 else 0#1 := by
  pointwise [near]
  exact near_word i j

/-- The scores of the keys a query sees, the others masked. -/
def s (x : FVec Ideal S8192x2560 .bf16) : FVec Ideal S4x4x4x2048x2048 .f32 :=
  select (broadcastInDim S4x4x4x2048x2048 ![0, 1, 2, 3, 4] bcast_S1x1x1x2048x2048_S4x4x4x2048x2048_0_1_2_3_4
    (broadcastInDim S1x1x1x2048x2048 ![3, 4] bcast_S2048x2048_S1x1x1x2048x2048_3_4 near)) (d x)
    (broadcastInDim S4x4x4x2048x2048 ![] bcast_S_S4x4x4x2048x2048 (id (constant S_ .f32 0xFF800000#32)))

/-- A score, or the mask. -/
def scm (x : FVec Ideal S8192x2560 .bf16) (b h g : Fin 4) (i j : Fin 2048) : EReal :=
  if (j : ℕ) ≤ i + 128 ∧ (i : ℕ) ≤ j + 128 then sco x b h g i j else ⊥

theorem s_at (x : FVec Ideal S8192x2560 .bf16) (b h g : Fin 4) (i j : Fin 2048) : s x (ix5 b h g i j) = scm x b h g i j := by
  pointwise [s, d_at, near_at]
  rw [show id (constant (F := Ideal) S_ FTy.f32 0xFF800000#32) ix0 = (⊥ : EReal) from ofBits_neg_inf, scm]
  split <;> rfl

/-- The scores with the sink behind them. -/
def cc (x : FVec Ideal S8192x2560 .bf16) (k : FVec Ideal S16 .f32) : FVec Ideal S4x4x4x2048x2049 .f32 :=
  concatenate S4x4x4x2048x2049 4 [⟨S4x4x4x2048x2048, s x⟩, ⟨S4x4x4x2048x1, (broadcastInDim S4x4x4x2048x1 ![0, 1, 2, 3, 4] bcast_S1x4x4x1x1_S4x4x4x2048x1_0_1_2_3_4
    (broadcastInDim S1x4x4x1x1 ![1, 2] bcast_S4x4_S1x4x4x1x1_1_2 (shapeCast _ k shapeCasts_S16_S4x4)))⟩] concatenates_S4x4x4x2048x2048_S4x4x4x2048x1_S4x4x4x2048x2049_d4

theorem cc_at (x : FVec Ideal S8192x2560 .bf16) (k : FVec Ideal S16 .f32) (b h g : Fin 4) (i : Fin 2048) (j : Fin 2049) :
    cc x k (ix5 b h g i j) = row (scm x b h g i) (k (ix1 ⟨h * 4 + g, by omega⟩)) j := by
  pointwise [cc, row, s_at]

def mr (s : FVec Ideal S4x4x4x2048x2049 .f32) : FVec Ideal S4x4x4x2048 .f32 :=
  Host.reduce FloatOps.maximumf s (constant S_ .f32 0xFF800000#32) reducesTo_S4x4x4x2048x2049_S4x4x4x2048_d4 h_S_

theorem mr_at (s : FVec Ideal S4x4x4x2048x2049 .f32) (b h g : Fin 4) (t : Fin 2048) :
    mr s (ix4 b h g t) = mx fun j => s (ix5 b h g t j) := by
  pointwise [mr, mx]

def mm (s : FVec Ideal S4x4x4x2048x2049 .f32) : FVec Ideal S4x4x4x2048 .f32 :=
  maximumf (broadcastInDim S4x4x4x2048 ![] bcast_S_S4x4x4x2048 (constant S_ .f32 0xFF800000#32)) (mr s)

theorem mm_at (s : FVec Ideal S4x4x4x2048x2049 .f32) (b h g : Fin 4) (t : Fin 2048) :
    mm s (ix4 b h g t) = max (Ideal.ofBits .f32 0xFF800000#32) (mx fun j => s (ix5 b h g t j)) := by
  have h1 : broadcastInDim S4x4x4x2048 ![] bcast_S_S4x4x4x2048 (constant (F := Ideal) S_ .f32 0xFF800000#32) (ix4 b h g t)
      = Ideal.ofBits .f32 0xFF800000#32 := by pointwise []
  rw [mm, Ref.max_at, h1, mr_at]

def e (s : FVec Ideal S4x4x4x2048x2049 .f32) : FVec Ideal S4x4x4x2048x2049 .f32 :=
  Host.exp (subf s (broadcastInDim S4x4x4x2048x2049 ![0, 1, 2, 3, 4] bcast_S4x4x4x2048x1_S4x4x4x2048x2049_0_1_2_3_4
    (broadcastInDim S4x4x4x2048x1 ![0, 1, 2, 3] bcast_S4x4x4x2048_S4x4x4x2048x1_0_1_2_3 (mm s))))

theorem e_at (s : FVec Ideal S4x4x4x2048x2049 .f32) (b h g : Fin 4) (t : Fin 2048) (j : Fin 2049) :
    e s (ix5 b h g t j) = Ideal.exp (s (ix5 b h g t j) - max (Ideal.ofBits .f32 0xFF800000#32) (mx fun j => s (ix5 b h g t j))) := by
  pointwise [e, mm_at]

def p (s : FVec Ideal S4x4x4x2048x2049 .f32) : FVec Ideal S4x4x4x2048x2049 .f32 :=
  Host.divf (e s) (broadcastInDim S4x4x4x2048x2049 ![0, 1, 2, 3, 4] bcast_S4x4x4x2048x1_S4x4x4x2048x2049_0_1_2_3_4
    (broadcastInDim S4x4x4x2048x1 ![0, 1, 2, 3] bcast_S4x4x4x2048_S4x4x4x2048x1_0_1_2_3
      (Host.reduceAdd (e s) (constant S_ .f32 0x00000000#32) reducesTo_S4x4x4x2048x2049_S4x4x4x2048_d4 h_S_)))

theorem p_at (s : FVec Ideal S4x4x4x2048x2049 .f32) (b h g : Fin 4) (t : Fin 2048) (j : Fin 2049) :
    p s (ix5 b h g t j) = smR (fun j => s (ix5 b h g t j)) j := by
  pointwise [p, smR, e_at]

def o (p : FVec Ideal S4x4x4x2048x2049 .f32) (v : FVec Ideal S8192x6656 .bf16) : FVec Ideal S8192x2048 .bf16 :=
  truncf .bf16 (shapeCast _ (transpose S4x2048x4x4x128 [0, 4, 1, 3, 2]
    (Host.dotGeneral dot_S4x2048x4x128_S4x4x4x2048x2048_S4x4x128x4x2048_1_4_3_23_02_01 none
      (shapeCast _ (extf .f32 (extractStridedSlice S8192x512 ![0, 0] v slices_S8192x6656_S8192x512_0_0) bitsLt_bf16_f32) shapeCasts_S8192x512_S4x2048x4x128)
      (extractStridedSlice S4x4x4x2048x2048 ![0, 0, 0, 0, 0] p slices_S4x4x4x2048x2049_S4x4x4x2048x2048_0_0_0_0_0))
    transposes_S4x4x128x4x2048_S4x2048x4x4x128_0_4_1_3_2) shapeCasts_S4x2048x4x4x128_S8192x2048) bitsLt_bf16_f32

theorem o_at (p : FVec Ideal S4x4x4x2048x2049 .f32) (v : FVec Ideal S8192x6656 .bf16) (r : Fin 8192) (n : Fin 2048) :
    o p v (ix2 r n) = ∑ j : Fin 2048, p (ix5 ⟨r / 2048, by omega⟩ ⟨n / 512, by omega⟩ ⟨n / 128 % 4, by omega⟩ ⟨r % 2048, by omega⟩ ⟨j, by omega⟩)
      * v (ix2 ⟨r / 2048 * 2048 + j, by omega⟩ ⟨n / 512 * 128 + n % 128, by omega⟩) := by
  pointwise [o]
  exact Finset.sum_congr rfl fun j _ => mul_comm _ _

theorem out0_eq (m : (ℓ : Loc nD τ sig) → Buf (Elt Ideal) ℓ) (c : Dev nD) : (Value.res_out0 m c : FVec Ideal S8192x2048 .bf16)
    = o (p (cc (m ((c : Thread nD τ).loc main_arg0)) (m ((c : Thread nD τ).loc main_arg2)))) (m ((c : Thread nD τ).loc main_arg1)) := rfl

end Cert.WinR

end

end
-- ==== Proof.WinD.lean ====
module

public import proofs.«01_k».proof.Proof.WinC
public import proofs.«01_k».proof.Proof.WinRef
public import proofs.«01_k».proof.Proof.Gen.Pre_finite_scores
public import proofs.«01_k».proof.Proof.Close

/-! The windowed attention's value: the array the kernel leaves, and that it is the reference's. -/

set_option maxRecDepth 16384

@[expose] public section

noncomputable section

open Idealize.ShloMosaic Idealize.ShloMosaic.TcCoe Idealize.SL.Sem
open Idealize.ShloMosaic.Pipeline (Dat)
open Cert.WindowIdeal Cert.WindowIdeal.Gen Cert.Cross Cert.WinS

namespace Cert.WinV

/-! ## The array the kernel leaves -/

variable (m : (ℓ : Loc nD τ sig) → Buf (Elt Ideal) ℓ)

def aX (c : Dev nD) (R : Fin 8192) (k : Fin 2560) : EReal := (m ((c : Thread nD τ).loc main_arg0) : FVec Ideal S8192x2560 .bf16) (ix2 R k)
def aV (c : Dev nD) (R : Fin 8192) (k : Fin 6656) : EReal := (m ((c : Thread nD τ).loc main_arg1) : FVec Ideal S8192x6656 .bf16) (ix2 R k)
def aS (c : Dev nD) (k : Fin 16) : EReal := (m ((c : Thread nD τ).loc main_arg2) : FVec Ideal S16 .f32) (ix1 k)

/-- The queries of batch `b` and group `h`. -/
def tQ (c : Dev nD) (b h : Fin 4) : Vec Ideal S2048x512 .bf16 :=
  fun y => aX m c ⟨b * 2048 + (y 0).val, by have e : (y 0).val < 2048 := (y 0).isLt; omega⟩ ⟨h * 512 + (y 1).val, by have e : (y 1).val < 512 := (y 1).isLt; omega⟩
/-- Their keys. -/
def tK (c : Dev nD) (b h : Fin 4) : Vec Ideal S2048x128 .bf16 :=
  fun y => aX m c ⟨b * 2048 + (y 0).val, by have e : (y 0).val < 2048 := (y 0).isLt; omega⟩ ⟨2048 + (h * 128 + (y 1).val), by have e : (y 1).val < 128 := (y 1).isLt; omega⟩
/-- Their values. -/
def tV (c : Dev nD) (b h : Fin 4) : Vec Ideal S2048x128 .bf16 :=
  fun y => aV m c ⟨b * 2048 + (y 0).val, by have e : (y 0).val < 2048 := (y 0).isLt; omega⟩ ⟨h * 128 + (y 1).val, by have e : (y 1).val < 128 := (y 1).isLt; omega⟩

/-- One element of the result. -/
def el (c : Dev nD) (R : Fin 8192) (N : Fin 2048) : EReal :=
  krow (tQ m c ⟨R / 2048, by omega⟩ ⟨N / 512, by omega⟩) (tK m c ⟨R / 2048, by omega⟩ ⟨N / 512, by omega⟩) (tV m c ⟨R / 2048, by omega⟩ ⟨N / 512, by omega⟩)
    (aS m c ⟨N / 512 * 4 + N / 128 % 4, by omega⟩) ⟨R % 2048 / 128, by omega⟩ ⟨R % 128, by omega⟩ ⟨N / 128 % 4, by omega⟩ ⟨N % 128, by omega⟩

/-- The result array. -/
def res (c : Dev nD) : FVec Ideal S8192x2048 .bf16 := fun i => el m c (i 0) (i 1)

theorem idx : ∀ t : Fin cfg0.N, win0_0.index t = ![0] ∧ win0_1.index t = ![t.val / 4, t.val % 4] ∧ win0_2.index t = ![t.val / 4, 16 + t.val % 4]
    ∧ win0_3.index t = ![t.val / 4, t.val % 4] ∧ win0_4.index t = ![t.val / 4, t.val % 4] ∧ (grid0.coords t 1).val = t.val % 4 ∧ t.val < 16 :=
  (by decide +kernel : ∀ t : Fin grid0.N, _)

theorem blkS (c : Dev nD) (t : Fin cfg0.N) (k : Fin 16) : (iblk m c 0 t : Vec Ideal S16 .f32) (ix1 k) = aS m c k := by
  unfold aS; blk_ext [iblk, V, idx t]

theorem blkQ (c : Dev nD) (t : Fin cfg0.N) (b h : Fin 4) (hb : b.val = t.val / 4) (hh : h.val = t.val % 4) : (iblk m c 1 t : Vec Ideal S2048x512 .bf16) = tQ m c b h := by
  funext y
  unfold tQ aX
  blk_ext [iblk, V, idx t, hb, hh]

theorem blkK (c : Dev nD) (t : Fin cfg0.N) (b h : Fin 4) (hb : b.val = t.val / 4) (hh : h.val = t.val % 4) : (iblk m c 2 t : Vec Ideal S2048x128 .bf16) = tK m c b h := by
  funext y
  unfold tK aX
  blk_ext [iblk, V, idx t, hb, hh]

theorem blkV (c : Dev nD) (t : Fin cfg0.N) (b h : Fin 4) (hb : b.val = t.val / 4) (hh : h.val = t.val % 4) : (iblk m c 3 t : Vec Ideal S2048x128 .bf16) = tV m c b h := by
  funext y
  unfold tV aV
  blk_ext [iblk, V, idx t, hb, hh]

theorem t_lt (t : Fin cfg0.N) : t.val < 16 := (idx t).2.2.2.2.2.2

theorem emb4 (f : S8192x2048.Idx → EReal) (t : Fin cfg0.N) (T : Fin 16) (hT : T.val = t.val) (p : Fin 2048) (q : Fin 512) :
    f ((win0_4.blk t).view.emb (ix2 p q)) = f (ix2 ⟨T / 4 * 2048 + p, by omega⟩ ⟨T % 4 * 512 + q, by omega⟩) := by
  blk_ext [idx t, hT]

theorem G_el (c : Dev nD) (t : Fin cfg0.N) (T : Fin 16) (hT : T.val = t.val) (p : Fin 2048) (q : Fin 512) :
    G (grid0.coords t) (iblk m c 0 t) (iblk m c 1 t) (iblk m c 2 t) (iblk m c 3 t) (ix2 p q)
      = el m c ⟨T / 4 * 2048 + p, by omega⟩ ⟨T % 4 * 512 + q, by omega⟩ := by
  have key : ∀ (b b' h h' g g' : Fin 4) (s s' : EReal) (n n' : Fin 16) (a a' d d' : Fin 128), b = b' → h = h' → s = s' → n = n' → a = a' → g = g' → d = d' →
      krow (tQ m c b h) (tK m c b h) (tV m c b h) s n a g d = krow (tQ m c b' h') (tK m c b' h') (tV m c b' h') s' n' a' g' d' := by
    rintro _ _ _ _ _ _ _ _ _ _ _ _ _ _ rfl rfl rfl rfl rfl rfl rfl; rfl
  have hs : sk (grid0.coords t) (iblk m c 0 t) ⟨q / 128, by omega⟩ = aS m c ⟨(T % 4 * 512 + q) / 512 * 4 + (T % 4 * 512 + q) / 128 % 4, by omega⟩ := by
    have h1 := (idx t).2.2.2.2.2.1
    unfold sk
    refine (blkS m c t _).trans (congrArg (aS m c) (Fin.ext ?_))
    show 4 * (grid0.coords t 1).val + q.val / 128 = (T.val % 4 * 512 + q.val) / 512 * 4 + (T.val % 4 * 512 + q.val) / 128 % 4
    rw [h1, ← hT]
    omega
  have hb : (⟨T.val / 4, by omega⟩ : Fin 4).val = t.val / 4 := by rw [← hT]
  have hh : (⟨T.val % 4, by omega⟩ : Fin 4).val = t.val % 4 := by rw [← hT]
  rw [blkQ m c t _ _ hb hh, blkK m c t _ _ hb hh, blkV m c t _ _ hb hh]
  unfold el
  refine key _ _ _ _ _ _ _ _ _ _ _ _ _ _ (Fin.ext ?_) (Fin.ext ?_) hs (Fin.ext ?_) (Fin.ext ?_) (Fin.ext ?_) (Fin.ext ?_)
  · show T.val / 4 = (T.val / 4 * 2048 + p.val) / 2048; omega
  · show T.val % 4 = (T.val % 4 * 512 + q.val) / 512; omega
  · show p.val / 128 = (T.val / 4 * 2048 + p.val) % 2048 / 128; omega
  · show p.val % 128 = (T.val / 4 * 2048 + p.val) % 128; omega
  · show q.val / 128 = (T.val % 4 * 512 + q.val) / 128 % 4; omega
  · show q.val % 128 = (T.val % 4 * 512 + q.val) % 128; omega

theorem final4 (c : Dev nD) : (dats m 0 c).arrAt 4 (cfgs 0).N = res m c := by
  refine (dats m 0 c).arrAt_eq_of_covers 4 _ (by decide +kernel) fun t _ y => ?_
  blk_simp
  rw [after0_4]
  unfold outsAt0
  refine (out_at c (grid0.coords t) (ms0_0 t) (hs0_0 t) (ms0_1 t) (hs0_1 t) (ms0_2 t) (hs0_2 t) (ms0_3 t) (hs0_3 t) (ms0_4 t) (hs0_4 t) _ _ _ _ y).trans ?_
  obtain ⟨p, q, rfl⟩ : ∃ (p : Fin 2048) (q : Fin 512), y = ix2 p q := ⟨y 0, y 1, eq_ix2 y⟩
  exact (G_el m c t ⟨t.val, t_lt t⟩ rfl p q).trans (emb4 (res m c) t ⟨t.val, t_lt t⟩ rfl p q).symm

/-! ## What the precondition says -/

/-- An array below infinity holds scores. -/
theorem sc_of_all {S T U : Shape} {axes : List (Fin S.rank)} [Subsingleton T.Idx] (x : FVec Ideal S .f32) (top : FVec Ideal S .f32)
    (ht : ∀ i, top i = ⊤) (init : IVec U 1) (h : S.ReducesTo axes T) (hu : 0 < U.numel) (j : T.Idx)
    (e : Host.reduce IntOp.andi (cmpf .olt x top) init h hu j = 1#1) (i : S.Idx) : Sc (x i) := by
  have h1 := Host.reduce_andi_all _ _ h hu j e i
  refine sc_lt ?_
  have h2 : BitVec.ofBool (decide (x i < top i)) = 1#1 := h1
  rw [ht i] at h2
  by_contra hc
  rw [decide_eq_false hc] at h2
  exact absurd h2 (by decide)

theorem finite (h : Pre_WindowIdeal_finite_scores m) (c : Dev nD) : (∀ R k, Re (aX m c R k)) ∧ (∀ k, Sc (aS m c k)) := by
  have : Subsingleton (Cert.Pre_finite_scores.S_).Idx := ⟨fun a b => funext fun i => i.elim0⟩
  have h0 := congrFun (h c) ix0
  obtain ⟨h1, h2⟩ := IntOp.andi_eq_one.1 h0
  exact ⟨fun R k => re_of_all _ _ (fun _ => ofBits_inf) _ _ _ _ h1 (ix2 R k),
    fun k => sc_of_all _ _ (fun _ => ofBits_inf) _ _ _ _ h2 (ix1 k)⟩

/-! ## The value claim -/

/-- The reference's score, of the kernel's tiles. -/
theorem sco_eq (x : FVec Ideal S8192x2560 .bf16) (c : Dev nD) (hx : (m ((c : Thread nD τ).loc main_arg0) : FVec Ideal S8192x2560 .bf16) = x)
    (b h g : Fin 4) (i j : Fin 2048) : Cert.WinR.sco x b h g i j = bs (tQ m c b h) (tK m c b h) i g j := by
  subst hx
  unfold Cert.WinR.sco bs tQ tK aX
  refine congrArg (· * scl) (Finset.sum_congr rfl fun e _ => congrArg₂ (· * ·) ?_ ?_)
  · refine congrArg (m ((c : Thread nD τ).loc main_arg0) : FVec Ideal S8192x2560 .bf16) (congrArg (ix2 _) (Fin.ext ?_))
    show (h.val * 4 + g.val) * 128 + e.val = h.val * 512 + (g.val * 128 + e.val)
    omega
  · rfl

theorem bs_re (c : Dev nD) (hX : ∀ R k, Re (aX m c R k)) (b h g : Fin 4) (i j : Fin 2048) : Re (bs (tQ m c b h) (tK m c b h) i g j) := by
  unfold bs
  exact Re.mul (Re.sum fun e => Re.mul (hX _ _) (hX _ _)) (re_coe _)

/-- The reference's row of masked scores. -/
def msk (c : Dev nD) (b h g : Fin 4) (i j : Fin 2048) : EReal :=
  if (j : ℕ) ≤ i + 128 ∧ (i : ℕ) ≤ j + 128 then bs (tQ m c b h) (tK m c b h) i g j else ⊥

theorem Sc_ite (c : Dev nD) (hX : ∀ R k, Re (aX m c R k)) (b h g : Fin 4) (i j : Fin 2048) (P : Prop) [Decidable P] :
    Sc (if P then bs (tQ m c b h) (tK m c b h) i g j else ⊥) := by
  by_cases hP : P
  · rw [if_pos hP]; exact .inr (bs_re m c hX b h g i j)
  · rw [if_neg hP]; exact sc_bot

theorem krow_eq (c : Dev nD) (hX : ∀ R k, Re (aX m c R k)) (b h g : Fin 4) (σ : EReal) (hσ : Sc σ) (n : Fin 16) (a d : Fin 128) :
    krow (tQ m c b h) (tK m c b h) (tV m c b h) σ n a g d
      = rr (msk m c b h g ⟨128 * n + a, by omega⟩) (fun j => tV m c b h (ix2 j d)) σ := by
  unfold krow
  refine row_eq _ _ σ hσ n (fun j => Sc_ite m c hX b h g _ j _) ?_ _ _ _ _ _ _ (fun l => Sc_ite m c hX b h g _ _ _) (fun l => Sc_ite m c hX b h g _ _ _)
    ⟨0, bs_re m c hX b h g _ _⟩ ?_ ?_ ?_ ?_ ?_
  · intro e h1 h2 h3 l
    refine if_neg fun hc => ?_
    have hc1 : l.val + 128 * e.val ≤ 128 * n.val + a.val + 128 := hc.1
    have hc2 : 128 * n.val + a.val ≤ l.val + 128 * e.val + 128 := hc.2
    omega
  · intro h0 l
    have e : (⟨128 * (n.val - 1) + l, by omega⟩ : Fin 2048) = ⟨l + 128 * (n.val - 1), by omega⟩ := Fin.ext (Nat.add_comm _ _)
    rw [e]
    refine ⟨?_, rfl⟩
    refine if_congr ?_ rfl rfl
    show 0 < n.val ∧ a ≤ l ↔ l.val + 128 * (n.val - 1) ≤ 128 * n.val + a.val + 128 ∧ 128 * n.val + a.val ≤ l.val + 128 * (n.val - 1) + 128
    rw [Fin.le_def]
    omega
  · intro h0 l
    exact if_neg fun hc => h0 hc.1
  · intro l
    have e : (⟨128 * n.val + l, by omega⟩ : Fin 2048) = ⟨l + 128 * n.val, by omega⟩ := Fin.ext (Nat.add_comm _ _)
    rw [e]
    refine ⟨(if_pos ?_).symm, rfl⟩
    show l.val + 128 * n.val ≤ 128 * n.val + a.val + 128 ∧ 128 * n.val + a.val ≤ l.val + 128 * n.val + 128
    omega
  · intro h0 l
    have e : (⟨128 * min (n.val + 1) 15 + l, by omega⟩ : Fin 2048) = ⟨l + 128 * (n.val + 1), by omega⟩ :=
      Fin.ext (by show 128 * min (n.val + 1) 15 + l.val = l.val + 128 * (n.val + 1); omega)
    rw [e]
    refine ⟨?_, rfl⟩
    refine if_congr ?_ rfl rfl
    show n.val < 15 ∧ l ≤ a ↔ l.val + 128 * (n.val + 1) ≤ 128 * n.val + a.val + 128 ∧ 128 * n.val + a.val ≤ l.val + 128 * (n.val + 1) + 128
    rw [Fin.le_def]
    omega
  · intro h0 l
    exact if_neg fun hc => h0 hc.1

theorem el_eq (c : Dev nD) (hX : ∀ R k, Re (aX m c R k)) (hS : ∀ k, Sc (aS m c k)) (x : FVec Ideal S8192x2560 .bf16) (v : FVec Ideal S8192x6656 .bf16)
    (s : FVec Ideal S16 .f32) (hx : (m ((c : Thread nD τ).loc main_arg0) : FVec Ideal S8192x2560 .bf16) = x)
    (hv : (m ((c : Thread nD τ).loc main_arg1) : FVec Ideal S8192x6656 .bf16) = v) (hs : (m ((c : Thread nD τ).loc main_arg2) : FVec Ideal S16 .f32) = s)
    (R : Fin 8192) (N : Fin 2048) :
    Cert.WinR.o (Cert.WinR.p (Cert.WinR.cc x s)) v (ix2 R N) = el m c R N := by
  unfold el
  rw [krow_eq m c hX _ _ _ _ (hS _), Cert.WinR.o_at]
  unfold rr
  have hi : (⟨128 * ((R : ℕ) % 2048 / 128) + (R : ℕ) % 128, by omega⟩ : Fin 2048) = ⟨R % 2048, by omega⟩ :=
    Fin.ext (by show 128 * ((R : ℕ) % 2048 / 128) + (R : ℕ) % 128 = R % 2048; omega)
  refine Finset.sum_congr rfl fun j _ => congrArg₂ (· * ·) ?_ ?_
  · rw [Cert.WinR.p_at]
    refine congrArg (smR · _) (funext fun j => ?_)
    rw [Cert.WinR.cc_at]
    have h2 : (s (ix1 ⟨N / 512 * 4 + N / 128 % 4, by omega⟩) : EReal) = aS m c ⟨N / 512 * 4 + N / 128 % 4, by omega⟩ := by
      rw [← hs]; rfl
    refine congrArg₂ (row · · j) (funext fun q => ?_) h2
    refine Eq.trans ?_ (congrArg (fun w => msk m c ⟨R / 2048, by omega⟩ ⟨N / 512, by omega⟩ ⟨N / 128 % 4, by omega⟩ w q) hi.symm)
    unfold Cert.WinR.scm msk
    rw [sco_eq m x c hx]
  · rw [← hv]; rfl

theorem algebraic : algebraic_WindowIdeal_WindowRefIdeal_pre_finite_scores := by
  intro m ρ m' ρ' hpre hm
  refine ⟨fun c => res m c, (θ_run _ _ _).mono (fun r h c => ?_) (Cert.WindowIdeal.Value.run_blocks m ρ),
    (θ_run _ _ _).mono (fun r h c => ?_) (Cert.WindowRefIdeal.Value.run m' ρ')⟩
  · exact ⟨(h c).1.trans (final4 m c), (h c).2⟩
  · refine ⟨(h c).1.trans (funext fun i => ?_), (h c).2⟩
    obtain ⟨h0, h1, h2⟩ := hm c
    obtain ⟨hX, hS⟩ := finite m hpre c
    have hi : i = ix2 (i 0) (i 1) := eq_ix2 i
    rw [hi]
    refine (congrFun (Cert.WinR.out0_eq m' c) _).trans ?_
    exact el_eq m c hX hS _ _ _ h0.symm h1.symm h2.symm (i 0) (i 1)

end Cert.WinV

end

end
-- ==== Proof.lean ====
/- The claims about the cross-attention block, the input projections, the merge with the output projection, the expert down
   projection, the memory's projections and the windowed attention: the frames, the idealizations' ledgers, the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.InProj.Frame
public import proofs.«01_k».proof.Proof.Gen.InProjIdeal.Frame
public import proofs.«01_k».proof.Proof.Gen.InProjRefIdeal.Run
public import proofs.«01_k».proof.Proof.Gen.MergeOut.Frame
public import proofs.«01_k».proof.Proof.Gen.MergeOutIdeal.Frame
public import proofs.«01_k».proof.Proof.Gen.MergeOutRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Memory.Frame
public import proofs.«01_k».proof.Proof.Gen.MemoryIdeal.Frame
public import proofs.«01_k».proof.Proof.Gen.MemoryRefIdeal.Run
public import proofs.«01_k».proof.Proof.Gen.Window.Frame
public import proofs.«01_k».proof.Proof.Gen.WindowIdeal.Frame
public import proofs.«01_k».proof.Proof.Gen.WindowIdeal.Value
public import proofs.«01_k».proof.Proof.Gen.WindowRefIdeal.Run
public import proofs.«01_k».proof.Proof.Gen.Pre_finite_scores
public import proofs.«01_k».proof.Proof.Close
public import proofs.«01_k».proof.Proof.InRef
public import proofs.«01_k».proof.Proof.MergeV
public import proofs.«01_k».proof.Proof.DownBlock
public import proofs.«01_k».proof.Proof.MemV
public import proofs.«01_k».proof.Proof.WinD
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem frame_InProj : Cert.quiescent_InProjRefIdeal := fun m ρ _ =>
  (θ_run Cert.InProjRefIdeal.defs _ _).mono
    (fun r h => ⟨fun c => (h c).2.2.2, sem_eq_zero_of_no_sems (by decide) r.2⟩)
    (Cert.InProjRefIdeal.Value.run (F := Ideal) m ρ)

theorem frame_MergeOut : Cert.quiescent_MergeOutRefIdeal := fun m ρ _ =>
  (θ_run Cert.MergeOutRefIdeal.defs _ _).mono
    (fun r h => ⟨fun c => (h c).2, sem_eq_zero_of_no_sems (by decide) r.2⟩)
    (Cert.MergeOutRefIdeal.Value.run (F := Ideal) m ρ)

theorem frame_Down : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

theorem frame_Memory : Cert.quiescent_MemoryRefIdeal := fun m ρ _ =>
  (θ_run Cert.MemoryRefIdeal.defs _ _).mono
    (fun r h => ⟨fun c => (h c).2.2.2.2, sem_eq_zero_of_no_sems (by decide) r.2⟩)
    (Cert.MemoryRefIdeal.Value.run (F := Ideal) m ρ)

theorem frame_Window : Cert.quiescent_WindowRefIdeal := fun m ρ _ =>
  (θ_run Cert.WindowRefIdeal.defs _ _).mono
    (fun r h => ⟨fun c => (h c).2, sem_eq_zero_of_no_sems (by decide) r.2⟩)
    (Cert.WindowRefIdeal.Value.run (F := Ideal) m ρ)

theorem preserved : Cert.preserves_Kernel_KernelIdeal :=
  ⟨IdealRules.bf16_pair.bufferStatement _ _,
    IdealRules.bf16_pair.bufferStatement _ _,
    IdealRules.named_const.statement Cert.KernelIdeal.κ "s" .f32 0x3DB504F3#32 _ rfl,
    IdealRules.bf16_pair.packStatement _,
    IdealRules.bf16_pair.statement _ _,
    IdealRules.named_const.statement Cert.KernelIdeal.κ "mask" .f32 0xF149F2CA#32 _ rfl⟩

theorem preserved_Window : Cert.preserves_Window_WindowIdeal :=
  ⟨IdealRules.named_const.statement Cert.WindowIdeal.κ "log2e" .f32 0x3FB8AA3B#32 _ rfl,
    IdealRules.named_const.statement Cert.WindowIdeal.κ "s" .f32 0x3E0293EE#32 _ rfl,
    IdealRules.named_const.statement Cert.WindowIdeal.κ "mask" .f32 0xF149F2CA#32 _ rfl⟩

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts, Cert.MergeOut.Gen.facts, Cert.MergeOutIdeal.Gen.facts, Cert.MergeOutRefIdeal.Gen.facts,
    Cert.Down.Gen.facts, Cert.DownIdeal.Gen.facts, Cert.DownRefIdeal.Gen.facts,
    Cert.Memory.Gen.facts, Cert.MemoryIdeal.Gen.facts, Cert.MemoryRefIdeal.Gen.facts,
    Cert.Window.Gen.facts, Cert.WindowIdeal.Gen.facts, Cert.WindowRefIdeal.Gen.facts, Cert.Pre_finite.Gen.facts, Cert.Pre_finite_scores.Gen.facts,
    fun m ρ _ => Cert.Kernel.Gen.frame m ρ,
    fun m ρ _ => Cert.KernelIdeal.Gen.frame m ρ,
    fun m ρ _ => Cert.KernelIdeal.Gen.frame m ρ,
    frame_ri,
    fun m ρ _ => frame_ri m ρ trivial,
    fun m ρ _ => Cert.InProj.Gen.frame m ρ,
    fun m ρ _ => Cert.InProjIdeal.Gen.frame m ρ,
    frame_InProj,
    fun m ρ _ => Cert.MergeOut.Gen.frame m ρ,
    fun m ρ _ => Cert.MergeOutIdeal.Gen.frame m ρ,
    frame_MergeOut,
    fun m ρ _ => Cert.Down.Gen.frame m ρ,
    fun m ρ _ => Cert.DownIdeal.Gen.frame m ρ,
    frame_Down,
    fun m ρ _ => Cert.Memory.Gen.frame m ρ,
    fun m ρ _ => Cert.MemoryIdeal.Gen.frame m ρ,
    frame_Memory,
    fun m ρ _ => Cert.Window.Gen.frame m ρ,
    fun m ρ _ => Cert.WindowIdeal.Gen.frame m ρ,
    fun m ρ _ => Cert.WindowIdeal.Gen.frame m ρ,
    frame_Window,
    fun m ρ _ => frame_Window m ρ trivial,
    preserved, Cert.Cross.algebraic,
    trivial, Cert.InV.algebraic,
    trivial, Cert.MergeV.algebraic,
    trivial, Cert.DownV.algebraic,
    trivial, Cert.MemV.algebraic,
    preserved_Window, Cert.WinV.algebraic⟩

end Cert.Proof

end
